-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_finite_ReferenceIdeal.lean ====
abbrev S2x512x768 : Shape := ⟨3, ![2, 512, 768]⟩
abbrev S768x512 : Shape := ⟨2, ![768, 512]⟩
abbrev S2x16384x8x64 : Shape := ⟨4, ![2, 16384, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_

variable [Facts]

def fn {F : FTy → Type} [FloatOps F] (main_arg0 : FVec F S2x512x768 .bf16) (main_arg1 : FVec F S768x512 .bf16) (main_arg2 : FVec F S2x16384x8x64 .bf16) (main_arg3 : FVec F S2x16384x8x64 .bf16) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x16384x8x64 .f32 := (extf .f32 · bitsLt_bf16_f32) main_arg2
  let main_v12 : FVec F S2x16384x8x64 .f32 := Host.absf main_v11
  let main_cst_2 : FVec F S_ .f32 := constant S_ .f32 0x7F800000#32
  let main_v13 : FVec F S2x16384x8x64 .f32 := broadcastInDim S2x16384x8x64 ![] bcast_S_S2x16384x8x64 main_cst_2
  let main_v14 : IVec S2x16384x8x64 1 := cmpf .olt main_v12 main_v13
  let main_c_3 : IVec S_ 1 := constantI S_ 1 1#1
  let main_v15 : IVec S_ 1 := (fun x v => Host.reduce IntOp.andi x v reducesTo_S2x16384x8x64_S_d0_1_2_3 h_S_) main_v14 main_c_3
  let main_v16 : IVec S_ 1 := andi main_v10 main_v15
  main_v16
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x512x512 : Shape := ⟨3, ![2, 512, 512]⟩
abbrev S2x512x640 : Shape := ⟨3, ![2, 512, 640]⟩
abbrev S2x256x640 : Shape := ⟨3, ![2, 256, 640]⟩
abbrev S15x2x16x640 : Shape := ⟨4, ![15, 2, 16, 640]⟩
abbrev S1 : Shape := ⟨1, ![1]⟩
abbrev S15 : Shape := ⟨1, ![15]⟩
abbrev S_ : Shape := ⟨0, ![]⟩
abbrev S1x64x768 : Shape := ⟨3, ![1, 64, 768]⟩
abbrev S64x768 : Shape := ⟨2, ![64, 768]⟩
abbrev S1x64x512 : Shape := ⟨3, ![1, 64, 512]⟩
abbrev S64x512 : Shape := ⟨2, ![64, 512]⟩
abbrev S1x256x768 : Shape := ⟨3, ![1, 256, 768]⟩
abbrev S256x768 : Shape := ⟨2, ![256, 768]⟩
abbrev S256x512 : Shape := ⟨2, ![256, 512]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S128x8 : Shape := ⟨2, ![128, 8]⟩
abbrev S1x128x8 : Shape := ⟨3, ![1, 128, 8]⟩
abbrev S1x2x16x640 : Shape := ⟨4, ![1, 2, 16, 640]⟩
abbrev S2x16x640 : Shape := ⟨3, ![2, 16, 640]⟩
abbrev S1x16x8 : Shape := ⟨3, ![1, 16, 8]⟩
abbrev S16x8 : Shape := ⟨2, ![16, 8]⟩
abbrev S16x8x1 : Shape := ⟨3, ![16, 8, 1]⟩
abbrev S16x8x64 : Shape := ⟨3, ![16, 8, 64]⟩
abbrev S16x512 : Shape := ⟨2, ![16, 512]⟩
abbrev S1x16x512 : Shape := ⟨3, ![1, 16, 512]⟩
abbrev S2x16x512 : Shape := ⟨3, ![2, 16, 512]⟩
abbrev S2x256x512 : Shape := ⟨3, ![2, 256, 512]⟩
abbrev S1x256x512 : Shape := ⟨3, ![1, 256, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x512, .bf16⟩
  | .hbm, ⟨6, _⟩ => ⟨S2x512x512, .bf16⟩
  | .hbm, ⟨7, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x512, .bf16⟩
  | .local _ .vmem, ⟨3, _⟩ => ⟨S2x512x512, .bf16⟩
  | .local _ .vmem, ⟨4, _⟩ => ⟨S512x768, .bf16⟩
  | .local _ .vmem, ⟨5, _⟩ => ⟨S2x512x768, .f32⟩
  | .local _ .vmem, ⟨6, _⟩ => ⟨S2x512x640, .bf16⟩
  | .local _ .vmem, ⟨7, _⟩ => ⟨S2x512x768, .bf16⟩
  | .local _ .vmem, ⟨8, _⟩ => ⟨S2x512x512, .bf16⟩
  | .local _ .vmem, ⟨9, _⟩ => ⟨S2x512x512, .bf16⟩
  | .local _ .vmem, ⟨10, _⟩ => ⟨S2x256x640, .bf16⟩
  | .local _ .vmem, ⟨11, _⟩ => ⟨S15x2x16x640, .bf16⟩
  | .local _ .vmem, ⟨12, _⟩ => ⟨S2x512x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => true
  | ⟨1, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 2 70 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch14 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v10 : BitVec 32 := Scalar.xori v2 c1_i32_4
  let c1_i32_84 : BitVec 32 := 1#32
  let v132 : BitVec 32 := Scalar.muli v10 c1_i32_84
  let v133 : BitVec 32 := Scalar.addi c0_i32 v132
  v133.toNat
def k0_dev2 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c1_i32_5 : BitVec 32 := 1#32
  let v11 : BitVec 32 := Scalar.addi v9 c1_i32_5
  let c15_i32 : BitVec 32 := 15#32
  let v12 : BitVec 32 := Scalar.andi v11 c15_i32
  let c3_i32_6 : BitVec 32 := 3#32
  let v13 : BitVec 32 := Scalar.andi v12 c3_i32_6
  let c1_i32_7 : BitVec 32 := 1#32
  let v14 : BitVec 32 := Scalar.shli v13 c1_i32_7
  let v15 : BitVec 32 := Scalar.ori v3 v14
  let c2_i32_8 : BitVec 32 := 2#32
  let v16 : BitVec 32 := Scalar.shrsi v12 c2_i32_8
  let c3_i32_9 : BitVec 32 := 3#32
  let v17 : BitVec 32 := Scalar.shli v16 c3_i32_9
  let v18 : BitVec 32 := Scalar.ori v15 v17
  let c1_i32_86 : BitVec 32 := 1#32
  let v134 : BitVec 32 := Scalar.muli v18 c1_i32_86
  let v135 : BitVec 32 := Scalar.addi c0_i32_87 v134
  v135.toNat
def k0_dev3 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c2_i32_10 : BitVec 32 := 2#32
  let v19 : BitVec 32 := Scalar.addi v9 c2_i32_10
  let c15_i32_11 : BitVec 32 := 15#32
  let v20 : BitVec 32 := Scalar.andi v19 c15_i32_11
  let c3_i32_12 : BitVec 32 := 3#32
  let v21 : BitVec 32 := Scalar.andi v20 c3_i32_12
  let c1_i32_13 : BitVec 32 := 1#32
  let v22 : BitVec 32 := Scalar.shli v21 c1_i32_13
  let v23 : BitVec 32 := Scalar.ori v3 v22
  let c2_i32_14 : BitVec 32 := 2#32
  let v24 : BitVec 32 := Scalar.shrsi v20 c2_i32_14
  let c3_i32_15 : BitVec 32 := 3#32
  let v25 : BitVec 32 := Scalar.shli v24 c3_i32_15
  let v26 : BitVec 32 := Scalar.ori v23 v25
  let c1_i32_89 : BitVec 32 := 1#32
  let v136 : BitVec 32 := Scalar.muli v26 c1_i32_89
  let v137 : BitVec 32 := Scalar.addi c0_i32_90 v136
  v137.toNat
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c3_i32_16 : BitVec 32 := 3#32
  let v27 : BitVec 32 := Scalar.addi v9 c3_i32_16
  let c15_i32_17 : BitVec 32 := 15#32
  let v28 : BitVec 32 := Scalar.andi v27 c15_i32_17
  let c3_i32_18 : BitVec 32 := 3#32
  let v29 : BitVec 32 := Scalar.andi v28 c3_i32_18
  let c1_i32_19 : BitVec 32 := 1#32
  let v30 : BitVec 32 := Scalar.shli v29 c1_i32_19
  let v31 : BitVec 32 := Scalar.ori v3 v30
  let c2_i32_20 : BitVec 32 := 2#32
  let v32 : BitVec 32 := Scalar.shrsi v28 c2_i32_20
  let c3_i32_21 : BitVec 32 := 3#32
  let v33 : BitVec 32 := Scalar.shli v32 c3_i32_21
  let v34 : BitVec 32 := Scalar.ori v31 v33
  let c1_i32_92 : BitVec 32 := 1#32
  let v138 : BitVec 32 := Scalar.muli v34 c1_i32_92
  let v139 : BitVec 32 := Scalar.addi c0_i32_93 v138
  v139.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c4_i32 : BitVec 32 := 4#32
  let v35 : BitVec 32 := Scalar.addi v9 c4_i32
  let c15_i32_22 : BitVec 32 := 15#32
  let v36 : BitVec 32 := Scalar.andi v35 c15_i32_22
  let c3_i32_23 : BitVec 32 := 3#32
  let v37 : BitVec 32 := Scalar.andi v36 c3_i32_23
  let c1_i32_24 : BitVec 32 := 1#32
  let v38 : BitVec 32 := Scalar.shli v37 c1_i32_24
  let v39 : BitVec 32 := Scalar.ori v3 v38
  let c2_i32_25 : BitVec 32 := 2#32
  let v40 : BitVec 32 := Scalar.shrsi v36 c2_i32_25
  let c3_i32_26 : BitVec 32 := 3#32
  let v41 : BitVec 32 := Scalar.shli v40 c3_i32_26
  let v42 : BitVec 32 := Scalar.ori v39 v41
  let c1_i32_95 : BitVec 32 := 1#32
  let v140 : BitVec 32 := Scalar.muli v42 c1_i32_95
  let v141 : BitVec 32 := Scalar.addi c0_i32_96 v140
  v141.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c5_i32 : BitVec 32 := 5#32
  let v43 : BitVec 32 := Scalar.addi v9 c5_i32
  let c15_i32_27 : BitVec 32 := 15#32
  let v44 : BitVec 32 := Scalar.andi v43 c15_i32_27
  let c3_i32_28 : BitVec 32 := 3#32
  let v45 : BitVec 32 := Scalar.andi v44 c3_i32_28
  let c1_i32_29 : BitVec 32 := 1#32
  let v46 : BitVec 32 := Scalar.shli v45 c1_i32_29
  let v47 : BitVec 32 := Scalar.ori v3 v46
  let c2_i32_30 : BitVec 32 := 2#32
  let v48 : BitVec 32 := Scalar.shrsi v44 c2_i32_30
  let c3_i32_31 : BitVec 32 := 3#32
  let v49 : BitVec 32 := Scalar.shli v48 c3_i32_31
  let v50 : BitVec 32 := Scalar.ori v47 v49
  let c1_i32_98 : BitVec 32 := 1#32
  let v142 : BitVec 32 := Scalar.muli v50 c1_i32_98
  let v143 : BitVec 32 := Scalar.addi c0_i32_99 v142
  v143.toNat
def k0_dev7 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c6_i32 : BitVec 32 := 6#32
  let v51 : BitVec 32 := Scalar.addi v9 c6_i32
  let c15_i32_32 : BitVec 32 := 15#32
  let v52 : BitVec 32 := Scalar.andi v51 c15_i32_32
  let c3_i32_33 : BitVec 32 := 3#32
  let v53 : BitVec 32 := Scalar.andi v52 c3_i32_33
  let c1_i32_34 : BitVec 32 := 1#32
  let v54 : BitVec 32 := Scalar.shli v53 c1_i32_34
  let v55 : BitVec 32 := Scalar.ori v3 v54
  let c2_i32_35 : BitVec 32 := 2#32
  let v56 : BitVec 32 := Scalar.shrsi v52 c2_i32_35
  let c3_i32_36 : BitVec 32 := 3#32
  let v57 : BitVec 32 := Scalar.shli v56 c3_i32_36
  let v58 : BitVec 32 := Scalar.ori v55 v57
  let c1_i32_101 : BitVec 32 := 1#32
  let v144 : BitVec 32 := Scalar.muli v58 c1_i32_101
  let v145 : BitVec 32 := Scalar.addi c0_i32_102 v144
  v145.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c7_i32 : BitVec 32 := 7#32
  let v59 : BitVec 32 := Scalar.addi v9 c7_i32
  let c15_i32_37 : BitVec 32 := 15#32
  let v60 : BitVec 32 := Scalar.andi v59 c15_i32_37
  let c3_i32_38 : BitVec 32 := 3#32
  let v61 : BitVec 32 := Scalar.andi v60 c3_i32_38
  let c1_i32_39 : BitVec 32 := 1#32
  let v62 : BitVec 32 := Scalar.shli v61 c1_i32_39
  let v63 : BitVec 32 := Scalar.ori v3 v62
  let c2_i32_40 : BitVec 32 := 2#32
  let v64 : BitVec 32 := Scalar.shrsi v60 c2_i32_40
  let c3_i32_41 : BitVec 32 := 3#32
  let v65 : BitVec 32 := Scalar.shli v64 c3_i32_41
  let v66 : BitVec 32 := Scalar.ori v63 v65
  let c1_i32_104 : BitVec 32 := 1#32
  let v146 : BitVec 32 := Scalar.muli v66 c1_i32_104
  let v147 : BitVec 32 := Scalar.addi c0_i32_105 v146
  v147.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c8_i32 : BitVec 32 := 8#32
  let v67 : BitVec 32 := Scalar.addi v9 c8_i32
  let c15_i32_42 : BitVec 32 := 15#32
  let v68 : BitVec 32 := Scalar.andi v67 c15_i32_42
  let c3_i32_43 : BitVec 32 := 3#32
  let v69 : BitVec 32 := Scalar.andi v68 c3_i32_43
  let c1_i32_44 : BitVec 32 := 1#32
  let v70 : BitVec 32 := Scalar.shli v69 c1_i32_44
  let v71 : BitVec 32 := Scalar.ori v3 v70
  let c2_i32_45 : BitVec 32 := 2#32
  let v72 : BitVec 32 := Scalar.shrsi v68 c2_i32_45
  let c3_i32_46 : BitVec 32 := 3#32
  let v73 : BitVec 32 := Scalar.shli v72 c3_i32_46
  let v74 : BitVec 32 := Scalar.ori v71 v73
  let c1_i32_107 : BitVec 32 := 1#32
  let v148 : BitVec 32 := Scalar.muli v74 c1_i32_107
  let v149 : BitVec 32 := Scalar.addi c0_i32_108 v148
  v149.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c9_i32 : BitVec 32 := 9#32
  let v75 : BitVec 32 := Scalar.addi v9 c9_i32
  let c15_i32_47 : BitVec 32 := 15#32
  let v76 : BitVec 32 := Scalar.andi v75 c15_i32_47
  let c3_i32_48 : BitVec 32 := 3#32
  let v77 : BitVec 32 := Scalar.andi v76 c3_i32_48
  let c1_i32_49 : BitVec 32 := 1#32
  let v78 : BitVec 32 := Scalar.shli v77 c1_i32_49
  let v79 : BitVec 32 := Scalar.ori v3 v78
  let c2_i32_50 : BitVec 32 := 2#32
  let v80 : BitVec 32 := Scalar.shrsi v76 c2_i32_50
  let c3_i32_51 : BitVec 32 := 3#32
  let v81 : BitVec 32 := Scalar.shli v80 c3_i32_51
  let v82 : BitVec 32 := Scalar.ori v79 v81
  let c1_i32_110 : BitVec 32 := 1#32
  let v150 : BitVec 32 := Scalar.muli v82 c1_i32_110
  let v151 : BitVec 32 := Scalar.addi c0_i32_111 v150
  v151.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c10_i32 : BitVec 32 := 10#32
  let v83 : BitVec 32 := Scalar.addi v9 c10_i32
  let c15_i32_52 : BitVec 32 := 15#32
  let v84 : BitVec 32 := Scalar.andi v83 c15_i32_52
  let c3_i32_53 : BitVec 32 := 3#32
  let v85 : BitVec 32 := Scalar.andi v84 c3_i32_53
  let c1_i32_54 : BitVec 32 := 1#32
  let v86 : BitVec 32 := Scalar.shli v85 c1_i32_54
  let v87 : BitVec 32 := Scalar.ori v3 v86
  let c2_i32_55 : BitVec 32 := 2#32
  let v88 : BitVec 32 := Scalar.shrsi v84 c2_i32_55
  let c3_i32_56 : BitVec 32 := 3#32
  let v89 : BitVec 32 := Scalar.shli v88 c3_i32_56
  let v90 : BitVec 32 := Scalar.ori v87 v89
  let c1_i32_113 : BitVec 32 := 1#32
  let v152 : BitVec 32 := Scalar.muli v90 c1_i32_113
  let v153 : BitVec 32 := Scalar.addi c0_i32_114 v152
  v153.toNat
def k0_dev12 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c11_i32 : BitVec 32 := 11#32
  let v91 : BitVec 32 := Scalar.addi v9 c11_i32
  let c15_i32_57 : BitVec 32 := 15#32
  let v92 : BitVec 32 := Scalar.andi v91 c15_i32_57
  let c3_i32_58 : BitVec 32 := 3#32
  let v93 : BitVec 32 := Scalar.andi v92 c3_i32_58
  let c1_i32_59 : BitVec 32 := 1#32
  let v94 : BitVec 32 := Scalar.shli v93 c1_i32_59
  let v95 : BitVec 32 := Scalar.ori v3 v94
  let c2_i32_60 : BitVec 32 := 2#32
  let v96 : BitVec 32 := Scalar.shrsi v92 c2_i32_60
  let c3_i32_61 : BitVec 32 := 3#32
  let v97 : BitVec 32 := Scalar.shli v96 c3_i32_61
  let v98 : BitVec 32 := Scalar.ori v95 v97
  let c1_i32_116 : BitVec 32 := 1#32
  let v154 : BitVec 32 := Scalar.muli v98 c1_i32_116
  let v155 : BitVec 32 := Scalar.addi c0_i32_117 v154
  v155.toNat
def k0_dev13 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c12_i32 : BitVec 32 := 12#32
  let v99 : BitVec 32 := Scalar.addi v9 c12_i32
  let c15_i32_62 : BitVec 32 := 15#32
  let v100 : BitVec 32 := Scalar.andi v99 c15_i32_62
  let c3_i32_63 : BitVec 32 := 3#32
  let v101 : BitVec 32 := Scalar.andi v100 c3_i32_63
  let c1_i32_64 : BitVec 32 := 1#32
  let v102 : BitVec 32 := Scalar.shli v101 c1_i32_64
  let v103 : BitVec 32 := Scalar.ori v3 v102
  let c2_i32_65 : BitVec 32 := 2#32
  let v104 : BitVec 32 := Scalar.shrsi v100 c2_i32_65
  let c3_i32_66 : BitVec 32 := 3#32
  let v105 : BitVec 32 := Scalar.shli v104 c3_i32_66
  let v106 : BitVec 32 := Scalar.ori v103 v105
  let c1_i32_119 : BitVec 32 := 1#32
  let v156 : BitVec 32 := Scalar.muli v106 c1_i32_119
  let v157 : BitVec 32 := Scalar.addi c0_i32_120 v156
  v157.toNat
def k0_dev14 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c13_i32 : BitVec 32 := 13#32
  let v107 : BitVec 32 := Scalar.addi v9 c13_i32
  let c15_i32_67 : BitVec 32 := 15#32
  let v108 : BitVec 32 := Scalar.andi v107 c15_i32_67
  let c3_i32_68 : BitVec 32 := 3#32
  let v109 : BitVec 32 := Scalar.andi v108 c3_i32_68
  let c1_i32_69 : BitVec 32 := 1#32
  let v110 : BitVec 32 := Scalar.shli v109 c1_i32_69
  let v111 : BitVec 32 := Scalar.ori v3 v110
  let c2_i32_70 : BitVec 32 := 2#32
  let v112 : BitVec 32 := Scalar.shrsi v108 c2_i32_70
  let c3_i32_71 : BitVec 32 := 3#32
  let v113 : BitVec 32 := Scalar.shli v112 c3_i32_71
  let v114 : BitVec 32 := Scalar.ori v111 v113
  let c1_i32_122 : BitVec 32 := 1#32
  let v158 : BitVec 32 := Scalar.muli v114 c1_i32_122
  let v159 : BitVec 32 := Scalar.addi c0_i32_123 v158
  v159.toNat
def k0_dev15 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c14_i32 : BitVec 32 := 14#32
  let v115 : BitVec 32 := Scalar.addi v9 c14_i32
  let c15_i32_72 : BitVec 32 := 15#32
  let v116 : BitVec 32 := Scalar.andi v115 c15_i32_72
  let c3_i32_73 : BitVec 32 := 3#32
  let v117 : BitVec 32 := Scalar.andi v116 c3_i32_73
  let c1_i32_74 : BitVec 32 := 1#32
  let v118 : BitVec 32 := Scalar.shli v117 c1_i32_74
  let v119 : BitVec 32 := Scalar.ori v3 v118
  let c2_i32_75 : BitVec 32 := 2#32
  let v120 : BitVec 32 := Scalar.shrsi v116 c2_i32_75
  let c3_i32_76 : BitVec 32 := 3#32
  let v121 : BitVec 32 := Scalar.shli v120 c3_i32_76
  let v122 : BitVec 32 := Scalar.ori v119 v121
  let c1_i32_125 : BitVec 32 := 1#32
  let v160 : BitVec 32 := Scalar.muli v122 c1_i32_125
  let v161 : BitVec 32 := Scalar.addi c0_i32_126 v160
  v161.toNat
def k0_dev16 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c15_i32_77 : BitVec 32 := 15#32
  let v123 : BitVec 32 := Scalar.addi v9 c15_i32_77
  let c15_i32_78 : BitVec 32 := 15#32
  let v124 : BitVec 32 := Scalar.andi v123 c15_i32_78
  let c3_i32_79 : BitVec 32 := 3#32
  let v125 : BitVec 32 := Scalar.andi v124 c3_i32_79
  let c1_i32_80 : BitVec 32 := 1#32
  let v126 : BitVec 32 := Scalar.shli v125 c1_i32_80
  let v127 : BitVec 32 := Scalar.ori v3 v126
  let c2_i32_81 : BitVec 32 := 2#32
  let v128 : BitVec 32 := Scalar.shrsi v124 c2_i32_81
  let c3_i32_82 : BitVec 32 := 3#32
  let v129 : BitVec 32 := Scalar.shli v128 c3_i32_82
  let v130 : BitVec 32 := Scalar.ori v127 v129
  let c1_i32_128 : BitVec 32 := 1#32
  let v162 : BitVec 32 := Scalar.muli v130 c1_i32_128
  let v163 : BitVec 32 := Scalar.addi c0_i32_129 v162
  v163.toNat
def k0_off1 (d0 : Dev nD) : Fin 3 → Nat :=
  let c0_413 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v409 : Index := Scalar.indexCast v406
  let c0_414 : Index := 0#32
  ![0, v409.toNat, 0]
def k0_off2 (d0 : Dev nD) (c0_i32_415 : BitVec 32) : Fin 3 → Nat :=
  let c0_416 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v416 : Index := Scalar.indexCast v414
  let c0_417 : Index := 0#32
  ![0, v416.toNat, 0]
def k0_off3 (d0 : Dev nD) (c0_i32_415 : BitVec 32) : Fin 3 → Nat :=
  let c0_424 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v430 : Index := Scalar.indexCast v414
  let c0_425 : Index := 0#32
  ![0, v430.toNat, 0]
def k0_off4 (d0 : Dev nD) (c0_i32_415 : BitVec 32) : Fin 3 → Nat :=
  let c0_426 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v435 : Index := Scalar.indexCast v414
  let c64_427 : Index := 64#32
  ![0, v435.toNat, 64]
def k0_off5 (d0 : Dev nD) (c0_i32_415 : BitVec 32) : Fin 3 → Nat :=
  let c0_434 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v449 : Index := Scalar.indexCast v414
  let c64_435 : Index := 64#32
  ![0, v449.toNat, 64]
def k0_off6 (d0 : Dev nD) (c0_i32_415 : BitVec 32) : Fin 3 → Nat :=
  let c0_436 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v454 : Index := Scalar.indexCast v414
  let c128_437 : Index := 128#32
  ![0, v454.toNat, 128]
def k0_off7 (d0 : Dev nD) (c0_i32_415 : BitVec 32) : Fin 3 → Nat :=
  let c0_444 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v468 : Index := Scalar.indexCast v414
  let c128_445 : Index := 128#32
  ![0, v468.toNat, 128]
def k0_off8 (d0 : Dev nD) (c0_i32_415 : BitVec 32) : Fin 3 → Nat :=
  let c0_446 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v473 : Index := Scalar.indexCast v414
  let c192_447 : Index := 192#32
  ![0, v473.toNat, 192]
def k0_off9 (d0 : Dev nD) (c0_i32_415 : BitVec 32) : Fin 3 → Nat :=
  let c0_454 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v487 : Index := Scalar.indexCast v414
  let c192_455 : Index := 192#32
  ![0, v487.toNat, 192]
def k0_off10 (d0 : Dev nD) (c0_i32_415 : BitVec 32) : Fin 3 → Nat :=
  let c0_456 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v492 : Index := Scalar.indexCast v414
  let c256_457 : Index := 256#32
  ![0, v492.toNat, 256]
def k0_off11 (d0 : Dev nD) (c0_i32_415 : BitVec 32) : Fin 3 → Nat :=
  let c0_464 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v506 : Index := Scalar.indexCast v414
  let c256_465 : Index := 256#32
  ![0, v506.toNat, 256]
def k0_off12 (d0 : Dev nD) (c0_i32_415 : BitVec 32) : Fin 3 → Nat :=
  let c0_466 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v511 : Index := Scalar.indexCast v414
  let c320_467 : Index := 320#32
  ![0, v511.toNat, 320]
def k0_off13 (d0 : Dev nD) (c0_i32_415 : BitVec 32) : Fin 3 → Nat :=
  let c0_474 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v525 : Index := Scalar.indexCast v414
  let c320_475 : Index := 320#32
  ![0, v525.toNat, 320]
def k0_off14 (d0 : Dev nD) (c0_i32_415 : BitVec 32) : Fin 3 → Nat :=
  let c0_476 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v530 : Index := Scalar.indexCast v414
  let c384_477 : Index := 384#32
  ![0, v530.toNat, 384]
def k0_off15 (d0 : Dev nD) (c0_i32_415 : BitVec 32) : Fin 3 → Nat :=
  let c0_484 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v544 : Index := Scalar.indexCast v414
  let c384_485 : Index := 384#32
  ![0, v544.toNat, 384]
def k0_off16 (d0 : Dev nD) (c0_i32_415 : BitVec 32) : Fin 3 → Nat :=
  let c0_486 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v549 : Index := Scalar.indexCast v414
  let c448_487 : Index := 448#32
  ![0, v549.toNat, 448]
def k0_off17 (d0 : Dev nD) (c0_i32_415 : BitVec 32) : Fin 3 → Nat :=
  let c0_494 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v563 : Index := Scalar.indexCast v414
  let c448_495 : Index := 448#32
  ![0, v563.toNat, 448]
def k0_off18 (d0 : Dev nD) (c0_i32_415 : BitVec 32) : Fin 3 → Nat :=
  let c0_496 : Index := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v414 : BitVec 32 := Scalar.addi v406 c0_i32_415
  let v577 : Index := Scalar.indexCast v414
  let c512 : Index := 512#32
  ![0, v577.toNat, 512]
def k0_off19 (d0 : Dev nD) : Fin 3 → Nat :=
  let c1_579 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v748 : Index := Scalar.indexCast v406
  let c0_580 : Index := 0#32
  ![1, v748.toNat, 0]
def k0_off20 (d0 : Dev nD) (c0_i32_582 : BitVec 32) : Fin 3 → Nat :=
  let c1_583 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v755 : Index := Scalar.indexCast v753
  let c0_584 : Index := 0#32
  ![1, v755.toNat, 0]
def k0_off21 (d0 : Dev nD) (c0_i32_582 : BitVec 32) : Fin 3 → Nat :=
  let c1_591 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v769 : Index := Scalar.indexCast v753
  let c0_592 : Index := 0#32
  ![1, v769.toNat, 0]
def k0_off22 (d0 : Dev nD) (c0_i32_582 : BitVec 32) : Fin 3 → Nat :=
  let c1_593 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v774 : Index := Scalar.indexCast v753
  let c64_594 : Index := 64#32
  ![1, v774.toNat, 64]
def k0_off23 (d0 : Dev nD) (c0_i32_582 : BitVec 32) : Fin 3 → Nat :=
  let c1_601 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v788 : Index := Scalar.indexCast v753
  let c64_602 : Index := 64#32
  ![1, v788.toNat, 64]
def k0_off24 (d0 : Dev nD) (c0_i32_582 : BitVec 32) : Fin 3 → Nat :=
  let c1_603 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v793 : Index := Scalar.indexCast v753
  let c128_604 : Index := 128#32
  ![1, v793.toNat, 128]
def k0_off25 (d0 : Dev nD) (c0_i32_582 : BitVec 32) : Fin 3 → Nat :=
  let c1_611 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v807 : Index := Scalar.indexCast v753
  let c128_612 : Index := 128#32
  ![1, v807.toNat, 128]
def k0_off26 (d0 : Dev nD) (c0_i32_582 : BitVec 32) : Fin 3 → Nat :=
  let c1_613 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v812 : Index := Scalar.indexCast v753
  let c192_614 : Index := 192#32
  ![1, v812.toNat, 192]
def k0_off27 (d0 : Dev nD) (c0_i32_582 : BitVec 32) : Fin 3 → Nat :=
  let c1_621 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v826 : Index := Scalar.indexCast v753
  let c192_622 : Index := 192#32
  ![1, v826.toNat, 192]
def k0_off28 (d0 : Dev nD) (c0_i32_582 : BitVec 32) : Fin 3 → Nat :=
  let c1_623 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v831 : Index := Scalar.indexCast v753
  let c256_624 : Index := 256#32
  ![1, v831.toNat, 256]
def k0_off29 (d0 : Dev nD) (c0_i32_582 : BitVec 32) : Fin 3 → Nat :=
  let c1_631 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v845 : Index := Scalar.indexCast v753
  let c256_632 : Index := 256#32
  ![1, v845.toNat, 256]
def k0_off30 (d0 : Dev nD) (c0_i32_582 : BitVec 32) : Fin 3 → Nat :=
  let c1_633 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v850 : Index := Scalar.indexCast v753
  let c320_634 : Index := 320#32
  ![1, v850.toNat, 320]
def k0_off31 (d0 : Dev nD) (c0_i32_582 : BitVec 32) : Fin 3 → Nat :=
  let c1_641 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v864 : Index := Scalar.indexCast v753
  let c320_642 : Index := 320#32
  ![1, v864.toNat, 320]
def k0_off32 (d0 : Dev nD) (c0_i32_582 : BitVec 32) : Fin 3 → Nat :=
  let c1_643 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v869 : Index := Scalar.indexCast v753
  let c384_644 : Index := 384#32
  ![1, v869.toNat, 384]
def k0_off33 (d0 : Dev nD) (c0_i32_582 : BitVec 32) : Fin 3 → Nat :=
  let c1_651 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v883 : Index := Scalar.indexCast v753
  let c384_652 : Index := 384#32
  ![1, v883.toNat, 384]
def k0_off34 (d0 : Dev nD) (c0_i32_582 : BitVec 32) : Fin 3 → Nat :=
  let c1_653 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v888 : Index := Scalar.indexCast v753
  let c448_654 : Index := 448#32
  ![1, v888.toNat, 448]
def k0_off35 (d0 : Dev nD) (c0_i32_582 : BitVec 32) : Fin 3 → Nat :=
  let c1_661 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v902 : Index := Scalar.indexCast v753
  let c448_662 : Index := 448#32
  ![1, v902.toNat, 448]
def k0_off36 (d0 : Dev nD) (c0_i32_582 : BitVec 32) : Fin 3 → Nat :=
  let c1_663 : Index := 1#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let v753 : BitVec 32 := Scalar.addi v406 c0_i32_582
  let v916 : Index := Scalar.indexCast v753
  let c512_664 : Index := 512#32
  ![1, v916.toNat, 512]
def k0_off37 (d0 : Dev nD) : Fin 3 → Nat :=
  let c0_i32_752 : BitVec 32 := 0#32
  let c1_i32_409 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let v405 : BitVec 32 := Scalar.subi c1_i32_409 v3
  let c256_i32_410 : BitVec 32 := 256#32
  let v406 : BitVec 32 := Scalar.muli v405 c256_i32_410
  let c0_i32_753 : BitVec 32 := 0#32
  ![0, v406.toNat, 0]
def k0_dev17 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v10 : BitVec 32 := Scalar.xori v2 c1_i32_4
  let c1_i32_750 : BitVec 32 := 1#32
  let v1087 : BitVec 32 := Scalar.muli v10 c1_i32_750
  let v1088 : BitVec 32 := Scalar.addi c0_i32_751 v1087
  v1088.toNat
def k0_off38 (d0 : Dev nD) : Fin 3 → Nat :=
  let c0_754 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1094 : Index := Scalar.indexCast v404
  let c0_755 : Index := 0#32
  ![0, v1094.toNat, 0]
def k0_off39 (d0 : Dev nD) (c0_i32_757 : BitVec 32) : Fin 3 → Nat :=
  let c0_758 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1101 : Index := Scalar.indexCast v1099
  let c0_759 : Index := 0#32
  ![0, v1101.toNat, 0]
def k0_off40 (d0 : Dev nD) (c0_i32_757 : BitVec 32) : Fin 3 → Nat :=
  let c0_766 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1115 : Index := Scalar.indexCast v1099
  let c0_767 : Index := 0#32
  ![0, v1115.toNat, 0]
def k0_off41 (d0 : Dev nD) (c0_i32_757 : BitVec 32) : Fin 3 → Nat :=
  let c0_768 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1120 : Index := Scalar.indexCast v1099
  let c64_769 : Index := 64#32
  ![0, v1120.toNat, 64]
def k0_off42 (d0 : Dev nD) (c0_i32_757 : BitVec 32) : Fin 3 → Nat :=
  let c0_776 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1134 : Index := Scalar.indexCast v1099
  let c64_777 : Index := 64#32
  ![0, v1134.toNat, 64]
def k0_off43 (d0 : Dev nD) (c0_i32_757 : BitVec 32) : Fin 3 → Nat :=
  let c0_778 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1139 : Index := Scalar.indexCast v1099
  let c128_779 : Index := 128#32
  ![0, v1139.toNat, 128]
def k0_off44 (d0 : Dev nD) (c0_i32_757 : BitVec 32) : Fin 3 → Nat :=
  let c0_786 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1153 : Index := Scalar.indexCast v1099
  let c128_787 : Index := 128#32
  ![0, v1153.toNat, 128]
def k0_off45 (d0 : Dev nD) (c0_i32_757 : BitVec 32) : Fin 3 → Nat :=
  let c0_788 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1158 : Index := Scalar.indexCast v1099
  let c192_789 : Index := 192#32
  ![0, v1158.toNat, 192]
def k0_off46 (d0 : Dev nD) (c0_i32_757 : BitVec 32) : Fin 3 → Nat :=
  let c0_796 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1172 : Index := Scalar.indexCast v1099
  let c192_797 : Index := 192#32
  ![0, v1172.toNat, 192]
def k0_off47 (d0 : Dev nD) (c0_i32_757 : BitVec 32) : Fin 3 → Nat :=
  let c0_798 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1177 : Index := Scalar.indexCast v1099
  let c256_799 : Index := 256#32
  ![0, v1177.toNat, 256]
def k0_off48 (d0 : Dev nD) (c0_i32_757 : BitVec 32) : Fin 3 → Nat :=
  let c0_806 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1191 : Index := Scalar.indexCast v1099
  let c256_807 : Index := 256#32
  ![0, v1191.toNat, 256]
def k0_off49 (d0 : Dev nD) (c0_i32_757 : BitVec 32) : Fin 3 → Nat :=
  let c0_808 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1196 : Index := Scalar.indexCast v1099
  let c320_809 : Index := 320#32
  ![0, v1196.toNat, 320]
def k0_off50 (d0 : Dev nD) (c0_i32_757 : BitVec 32) : Fin 3 → Nat :=
  let c0_816 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1210 : Index := Scalar.indexCast v1099
  let c320_817 : Index := 320#32
  ![0, v1210.toNat, 320]
def k0_off51 (d0 : Dev nD) (c0_i32_757 : BitVec 32) : Fin 3 → Nat :=
  let c0_818 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1215 : Index := Scalar.indexCast v1099
  let c384_819 : Index := 384#32
  ![0, v1215.toNat, 384]
def k0_off52 (d0 : Dev nD) (c0_i32_757 : BitVec 32) : Fin 3 → Nat :=
  let c0_826 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1229 : Index := Scalar.indexCast v1099
  let c384_827 : Index := 384#32
  ![0, v1229.toNat, 384]
def k0_off53 (d0 : Dev nD) (c0_i32_757 : BitVec 32) : Fin 3 → Nat :=
  let c0_828 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1234 : Index := Scalar.indexCast v1099
  let c448_829 : Index := 448#32
  ![0, v1234.toNat, 448]
def k0_off54 (d0 : Dev nD) (c0_i32_757 : BitVec 32) : Fin 3 → Nat :=
  let c0_836 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1248 : Index := Scalar.indexCast v1099
  let c448_837 : Index := 448#32
  ![0, v1248.toNat, 448]
def k0_off55 (d0 : Dev nD) (c0_i32_757 : BitVec 32) : Fin 3 → Nat :=
  let c0_838 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1099 : BitVec 32 := Scalar.addi v404 c0_i32_757
  let v1262 : Index := Scalar.indexCast v1099
  let c512_839 : Index := 512#32
  ![0, v1262.toNat, 512]
def k0_off56 (d0 : Dev nD) : Fin 3 → Nat :=
  let c1_923 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1433 : Index := Scalar.indexCast v404
  let c0_924 : Index := 0#32
  ![1, v1433.toNat, 0]
def k0_off57 (d0 : Dev nD) (c0_i32_926 : BitVec 32) : Fin 3 → Nat :=
  let c1_927 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1440 : Index := Scalar.indexCast v1438
  let c0_928 : Index := 0#32
  ![1, v1440.toNat, 0]
def k0_off58 (d0 : Dev nD) (c0_i32_926 : BitVec 32) : Fin 3 → Nat :=
  let c1_935 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1454 : Index := Scalar.indexCast v1438
  let c0_936 : Index := 0#32
  ![1, v1454.toNat, 0]
def k0_off59 (d0 : Dev nD) (c0_i32_926 : BitVec 32) : Fin 3 → Nat :=
  let c1_937 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1459 : Index := Scalar.indexCast v1438
  let c64_938 : Index := 64#32
  ![1, v1459.toNat, 64]
def k0_off60 (d0 : Dev nD) (c0_i32_926 : BitVec 32) : Fin 3 → Nat :=
  let c1_945 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1473 : Index := Scalar.indexCast v1438
  let c64_946 : Index := 64#32
  ![1, v1473.toNat, 64]
def k0_off61 (d0 : Dev nD) (c0_i32_926 : BitVec 32) : Fin 3 → Nat :=
  let c1_947 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1478 : Index := Scalar.indexCast v1438
  let c128_948 : Index := 128#32
  ![1, v1478.toNat, 128]
def k0_off62 (d0 : Dev nD) (c0_i32_926 : BitVec 32) : Fin 3 → Nat :=
  let c1_955 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1492 : Index := Scalar.indexCast v1438
  let c128_956 : Index := 128#32
  ![1, v1492.toNat, 128]
def k0_off63 (d0 : Dev nD) (c0_i32_926 : BitVec 32) : Fin 3 → Nat :=
  let c1_957 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1497 : Index := Scalar.indexCast v1438
  let c192_958 : Index := 192#32
  ![1, v1497.toNat, 192]
def k0_off64 (d0 : Dev nD) (c0_i32_926 : BitVec 32) : Fin 3 → Nat :=
  let c1_965 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1511 : Index := Scalar.indexCast v1438
  let c192_966 : Index := 192#32
  ![1, v1511.toNat, 192]
def k0_off65 (d0 : Dev nD) (c0_i32_926 : BitVec 32) : Fin 3 → Nat :=
  let c1_967 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1516 : Index := Scalar.indexCast v1438
  let c256_968 : Index := 256#32
  ![1, v1516.toNat, 256]
def k0_off66 (d0 : Dev nD) (c0_i32_926 : BitVec 32) : Fin 3 → Nat :=
  let c1_975 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1530 : Index := Scalar.indexCast v1438
  let c256_976 : Index := 256#32
  ![1, v1530.toNat, 256]
def k0_off67 (d0 : Dev nD) (c0_i32_926 : BitVec 32) : Fin 3 → Nat :=
  let c1_977 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1535 : Index := Scalar.indexCast v1438
  let c320_978 : Index := 320#32
  ![1, v1535.toNat, 320]
def k0_off68 (d0 : Dev nD) (c0_i32_926 : BitVec 32) : Fin 3 → Nat :=
  let c1_985 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1549 : Index := Scalar.indexCast v1438
  let c320_986 : Index := 320#32
  ![1, v1549.toNat, 320]
def k0_off69 (d0 : Dev nD) (c0_i32_926 : BitVec 32) : Fin 3 → Nat :=
  let c1_987 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1554 : Index := Scalar.indexCast v1438
  let c384_988 : Index := 384#32
  ![1, v1554.toNat, 384]
def k0_off70 (d0 : Dev nD) (c0_i32_926 : BitVec 32) : Fin 3 → Nat :=
  let c1_995 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1568 : Index := Scalar.indexCast v1438
  let c384_996 : Index := 384#32
  ![1, v1568.toNat, 384]
def k0_off71 (d0 : Dev nD) (c0_i32_926 : BitVec 32) : Fin 3 → Nat :=
  let c1_997 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1573 : Index := Scalar.indexCast v1438
  let c448_998 : Index := 448#32
  ![1, v1573.toNat, 448]
def k0_off72 (d0 : Dev nD) (c0_i32_926 : BitVec 32) : Fin 3 → Nat :=
  let c1_1005 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1587 : Index := Scalar.indexCast v1438
  let c448_1006 : Index := 448#32
  ![1, v1587.toNat, 448]
def k0_off73 (d0 : Dev nD) (c0_i32_926 : BitVec 32) : Fin 3 → Nat :=
  let c1_1007 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1438 : BitVec 32 := Scalar.addi v404 c0_i32_926
  let v1601 : Index := Scalar.indexCast v1438
  let c512_1008 : Index := 512#32
  ![1, v1601.toNat, 512]
def k0_off74 (d0 : Dev nD) : Fin 3 → Nat :=
  let c0_1103 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let v1780 : Index := Scalar.indexCast v404
  let c0_1104 : Index := 0#32
  ![0, v1780.toNat, 0]
def k0_off75 (d0 : Dev nD) (c1_i32_1110 : BitVec 32) : Fin 3 → Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1112 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v1791 : BitVec 32 := Scalar.addi v9 c1_i32_1110
  let c15_i32_1111 : BitVec 32 := 15#32
  let v1792 : BitVec 32 := Scalar.andi v1791 c15_i32_1111
  let v1793 : BitVec 32 := Scalar.muli c16_i32_1112 v1792
  let v1794 : BitVec 32 := Scalar.addi v404 v1793
  let c0_i32_1128 : BitVec 32 := 0#32
  ![0, v1794.toNat, 0]
def k0_dev18 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c1_i32_1113 : BitVec 32 := 1#32
  let v1795 : BitVec 32 := Scalar.addi v9 c1_i32_1113
  let c15_i32_1114 : BitVec 32 := 15#32
  let v1796 : BitVec 32 := Scalar.andi v1795 c15_i32_1114
  let c3_i32_1115 : BitVec 32 := 3#32
  let v1797 : BitVec 32 := Scalar.andi v1796 c3_i32_1115
  let c1_i32_1116 : BitVec 32 := 1#32
  let v1798 : BitVec 32 := Scalar.shli v1797 c1_i32_1116
  let v1799 : BitVec 32 := Scalar.ori v3 v1798
  let c2_i32_1117 : BitVec 32 := 2#32
  let v1800 : BitVec 32 := Scalar.shrsi v1796 c2_i32_1117
  let c3_i32_1118 : BitVec 32 := 3#32
  let v1801 : BitVec 32 := Scalar.shli v1800 c3_i32_1118
  let v1802 : BitVec 32 := Scalar.ori v1799 v1801
  let c1_i32_1122 : BitVec 32 := 1#32
  let v1803 : BitVec 32 := Scalar.muli v1802 c1_i32_1122
  let v1804 : BitVec 32 := Scalar.addi c0_i32_1123 v1803
  v1804.toNat
def k0_dev19 (d0 : Dev nD) : Nat :=
  let c0_i32_1142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c2_i32_1132 : BitVec 32 := 2#32
  let v1816 : BitVec 32 := Scalar.addi v9 c2_i32_1132
  let c15_i32_1133 : BitVec 32 := 15#32
  let v1817 : BitVec 32 := Scalar.andi v1816 c15_i32_1133
  let c3_i32_1134 : BitVec 32 := 3#32
  let v1818 : BitVec 32 := Scalar.andi v1817 c3_i32_1134
  let c1_i32_1135 : BitVec 32 := 1#32
  let v1819 : BitVec 32 := Scalar.shli v1818 c1_i32_1135
  let v1820 : BitVec 32 := Scalar.ori v3 v1819
  let c2_i32_1136 : BitVec 32 := 2#32
  let v1821 : BitVec 32 := Scalar.shrsi v1817 c2_i32_1136
  let c3_i32_1137 : BitVec 32 := 3#32
  let v1822 : BitVec 32 := Scalar.shli v1821 c3_i32_1137
  let v1823 : BitVec 32 := Scalar.ori v1820 v1822
  let c1_i32_1141 : BitVec 32 := 1#32
  let v1824 : BitVec 32 := Scalar.muli v1823 c1_i32_1141
  let v1825 : BitVec 32 := Scalar.addi c0_i32_1142 v1824
  v1825.toNat
def k0_dev20 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c3_i32_1151 : BitVec 32 := 3#32
  let v1837 : BitVec 32 := Scalar.addi v9 c3_i32_1151
  let c15_i32_1152 : BitVec 32 := 15#32
  let v1838 : BitVec 32 := Scalar.andi v1837 c15_i32_1152
  let c3_i32_1153 : BitVec 32 := 3#32
  let v1839 : BitVec 32 := Scalar.andi v1838 c3_i32_1153
  let c1_i32_1154 : BitVec 32 := 1#32
  let v1840 : BitVec 32 := Scalar.shli v1839 c1_i32_1154
  let v1841 : BitVec 32 := Scalar.ori v3 v1840
  let c2_i32_1155 : BitVec 32 := 2#32
  let v1842 : BitVec 32 := Scalar.shrsi v1838 c2_i32_1155
  let c3_i32_1156 : BitVec 32 := 3#32
  let v1843 : BitVec 32 := Scalar.shli v1842 c3_i32_1156
  let v1844 : BitVec 32 := Scalar.ori v1841 v1843
  let c1_i32_1160 : BitVec 32 := 1#32
  let v1845 : BitVec 32 := Scalar.muli v1844 c1_i32_1160
  let v1846 : BitVec 32 := Scalar.addi c0_i32_1161 v1845
  v1846.toNat
def k0_dev21 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c4_i32_1170 : BitVec 32 := 4#32
  let v1858 : BitVec 32 := Scalar.addi v9 c4_i32_1170
  let c15_i32_1171 : BitVec 32 := 15#32
  let v1859 : BitVec 32 := Scalar.andi v1858 c15_i32_1171
  let c3_i32_1172 : BitVec 32 := 3#32
  let v1860 : BitVec 32 := Scalar.andi v1859 c3_i32_1172
  let c1_i32_1173 : BitVec 32 := 1#32
  let v1861 : BitVec 32 := Scalar.shli v1860 c1_i32_1173
  let v1862 : BitVec 32 := Scalar.ori v3 v1861
  let c2_i32_1174 : BitVec 32 := 2#32
  let v1863 : BitVec 32 := Scalar.shrsi v1859 c2_i32_1174
  let c3_i32_1175 : BitVec 32 := 3#32
  let v1864 : BitVec 32 := Scalar.shli v1863 c3_i32_1175
  let v1865 : BitVec 32 := Scalar.ori v1862 v1864
  let c1_i32_1179 : BitVec 32 := 1#32
  let v1866 : BitVec 32 := Scalar.muli v1865 c1_i32_1179
  let v1867 : BitVec 32 := Scalar.addi c0_i32_1180 v1866
  v1867.toNat
def k0_dev22 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c5_i32_1189 : BitVec 32 := 5#32
  let v1879 : BitVec 32 := Scalar.addi v9 c5_i32_1189
  let c15_i32_1190 : BitVec 32 := 15#32
  let v1880 : BitVec 32 := Scalar.andi v1879 c15_i32_1190
  let c3_i32_1191 : BitVec 32 := 3#32
  let v1881 : BitVec 32 := Scalar.andi v1880 c3_i32_1191
  let c1_i32_1192 : BitVec 32 := 1#32
  let v1882 : BitVec 32 := Scalar.shli v1881 c1_i32_1192
  let v1883 : BitVec 32 := Scalar.ori v3 v1882
  let c2_i32_1193 : BitVec 32 := 2#32
  let v1884 : BitVec 32 := Scalar.shrsi v1880 c2_i32_1193
  let c3_i32_1194 : BitVec 32 := 3#32
  let v1885 : BitVec 32 := Scalar.shli v1884 c3_i32_1194
  let v1886 : BitVec 32 := Scalar.ori v1883 v1885
  let c1_i32_1198 : BitVec 32 := 1#32
  let v1887 : BitVec 32 := Scalar.muli v1886 c1_i32_1198
  let v1888 : BitVec 32 := Scalar.addi c0_i32_1199 v1887
  v1888.toNat
def k0_dev23 (d0 : Dev nD) : Nat :=
  let c0_i32_1218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c6_i32_1208 : BitVec 32 := 6#32
  let v1900 : BitVec 32 := Scalar.addi v9 c6_i32_1208
  let c15_i32_1209 : BitVec 32 := 15#32
  let v1901 : BitVec 32 := Scalar.andi v1900 c15_i32_1209
  let c3_i32_1210 : BitVec 32 := 3#32
  let v1902 : BitVec 32 := Scalar.andi v1901 c3_i32_1210
  let c1_i32_1211 : BitVec 32 := 1#32
  let v1903 : BitVec 32 := Scalar.shli v1902 c1_i32_1211
  let v1904 : BitVec 32 := Scalar.ori v3 v1903
  let c2_i32_1212 : BitVec 32 := 2#32
  let v1905 : BitVec 32 := Scalar.shrsi v1901 c2_i32_1212
  let c3_i32_1213 : BitVec 32 := 3#32
  let v1906 : BitVec 32 := Scalar.shli v1905 c3_i32_1213
  let v1907 : BitVec 32 := Scalar.ori v1904 v1906
  let c1_i32_1217 : BitVec 32 := 1#32
  let v1908 : BitVec 32 := Scalar.muli v1907 c1_i32_1217
  let v1909 : BitVec 32 := Scalar.addi c0_i32_1218 v1908
  v1909.toNat
def k0_dev24 (d0 : Dev nD) : Nat :=
  let c0_i32_1237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c7_i32_1227 : BitVec 32 := 7#32
  let v1921 : BitVec 32 := Scalar.addi v9 c7_i32_1227
  let c15_i32_1228 : BitVec 32 := 15#32
  let v1922 : BitVec 32 := Scalar.andi v1921 c15_i32_1228
  let c3_i32_1229 : BitVec 32 := 3#32
  let v1923 : BitVec 32 := Scalar.andi v1922 c3_i32_1229
  let c1_i32_1230 : BitVec 32 := 1#32
  let v1924 : BitVec 32 := Scalar.shli v1923 c1_i32_1230
  let v1925 : BitVec 32 := Scalar.ori v3 v1924
  let c2_i32_1231 : BitVec 32 := 2#32
  let v1926 : BitVec 32 := Scalar.shrsi v1922 c2_i32_1231
  let c3_i32_1232 : BitVec 32 := 3#32
  let v1927 : BitVec 32 := Scalar.shli v1926 c3_i32_1232
  let v1928 : BitVec 32 := Scalar.ori v1925 v1927
  let c1_i32_1236 : BitVec 32 := 1#32
  let v1929 : BitVec 32 := Scalar.muli v1928 c1_i32_1236
  let v1930 : BitVec 32 := Scalar.addi c0_i32_1237 v1929
  v1930.toNat
def k0_dev25 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c8_i32_1246 : BitVec 32 := 8#32
  let v1942 : BitVec 32 := Scalar.addi v9 c8_i32_1246
  let c15_i32_1247 : BitVec 32 := 15#32
  let v1943 : BitVec 32 := Scalar.andi v1942 c15_i32_1247
  let c3_i32_1248 : BitVec 32 := 3#32
  let v1944 : BitVec 32 := Scalar.andi v1943 c3_i32_1248
  let c1_i32_1249 : BitVec 32 := 1#32
  let v1945 : BitVec 32 := Scalar.shli v1944 c1_i32_1249
  let v1946 : BitVec 32 := Scalar.ori v3 v1945
  let c2_i32_1250 : BitVec 32 := 2#32
  let v1947 : BitVec 32 := Scalar.shrsi v1943 c2_i32_1250
  let c3_i32_1251 : BitVec 32 := 3#32
  let v1948 : BitVec 32 := Scalar.shli v1947 c3_i32_1251
  let v1949 : BitVec 32 := Scalar.ori v1946 v1948
  let c1_i32_1255 : BitVec 32 := 1#32
  let v1950 : BitVec 32 := Scalar.muli v1949 c1_i32_1255
  let v1951 : BitVec 32 := Scalar.addi c0_i32_1256 v1950
  v1951.toNat
def k0_dev26 (d0 : Dev nD) : Nat :=
  let c0_i32_1275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c9_i32_1265 : BitVec 32 := 9#32
  let v1963 : BitVec 32 := Scalar.addi v9 c9_i32_1265
  let c15_i32_1266 : BitVec 32 := 15#32
  let v1964 : BitVec 32 := Scalar.andi v1963 c15_i32_1266
  let c3_i32_1267 : BitVec 32 := 3#32
  let v1965 : BitVec 32 := Scalar.andi v1964 c3_i32_1267
  let c1_i32_1268 : BitVec 32 := 1#32
  let v1966 : BitVec 32 := Scalar.shli v1965 c1_i32_1268
  let v1967 : BitVec 32 := Scalar.ori v3 v1966
  let c2_i32_1269 : BitVec 32 := 2#32
  let v1968 : BitVec 32 := Scalar.shrsi v1964 c2_i32_1269
  let c3_i32_1270 : BitVec 32 := 3#32
  let v1969 : BitVec 32 := Scalar.shli v1968 c3_i32_1270
  let v1970 : BitVec 32 := Scalar.ori v1967 v1969
  let c1_i32_1274 : BitVec 32 := 1#32
  let v1971 : BitVec 32 := Scalar.muli v1970 c1_i32_1274
  let v1972 : BitVec 32 := Scalar.addi c0_i32_1275 v1971
  v1972.toNat
def k0_dev27 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c10_i32_1284 : BitVec 32 := 10#32
  let v1984 : BitVec 32 := Scalar.addi v9 c10_i32_1284
  let c15_i32_1285 : BitVec 32 := 15#32
  let v1985 : BitVec 32 := Scalar.andi v1984 c15_i32_1285
  let c3_i32_1286 : BitVec 32 := 3#32
  let v1986 : BitVec 32 := Scalar.andi v1985 c3_i32_1286
  let c1_i32_1287 : BitVec 32 := 1#32
  let v1987 : BitVec 32 := Scalar.shli v1986 c1_i32_1287
  let v1988 : BitVec 32 := Scalar.ori v3 v1987
  let c2_i32_1288 : BitVec 32 := 2#32
  let v1989 : BitVec 32 := Scalar.shrsi v1985 c2_i32_1288
  let c3_i32_1289 : BitVec 32 := 3#32
  let v1990 : BitVec 32 := Scalar.shli v1989 c3_i32_1289
  let v1991 : BitVec 32 := Scalar.ori v1988 v1990
  let c1_i32_1293 : BitVec 32 := 1#32
  let v1992 : BitVec 32 := Scalar.muli v1991 c1_i32_1293
  let v1993 : BitVec 32 := Scalar.addi c0_i32_1294 v1992
  v1993.toNat
def k0_dev28 (d0 : Dev nD) : Nat :=
  let c0_i32_1313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c11_i32_1303 : BitVec 32 := 11#32
  let v2005 : BitVec 32 := Scalar.addi v9 c11_i32_1303
  let c15_i32_1304 : BitVec 32 := 15#32
  let v2006 : BitVec 32 := Scalar.andi v2005 c15_i32_1304
  let c3_i32_1305 : BitVec 32 := 3#32
  let v2007 : BitVec 32 := Scalar.andi v2006 c3_i32_1305
  let c1_i32_1306 : BitVec 32 := 1#32
  let v2008 : BitVec 32 := Scalar.shli v2007 c1_i32_1306
  let v2009 : BitVec 32 := Scalar.ori v3 v2008
  let c2_i32_1307 : BitVec 32 := 2#32
  let v2010 : BitVec 32 := Scalar.shrsi v2006 c2_i32_1307
  let c3_i32_1308 : BitVec 32 := 3#32
  let v2011 : BitVec 32 := Scalar.shli v2010 c3_i32_1308
  let v2012 : BitVec 32 := Scalar.ori v2009 v2011
  let c1_i32_1312 : BitVec 32 := 1#32
  let v2013 : BitVec 32 := Scalar.muli v2012 c1_i32_1312
  let v2014 : BitVec 32 := Scalar.addi c0_i32_1313 v2013
  v2014.toNat
def k0_dev29 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c12_i32_1322 : BitVec 32 := 12#32
  let v2026 : BitVec 32 := Scalar.addi v9 c12_i32_1322
  let c15_i32_1323 : BitVec 32 := 15#32
  let v2027 : BitVec 32 := Scalar.andi v2026 c15_i32_1323
  let c3_i32_1324 : BitVec 32 := 3#32
  let v2028 : BitVec 32 := Scalar.andi v2027 c3_i32_1324
  let c1_i32_1325 : BitVec 32 := 1#32
  let v2029 : BitVec 32 := Scalar.shli v2028 c1_i32_1325
  let v2030 : BitVec 32 := Scalar.ori v3 v2029
  let c2_i32_1326 : BitVec 32 := 2#32
  let v2031 : BitVec 32 := Scalar.shrsi v2027 c2_i32_1326
  let c3_i32_1327 : BitVec 32 := 3#32
  let v2032 : BitVec 32 := Scalar.shli v2031 c3_i32_1327
  let v2033 : BitVec 32 := Scalar.ori v2030 v2032
  let c1_i32_1331 : BitVec 32 := 1#32
  let v2034 : BitVec 32 := Scalar.muli v2033 c1_i32_1331
  let v2035 : BitVec 32 := Scalar.addi c0_i32_1332 v2034
  v2035.toNat
def k0_dev30 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c13_i32_1341 : BitVec 32 := 13#32
  let v2047 : BitVec 32 := Scalar.addi v9 c13_i32_1341
  let c15_i32_1342 : BitVec 32 := 15#32
  let v2048 : BitVec 32 := Scalar.andi v2047 c15_i32_1342
  let c3_i32_1343 : BitVec 32 := 3#32
  let v2049 : BitVec 32 := Scalar.andi v2048 c3_i32_1343
  let c1_i32_1344 : BitVec 32 := 1#32
  let v2050 : BitVec 32 := Scalar.shli v2049 c1_i32_1344
  let v2051 : BitVec 32 := Scalar.ori v3 v2050
  let c2_i32_1345 : BitVec 32 := 2#32
  let v2052 : BitVec 32 := Scalar.shrsi v2048 c2_i32_1345
  let c3_i32_1346 : BitVec 32 := 3#32
  let v2053 : BitVec 32 := Scalar.shli v2052 c3_i32_1346
  let v2054 : BitVec 32 := Scalar.ori v2051 v2053
  let c1_i32_1350 : BitVec 32 := 1#32
  let v2055 : BitVec 32 := Scalar.muli v2054 c1_i32_1350
  let v2056 : BitVec 32 := Scalar.addi c0_i32_1351 v2055
  v2056.toNat
def k0_dev31 (d0 : Dev nD) : Nat :=
  let c0_i32_1370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c14_i32_1360 : BitVec 32 := 14#32
  let v2068 : BitVec 32 := Scalar.addi v9 c14_i32_1360
  let c15_i32_1361 : BitVec 32 := 15#32
  let v2069 : BitVec 32 := Scalar.andi v2068 c15_i32_1361
  let c3_i32_1362 : BitVec 32 := 3#32
  let v2070 : BitVec 32 := Scalar.andi v2069 c3_i32_1362
  let c1_i32_1363 : BitVec 32 := 1#32
  let v2071 : BitVec 32 := Scalar.shli v2070 c1_i32_1363
  let v2072 : BitVec 32 := Scalar.ori v3 v2071
  let c2_i32_1364 : BitVec 32 := 2#32
  let v2073 : BitVec 32 := Scalar.shrsi v2069 c2_i32_1364
  let c3_i32_1365 : BitVec 32 := 3#32
  let v2074 : BitVec 32 := Scalar.shli v2073 c3_i32_1365
  let v2075 : BitVec 32 := Scalar.ori v2072 v2074
  let c1_i32_1369 : BitVec 32 := 1#32
  let v2076 : BitVec 32 := Scalar.muli v2075 c1_i32_1369
  let v2077 : BitVec 32 := Scalar.addi c0_i32_1370 v2076
  v2077.toNat
def k0_dev32 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c15_i32_1379 : BitVec 32 := 15#32
  let v2089 : BitVec 32 := Scalar.addi v9 c15_i32_1379
  let c15_i32_1380 : BitVec 32 := 15#32
  let v2090 : BitVec 32 := Scalar.andi v2089 c15_i32_1380
  let c3_i32_1381 : BitVec 32 := 3#32
  let v2091 : BitVec 32 := Scalar.andi v2090 c3_i32_1381
  let c1_i32_1382 : BitVec 32 := 1#32
  let v2092 : BitVec 32 := Scalar.shli v2091 c1_i32_1382
  let v2093 : BitVec 32 := Scalar.ori v3 v2092
  let c2_i32_1383 : BitVec 32 := 2#32
  let v2094 : BitVec 32 := Scalar.shrsi v2090 c2_i32_1383
  let c3_i32_1384 : BitVec 32 := 3#32
  let v2095 : BitVec 32 := Scalar.shli v2094 c3_i32_1384
  let v2096 : BitVec 32 := Scalar.ori v2093 v2095
  let c1_i32_1388 : BitVec 32 := 1#32
  let v2097 : BitVec 32 := Scalar.muli v2096 c1_i32_1388
  let v2098 : BitVec 32 := Scalar.addi c0_i32_1389 v2097
  v2098.toNat
def k0_off76 (d0 : Dev nD) : Fin 3 → Nat :=
  let c0_1728 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2347 : Index := Scalar.indexCast v2287
  let c0_1729 : Index := 0#32
  ![0, v2347.toNat, 0]
def k0_off77 (d0 : Dev nD) : Fin 3 → Nat :=
  let c0_1732 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2356 : Index := Scalar.indexCast v2287
  let c512_1733 : Index := 512#32
  ![0, v2356.toNat, 512]
def k0_off78 (d0 : Dev nD) : Fin 3 → Nat :=
  let c0_1734 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2364 : Index := Scalar.indexCast v2287
  let c0_1735 : Index := 0#32
  ![0, v2364.toNat, 0]
def k0_off79 (d0 : Dev nD) : Fin 3 → Nat :=
  let c0_1736 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2370 : Index := Scalar.indexCast v2287
  let c0_1737 : Index := 0#32
  ![0, v2370.toNat, 0]
def k0_off80 (d0 : Dev nD) : Fin 3 → Nat :=
  let c1_1738 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2374 : Index := Scalar.indexCast v2287
  let c512_1739 : Index := 512#32
  ![1, v2374.toNat, 512]
def k0_off81 (d0 : Dev nD) : Fin 3 → Nat :=
  let c1_1740 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2382 : Index := Scalar.indexCast v2287
  let c0_1741 : Index := 0#32
  ![1, v2382.toNat, 0]
def k0_off82 (d0 : Dev nD) : Fin 3 → Nat :=
  let c1_1742 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let v2388 : Index := Scalar.indexCast v2287
  let c0_1743 : Index := 0#32
  ![1, v2388.toNat, 0]
def k0_off83 (d0 : Dev nD) : Fin 3 → Nat :=
  let c0_i32_1754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c0_i32_1755 : BitVec 32 := 0#32
  ![0, v2287.toNat, 0]
def k0_dev33 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c1_i32_1744 : BitVec 32 := 1#32
  let v2392 : BitVec 32 := Scalar.addi v9 c1_i32_1744
  let c15_i32_1745 : BitVec 32 := 15#32
  let v2393 : BitVec 32 := Scalar.andi v2392 c15_i32_1745
  let c3_i32_1746 : BitVec 32 := 3#32
  let v2394 : BitVec 32 := Scalar.andi v2393 c3_i32_1746
  let c1_i32_1747 : BitVec 32 := 1#32
  let v2395 : BitVec 32 := Scalar.shli v2394 c1_i32_1747
  let v2396 : BitVec 32 := Scalar.ori v3 v2395
  let c2_i32_1748 : BitVec 32 := 2#32
  let v2397 : BitVec 32 := Scalar.shrsi v2393 c2_i32_1748
  let c3_i32_1749 : BitVec 32 := 3#32
  let v2398 : BitVec 32 := Scalar.shli v2397 c3_i32_1749
  let v2399 : BitVec 32 := Scalar.ori v2396 v2398
  let c1_i32_1752 : BitVec 32 := 1#32
  let v2400 : BitVec 32 := Scalar.muli v2399 c1_i32_1752
  let v2401 : BitVec 32 := Scalar.addi c0_i32_1753 v2400
  v2401.toNat
def k0_dev34 (d0 : Dev nD) : Nat :=
  let c0_i32_1767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c2_i32_1758 : BitVec 32 := 2#32
  let v2408 : BitVec 32 := Scalar.addi v9 c2_i32_1758
  let c15_i32_1759 : BitVec 32 := 15#32
  let v2409 : BitVec 32 := Scalar.andi v2408 c15_i32_1759
  let c3_i32_1760 : BitVec 32 := 3#32
  let v2410 : BitVec 32 := Scalar.andi v2409 c3_i32_1760
  let c1_i32_1761 : BitVec 32 := 1#32
  let v2411 : BitVec 32 := Scalar.shli v2410 c1_i32_1761
  let v2412 : BitVec 32 := Scalar.ori v3 v2411
  let c2_i32_1762 : BitVec 32 := 2#32
  let v2413 : BitVec 32 := Scalar.shrsi v2409 c2_i32_1762
  let c3_i32_1763 : BitVec 32 := 3#32
  let v2414 : BitVec 32 := Scalar.shli v2413 c3_i32_1763
  let v2415 : BitVec 32 := Scalar.ori v2412 v2414
  let c1_i32_1766 : BitVec 32 := 1#32
  let v2416 : BitVec 32 := Scalar.muli v2415 c1_i32_1766
  let v2417 : BitVec 32 := Scalar.addi c0_i32_1767 v2416
  v2417.toNat
def k0_dev35 (d0 : Dev nD) : Nat :=
  let c0_i32_1781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c3_i32_1772 : BitVec 32 := 3#32
  let v2424 : BitVec 32 := Scalar.addi v9 c3_i32_1772
  let c15_i32_1773 : BitVec 32 := 15#32
  let v2425 : BitVec 32 := Scalar.andi v2424 c15_i32_1773
  let c3_i32_1774 : BitVec 32 := 3#32
  let v2426 : BitVec 32 := Scalar.andi v2425 c3_i32_1774
  let c1_i32_1775 : BitVec 32 := 1#32
  let v2427 : BitVec 32 := Scalar.shli v2426 c1_i32_1775
  let v2428 : BitVec 32 := Scalar.ori v3 v2427
  let c2_i32_1776 : BitVec 32 := 2#32
  let v2429 : BitVec 32 := Scalar.shrsi v2425 c2_i32_1776
  let c3_i32_1777 : BitVec 32 := 3#32
  let v2430 : BitVec 32 := Scalar.shli v2429 c3_i32_1777
  let v2431 : BitVec 32 := Scalar.ori v2428 v2430
  let c1_i32_1780 : BitVec 32 := 1#32
  let v2432 : BitVec 32 := Scalar.muli v2431 c1_i32_1780
  let v2433 : BitVec 32 := Scalar.addi c0_i32_1781 v2432
  v2433.toNat
def k0_dev36 (d0 : Dev nD) : Nat :=
  let c0_i32_1795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c4_i32_1786 : BitVec 32 := 4#32
  let v2440 : BitVec 32 := Scalar.addi v9 c4_i32_1786
  let c15_i32_1787 : BitVec 32 := 15#32
  let v2441 : BitVec 32 := Scalar.andi v2440 c15_i32_1787
  let c3_i32_1788 : BitVec 32 := 3#32
  let v2442 : BitVec 32 := Scalar.andi v2441 c3_i32_1788
  let c1_i32_1789 : BitVec 32 := 1#32
  let v2443 : BitVec 32 := Scalar.shli v2442 c1_i32_1789
  let v2444 : BitVec 32 := Scalar.ori v3 v2443
  let c2_i32_1790 : BitVec 32 := 2#32
  let v2445 : BitVec 32 := Scalar.shrsi v2441 c2_i32_1790
  let c3_i32_1791 : BitVec 32 := 3#32
  let v2446 : BitVec 32 := Scalar.shli v2445 c3_i32_1791
  let v2447 : BitVec 32 := Scalar.ori v2444 v2446
  let c1_i32_1794 : BitVec 32 := 1#32
  let v2448 : BitVec 32 := Scalar.muli v2447 c1_i32_1794
  let v2449 : BitVec 32 := Scalar.addi c0_i32_1795 v2448
  v2449.toNat
def k0_dev37 (d0 : Dev nD) : Nat :=
  let c0_i32_1809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c5_i32_1800 : BitVec 32 := 5#32
  let v2456 : BitVec 32 := Scalar.addi v9 c5_i32_1800
  let c15_i32_1801 : BitVec 32 := 15#32
  let v2457 : BitVec 32 := Scalar.andi v2456 c15_i32_1801
  let c3_i32_1802 : BitVec 32 := 3#32
  let v2458 : BitVec 32 := Scalar.andi v2457 c3_i32_1802
  let c1_i32_1803 : BitVec 32 := 1#32
  let v2459 : BitVec 32 := Scalar.shli v2458 c1_i32_1803
  let v2460 : BitVec 32 := Scalar.ori v3 v2459
  let c2_i32_1804 : BitVec 32 := 2#32
  let v2461 : BitVec 32 := Scalar.shrsi v2457 c2_i32_1804
  let c3_i32_1805 : BitVec 32 := 3#32
  let v2462 : BitVec 32 := Scalar.shli v2461 c3_i32_1805
  let v2463 : BitVec 32 := Scalar.ori v2460 v2462
  let c1_i32_1808 : BitVec 32 := 1#32
  let v2464 : BitVec 32 := Scalar.muli v2463 c1_i32_1808
  let v2465 : BitVec 32 := Scalar.addi c0_i32_1809 v2464
  v2465.toNat
def k0_dev38 (d0 : Dev nD) : Nat :=
  let c0_i32_1823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c6_i32_1814 : BitVec 32 := 6#32
  let v2472 : BitVec 32 := Scalar.addi v9 c6_i32_1814
  let c15_i32_1815 : BitVec 32 := 15#32
  let v2473 : BitVec 32 := Scalar.andi v2472 c15_i32_1815
  let c3_i32_1816 : BitVec 32 := 3#32
  let v2474 : BitVec 32 := Scalar.andi v2473 c3_i32_1816
  let c1_i32_1817 : BitVec 32 := 1#32
  let v2475 : BitVec 32 := Scalar.shli v2474 c1_i32_1817
  let v2476 : BitVec 32 := Scalar.ori v3 v2475
  let c2_i32_1818 : BitVec 32 := 2#32
  let v2477 : BitVec 32 := Scalar.shrsi v2473 c2_i32_1818
  let c3_i32_1819 : BitVec 32 := 3#32
  let v2478 : BitVec 32 := Scalar.shli v2477 c3_i32_1819
  let v2479 : BitVec 32 := Scalar.ori v2476 v2478
  let c1_i32_1822 : BitVec 32 := 1#32
  let v2480 : BitVec 32 := Scalar.muli v2479 c1_i32_1822
  let v2481 : BitVec 32 := Scalar.addi c0_i32_1823 v2480
  v2481.toNat
def k0_dev39 (d0 : Dev nD) : Nat :=
  let c0_i32_1837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c7_i32_1828 : BitVec 32 := 7#32
  let v2488 : BitVec 32 := Scalar.addi v9 c7_i32_1828
  let c15_i32_1829 : BitVec 32 := 15#32
  let v2489 : BitVec 32 := Scalar.andi v2488 c15_i32_1829
  let c3_i32_1830 : BitVec 32 := 3#32
  let v2490 : BitVec 32 := Scalar.andi v2489 c3_i32_1830
  let c1_i32_1831 : BitVec 32 := 1#32
  let v2491 : BitVec 32 := Scalar.shli v2490 c1_i32_1831
  let v2492 : BitVec 32 := Scalar.ori v3 v2491
  let c2_i32_1832 : BitVec 32 := 2#32
  let v2493 : BitVec 32 := Scalar.shrsi v2489 c2_i32_1832
  let c3_i32_1833 : BitVec 32 := 3#32
  let v2494 : BitVec 32 := Scalar.shli v2493 c3_i32_1833
  let v2495 : BitVec 32 := Scalar.ori v2492 v2494
  let c1_i32_1836 : BitVec 32 := 1#32
  let v2496 : BitVec 32 := Scalar.muli v2495 c1_i32_1836
  let v2497 : BitVec 32 := Scalar.addi c0_i32_1837 v2496
  v2497.toNat
def k0_dev40 (d0 : Dev nD) : Nat :=
  let c0_i32_1851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c8_i32_1842 : BitVec 32 := 8#32
  let v2504 : BitVec 32 := Scalar.addi v9 c8_i32_1842
  let c15_i32_1843 : BitVec 32 := 15#32
  let v2505 : BitVec 32 := Scalar.andi v2504 c15_i32_1843
  let c3_i32_1844 : BitVec 32 := 3#32
  let v2506 : BitVec 32 := Scalar.andi v2505 c3_i32_1844
  let c1_i32_1845 : BitVec 32 := 1#32
  let v2507 : BitVec 32 := Scalar.shli v2506 c1_i32_1845
  let v2508 : BitVec 32 := Scalar.ori v3 v2507
  let c2_i32_1846 : BitVec 32 := 2#32
  let v2509 : BitVec 32 := Scalar.shrsi v2505 c2_i32_1846
  let c3_i32_1847 : BitVec 32 := 3#32
  let v2510 : BitVec 32 := Scalar.shli v2509 c3_i32_1847
  let v2511 : BitVec 32 := Scalar.ori v2508 v2510
  let c1_i32_1850 : BitVec 32 := 1#32
  let v2512 : BitVec 32 := Scalar.muli v2511 c1_i32_1850
  let v2513 : BitVec 32 := Scalar.addi c0_i32_1851 v2512
  v2513.toNat
def k0_dev41 (d0 : Dev nD) : Nat :=
  let c0_i32_1865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c9_i32_1856 : BitVec 32 := 9#32
  let v2520 : BitVec 32 := Scalar.addi v9 c9_i32_1856
  let c15_i32_1857 : BitVec 32 := 15#32
  let v2521 : BitVec 32 := Scalar.andi v2520 c15_i32_1857
  let c3_i32_1858 : BitVec 32 := 3#32
  let v2522 : BitVec 32 := Scalar.andi v2521 c3_i32_1858
  let c1_i32_1859 : BitVec 32 := 1#32
  let v2523 : BitVec 32 := Scalar.shli v2522 c1_i32_1859
  let v2524 : BitVec 32 := Scalar.ori v3 v2523
  let c2_i32_1860 : BitVec 32 := 2#32
  let v2525 : BitVec 32 := Scalar.shrsi v2521 c2_i32_1860
  let c3_i32_1861 : BitVec 32 := 3#32
  let v2526 : BitVec 32 := Scalar.shli v2525 c3_i32_1861
  let v2527 : BitVec 32 := Scalar.ori v2524 v2526
  let c1_i32_1864 : BitVec 32 := 1#32
  let v2528 : BitVec 32 := Scalar.muli v2527 c1_i32_1864
  let v2529 : BitVec 32 := Scalar.addi c0_i32_1865 v2528
  v2529.toNat
def k0_dev42 (d0 : Dev nD) : Nat :=
  let c0_i32_1879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c10_i32_1870 : BitVec 32 := 10#32
  let v2536 : BitVec 32 := Scalar.addi v9 c10_i32_1870
  let c15_i32_1871 : BitVec 32 := 15#32
  let v2537 : BitVec 32 := Scalar.andi v2536 c15_i32_1871
  let c3_i32_1872 : BitVec 32 := 3#32
  let v2538 : BitVec 32 := Scalar.andi v2537 c3_i32_1872
  let c1_i32_1873 : BitVec 32 := 1#32
  let v2539 : BitVec 32 := Scalar.shli v2538 c1_i32_1873
  let v2540 : BitVec 32 := Scalar.ori v3 v2539
  let c2_i32_1874 : BitVec 32 := 2#32
  let v2541 : BitVec 32 := Scalar.shrsi v2537 c2_i32_1874
  let c3_i32_1875 : BitVec 32 := 3#32
  let v2542 : BitVec 32 := Scalar.shli v2541 c3_i32_1875
  let v2543 : BitVec 32 := Scalar.ori v2540 v2542
  let c1_i32_1878 : BitVec 32 := 1#32
  let v2544 : BitVec 32 := Scalar.muli v2543 c1_i32_1878
  let v2545 : BitVec 32 := Scalar.addi c0_i32_1879 v2544
  v2545.toNat
def k0_dev43 (d0 : Dev nD) : Nat :=
  let c0_i32_1893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c11_i32_1884 : BitVec 32 := 11#32
  let v2552 : BitVec 32 := Scalar.addi v9 c11_i32_1884
  let c15_i32_1885 : BitVec 32 := 15#32
  let v2553 : BitVec 32 := Scalar.andi v2552 c15_i32_1885
  let c3_i32_1886 : BitVec 32 := 3#32
  let v2554 : BitVec 32 := Scalar.andi v2553 c3_i32_1886
  let c1_i32_1887 : BitVec 32 := 1#32
  let v2555 : BitVec 32 := Scalar.shli v2554 c1_i32_1887
  let v2556 : BitVec 32 := Scalar.ori v3 v2555
  let c2_i32_1888 : BitVec 32 := 2#32
  let v2557 : BitVec 32 := Scalar.shrsi v2553 c2_i32_1888
  let c3_i32_1889 : BitVec 32 := 3#32
  let v2558 : BitVec 32 := Scalar.shli v2557 c3_i32_1889
  let v2559 : BitVec 32 := Scalar.ori v2556 v2558
  let c1_i32_1892 : BitVec 32 := 1#32
  let v2560 : BitVec 32 := Scalar.muli v2559 c1_i32_1892
  let v2561 : BitVec 32 := Scalar.addi c0_i32_1893 v2560
  v2561.toNat
def k0_dev44 (d0 : Dev nD) : Nat :=
  let c0_i32_1907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c12_i32_1898 : BitVec 32 := 12#32
  let v2568 : BitVec 32 := Scalar.addi v9 c12_i32_1898
  let c15_i32_1899 : BitVec 32 := 15#32
  let v2569 : BitVec 32 := Scalar.andi v2568 c15_i32_1899
  let c3_i32_1900 : BitVec 32 := 3#32
  let v2570 : BitVec 32 := Scalar.andi v2569 c3_i32_1900
  let c1_i32_1901 : BitVec 32 := 1#32
  let v2571 : BitVec 32 := Scalar.shli v2570 c1_i32_1901
  let v2572 : BitVec 32 := Scalar.ori v3 v2571
  let c2_i32_1902 : BitVec 32 := 2#32
  let v2573 : BitVec 32 := Scalar.shrsi v2569 c2_i32_1902
  let c3_i32_1903 : BitVec 32 := 3#32
  let v2574 : BitVec 32 := Scalar.shli v2573 c3_i32_1903
  let v2575 : BitVec 32 := Scalar.ori v2572 v2574
  let c1_i32_1906 : BitVec 32 := 1#32
  let v2576 : BitVec 32 := Scalar.muli v2575 c1_i32_1906
  let v2577 : BitVec 32 := Scalar.addi c0_i32_1907 v2576
  v2577.toNat
def k0_dev45 (d0 : Dev nD) : Nat :=
  let c0_i32_1921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c13_i32_1912 : BitVec 32 := 13#32
  let v2584 : BitVec 32 := Scalar.addi v9 c13_i32_1912
  let c15_i32_1913 : BitVec 32 := 15#32
  let v2585 : BitVec 32 := Scalar.andi v2584 c15_i32_1913
  let c3_i32_1914 : BitVec 32 := 3#32
  let v2586 : BitVec 32 := Scalar.andi v2585 c3_i32_1914
  let c1_i32_1915 : BitVec 32 := 1#32
  let v2587 : BitVec 32 := Scalar.shli v2586 c1_i32_1915
  let v2588 : BitVec 32 := Scalar.ori v3 v2587
  let c2_i32_1916 : BitVec 32 := 2#32
  let v2589 : BitVec 32 := Scalar.shrsi v2585 c2_i32_1916
  let c3_i32_1917 : BitVec 32 := 3#32
  let v2590 : BitVec 32 := Scalar.shli v2589 c3_i32_1917
  let v2591 : BitVec 32 := Scalar.ori v2588 v2590
  let c1_i32_1920 : BitVec 32 := 1#32
  let v2592 : BitVec 32 := Scalar.muli v2591 c1_i32_1920
  let v2593 : BitVec 32 := Scalar.addi c0_i32_1921 v2592
  v2593.toNat
def k0_dev46 (d0 : Dev nD) : Nat :=
  let c0_i32_1935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c14_i32_1926 : BitVec 32 := 14#32
  let v2600 : BitVec 32 := Scalar.addi v9 c14_i32_1926
  let c15_i32_1927 : BitVec 32 := 15#32
  let v2601 : BitVec 32 := Scalar.andi v2600 c15_i32_1927
  let c3_i32_1928 : BitVec 32 := 3#32
  let v2602 : BitVec 32 := Scalar.andi v2601 c3_i32_1928
  let c1_i32_1929 : BitVec 32 := 1#32
  let v2603 : BitVec 32 := Scalar.shli v2602 c1_i32_1929
  let v2604 : BitVec 32 := Scalar.ori v3 v2603
  let c2_i32_1930 : BitVec 32 := 2#32
  let v2605 : BitVec 32 := Scalar.shrsi v2601 c2_i32_1930
  let c3_i32_1931 : BitVec 32 := 3#32
  let v2606 : BitVec 32 := Scalar.shli v2605 c3_i32_1931
  let v2607 : BitVec 32 := Scalar.ori v2604 v2606
  let c1_i32_1934 : BitVec 32 := 1#32
  let v2608 : BitVec 32 := Scalar.muli v2607 c1_i32_1934
  let v2609 : BitVec 32 := Scalar.addi c0_i32_1935 v2608
  v2609.toNat
def k0_dev47 (d0 : Dev nD) : Nat :=
  let c0_i32_1949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c15_i32_1940 : BitVec 32 := 15#32
  let v2616 : BitVec 32 := Scalar.addi v9 c15_i32_1940
  let c15_i32_1941 : BitVec 32 := 15#32
  let v2617 : BitVec 32 := Scalar.andi v2616 c15_i32_1941
  let c3_i32_1942 : BitVec 32 := 3#32
  let v2618 : BitVec 32 := Scalar.andi v2617 c3_i32_1942
  let c1_i32_1943 : BitVec 32 := 1#32
  let v2619 : BitVec 32 := Scalar.shli v2618 c1_i32_1943
  let v2620 : BitVec 32 := Scalar.ori v3 v2619
  let c2_i32_1944 : BitVec 32 := 2#32
  let v2621 : BitVec 32 := Scalar.shrsi v2617 c2_i32_1944
  let c3_i32_1945 : BitVec 32 := 3#32
  let v2622 : BitVec 32 := Scalar.shli v2621 c3_i32_1945
  let v2623 : BitVec 32 := Scalar.ori v2620 v2622
  let c1_i32_1948 : BitVec 32 := 1#32
  let v2624 : BitVec 32 := Scalar.muli v2623 c1_i32_1948
  let v2625 : BitVec 32 := Scalar.addi c0_i32_1949 v2624
  v2625.toNat
def k0_off84 (d0 : Dev nD) : Fin 3 → Nat :=
  let c0_i32_2184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let c0_i32_2185 : BitVec 32 := 0#32
  ![0, v2783.toNat, 0]
def k0_dev48 (d0 : Dev nD) : Nat :=
  let c0_i32_2183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v10 : BitVec 32 := Scalar.xori v2 c1_i32_4
  let c1_i32_2182 : BitVec 32 := 1#32
  let v2784 : BitVec 32 := Scalar.muli v10 c1_i32_2182
  let v2785 : BitVec 32 := Scalar.addi c0_i32_2183 v2784
  v2785.toNat
def k0_off85 (d0 : Dev nD) : Fin 3 → Nat :=
  let c0_2190 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2794 : Index := Scalar.indexCast v2783
  let c0_2191 : Index := 0#32
  ![0, v2794.toNat, 0]
def k0_off86 (d0 : Dev nD) (c0_i32_2193 : BitVec 32) (c0_i32_2195 : BitVec 32) : Fin 3 → Nat :=
  let c0_2196 : Index := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2798 : BitVec 32 := Scalar.addi v2783 c0_i32_2193
  let c7_i32_2194 : BitVec 32 := 7#32
  let v2799 : BitVec 32 := Scalar.shrsi v2798 c7_i32_2194
  let v2800 : BitVec 32 := Scalar.muli c64_i32 v2799
  let v2801 : BitVec 32 := Scalar.addi v2800 c0_i32_2195
  let v2803 : Index := Scalar.indexCast v2801
  let c0_2197 : Index := 0#32
  ![0, v2803.toNat, 0]
def k0_off86_at (r : Fin 4) : BitVec 32 × BitVec 32 :=
  if r.val < 2 then
    if r.val < 1 then
      (0#32, 0#32)
    else
      (64#32, 256#32)
  else
    if r.val < 3 then
      (128#32, 0#32)
    else
      (192#32, 256#32)
def k0_off87 (d0 : Dev nD) : Fin 3 → Nat :=
  let c1_2215 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2834 : Index := Scalar.indexCast v2783
  let c0_2216 : Index := 0#32
  ![1, v2834.toNat, 0]
def k0_off88 (d0 : Dev nD) (c0_i32_2218 : BitVec 32) (c0_i32_2221 : BitVec 32) : Fin 3 → Nat :=
  let c1_2222 : Index := 1#32
  let c64_i32_2220 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2838 : BitVec 32 := Scalar.addi v2783 c0_i32_2218
  let c7_i32_2219 : BitVec 32 := 7#32
  let v2839 : BitVec 32 := Scalar.shrsi v2838 c7_i32_2219
  let v2840 : BitVec 32 := Scalar.muli c64_i32_2220 v2839
  let v2841 : BitVec 32 := Scalar.addi v2840 c0_i32_2221
  let v2843 : Index := Scalar.indexCast v2841
  let c0_2223 : Index := 0#32
  ![1, v2843.toNat, 0]
def k0_off88_at (r : Fin 4) : BitVec 32 × BitVec 32 :=
  if r.val < 2 then
    if r.val < 1 then
      (0#32, 0#32)
    else
      (64#32, 256#32)
  else
    if r.val < 3 then
      (128#32, 0#32)
    else
      (192#32, 256#32)
def k0_dev49 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c1_i32_5 : BitVec 32 := 1#32
  let v11 : BitVec 32 := Scalar.addi v9 c1_i32_5
  let c15_i32 : BitVec 32 := 15#32
  let v12 : BitVec 32 := Scalar.andi v11 c15_i32
  let c3_i32_6 : BitVec 32 := 3#32
  let v13 : BitVec 32 := Scalar.andi v12 c3_i32_6
  let c1_i32_7 : BitVec 32 := 1#32
  let v14 : BitVec 32 := Scalar.shli v13 c1_i32_7
  let v15 : BitVec 32 := Scalar.ori v3 v14
  let c2_i32_8 : BitVec 32 := 2#32
  let v16 : BitVec 32 := Scalar.shrsi v12 c2_i32_8
  let c3_i32_9 : BitVec 32 := 3#32
  let v17 : BitVec 32 := Scalar.shli v16 c3_i32_9
  let v18 : BitVec 32 := Scalar.ori v15 v17
  let c1_i32_2243 : BitVec 32 := 1#32
  let v2874 : BitVec 32 := Scalar.muli v18 c1_i32_2243
  let v2875 : BitVec 32 := Scalar.addi c0_i32_2244 v2874
  v2875.toNat
def k0_dev50 (d0 : Dev nD) : Nat :=
  let c0_i32_2247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c2_i32_10 : BitVec 32 := 2#32
  let v19 : BitVec 32 := Scalar.addi v9 c2_i32_10
  let c15_i32_11 : BitVec 32 := 15#32
  let v20 : BitVec 32 := Scalar.andi v19 c15_i32_11
  let c3_i32_12 : BitVec 32 := 3#32
  let v21 : BitVec 32 := Scalar.andi v20 c3_i32_12
  let c1_i32_13 : BitVec 32 := 1#32
  let v22 : BitVec 32 := Scalar.shli v21 c1_i32_13
  let v23 : BitVec 32 := Scalar.ori v3 v22
  let c2_i32_14 : BitVec 32 := 2#32
  let v24 : BitVec 32 := Scalar.shrsi v20 c2_i32_14
  let c3_i32_15 : BitVec 32 := 3#32
  let v25 : BitVec 32 := Scalar.shli v24 c3_i32_15
  let v26 : BitVec 32 := Scalar.ori v23 v25
  let c1_i32_2246 : BitVec 32 := 1#32
  let v2876 : BitVec 32 := Scalar.muli v26 c1_i32_2246
  let v2877 : BitVec 32 := Scalar.addi c0_i32_2247 v2876
  v2877.toNat
def k0_dev51 (d0 : Dev nD) : Nat :=
  let c0_i32_2250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c3_i32_16 : BitVec 32 := 3#32
  let v27 : BitVec 32 := Scalar.addi v9 c3_i32_16
  let c15_i32_17 : BitVec 32 := 15#32
  let v28 : BitVec 32 := Scalar.andi v27 c15_i32_17
  let c3_i32_18 : BitVec 32 := 3#32
  let v29 : BitVec 32 := Scalar.andi v28 c3_i32_18
  let c1_i32_19 : BitVec 32 := 1#32
  let v30 : BitVec 32 := Scalar.shli v29 c1_i32_19
  let v31 : BitVec 32 := Scalar.ori v3 v30
  let c2_i32_20 : BitVec 32 := 2#32
  let v32 : BitVec 32 := Scalar.shrsi v28 c2_i32_20
  let c3_i32_21 : BitVec 32 := 3#32
  let v33 : BitVec 32 := Scalar.shli v32 c3_i32_21
  let v34 : BitVec 32 := Scalar.ori v31 v33
  let c1_i32_2249 : BitVec 32 := 1#32
  let v2878 : BitVec 32 := Scalar.muli v34 c1_i32_2249
  let v2879 : BitVec 32 := Scalar.addi c0_i32_2250 v2878
  v2879.toNat
def k0_dev52 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c4_i32 : BitVec 32 := 4#32
  let v35 : BitVec 32 := Scalar.addi v9 c4_i32
  let c15_i32_22 : BitVec 32 := 15#32
  let v36 : BitVec 32 := Scalar.andi v35 c15_i32_22
  let c3_i32_23 : BitVec 32 := 3#32
  let v37 : BitVec 32 := Scalar.andi v36 c3_i32_23
  let c1_i32_24 : BitVec 32 := 1#32
  let v38 : BitVec 32 := Scalar.shli v37 c1_i32_24
  let v39 : BitVec 32 := Scalar.ori v3 v38
  let c2_i32_25 : BitVec 32 := 2#32
  let v40 : BitVec 32 := Scalar.shrsi v36 c2_i32_25
  let c3_i32_26 : BitVec 32 := 3#32
  let v41 : BitVec 32 := Scalar.shli v40 c3_i32_26
  let v42 : BitVec 32 := Scalar.ori v39 v41
  let c1_i32_2252 : BitVec 32 := 1#32
  let v2880 : BitVec 32 := Scalar.muli v42 c1_i32_2252
  let v2881 : BitVec 32 := Scalar.addi c0_i32_2253 v2880
  v2881.toNat
def k0_dev53 (d0 : Dev nD) : Nat :=
  let c0_i32_2256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c5_i32 : BitVec 32 := 5#32
  let v43 : BitVec 32 := Scalar.addi v9 c5_i32
  let c15_i32_27 : BitVec 32 := 15#32
  let v44 : BitVec 32 := Scalar.andi v43 c15_i32_27
  let c3_i32_28 : BitVec 32 := 3#32
  let v45 : BitVec 32 := Scalar.andi v44 c3_i32_28
  let c1_i32_29 : BitVec 32 := 1#32
  let v46 : BitVec 32 := Scalar.shli v45 c1_i32_29
  let v47 : BitVec 32 := Scalar.ori v3 v46
  let c2_i32_30 : BitVec 32 := 2#32
  let v48 : BitVec 32 := Scalar.shrsi v44 c2_i32_30
  let c3_i32_31 : BitVec 32 := 3#32
  let v49 : BitVec 32 := Scalar.shli v48 c3_i32_31
  let v50 : BitVec 32 := Scalar.ori v47 v49
  let c1_i32_2255 : BitVec 32 := 1#32
  let v2882 : BitVec 32 := Scalar.muli v50 c1_i32_2255
  let v2883 : BitVec 32 := Scalar.addi c0_i32_2256 v2882
  v2883.toNat
def k0_dev54 (d0 : Dev nD) : Nat :=
  let c0_i32_2259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c6_i32 : BitVec 32 := 6#32
  let v51 : BitVec 32 := Scalar.addi v9 c6_i32
  let c15_i32_32 : BitVec 32 := 15#32
  let v52 : BitVec 32 := Scalar.andi v51 c15_i32_32
  let c3_i32_33 : BitVec 32 := 3#32
  let v53 : BitVec 32 := Scalar.andi v52 c3_i32_33
  let c1_i32_34 : BitVec 32 := 1#32
  let v54 : BitVec 32 := Scalar.shli v53 c1_i32_34
  let v55 : BitVec 32 := Scalar.ori v3 v54
  let c2_i32_35 : BitVec 32 := 2#32
  let v56 : BitVec 32 := Scalar.shrsi v52 c2_i32_35
  let c3_i32_36 : BitVec 32 := 3#32
  let v57 : BitVec 32 := Scalar.shli v56 c3_i32_36
  let v58 : BitVec 32 := Scalar.ori v55 v57
  let c1_i32_2258 : BitVec 32 := 1#32
  let v2884 : BitVec 32 := Scalar.muli v58 c1_i32_2258
  let v2885 : BitVec 32 := Scalar.addi c0_i32_2259 v2884
  v2885.toNat
def k0_dev55 (d0 : Dev nD) : Nat :=
  let c0_i32_2262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c7_i32 : BitVec 32 := 7#32
  let v59 : BitVec 32 := Scalar.addi v9 c7_i32
  let c15_i32_37 : BitVec 32 := 15#32
  let v60 : BitVec 32 := Scalar.andi v59 c15_i32_37
  let c3_i32_38 : BitVec 32 := 3#32
  let v61 : BitVec 32 := Scalar.andi v60 c3_i32_38
  let c1_i32_39 : BitVec 32 := 1#32
  let v62 : BitVec 32 := Scalar.shli v61 c1_i32_39
  let v63 : BitVec 32 := Scalar.ori v3 v62
  let c2_i32_40 : BitVec 32 := 2#32
  let v64 : BitVec 32 := Scalar.shrsi v60 c2_i32_40
  let c3_i32_41 : BitVec 32 := 3#32
  let v65 : BitVec 32 := Scalar.shli v64 c3_i32_41
  let v66 : BitVec 32 := Scalar.ori v63 v65
  let c1_i32_2261 : BitVec 32 := 1#32
  let v2886 : BitVec 32 := Scalar.muli v66 c1_i32_2261
  let v2887 : BitVec 32 := Scalar.addi c0_i32_2262 v2886
  v2887.toNat
def k0_dev56 (d0 : Dev nD) : Nat :=
  let c0_i32_2265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c8_i32 : BitVec 32 := 8#32
  let v67 : BitVec 32 := Scalar.addi v9 c8_i32
  let c15_i32_42 : BitVec 32 := 15#32
  let v68 : BitVec 32 := Scalar.andi v67 c15_i32_42
  let c3_i32_43 : BitVec 32 := 3#32
  let v69 : BitVec 32 := Scalar.andi v68 c3_i32_43
  let c1_i32_44 : BitVec 32 := 1#32
  let v70 : BitVec 32 := Scalar.shli v69 c1_i32_44
  let v71 : BitVec 32 := Scalar.ori v3 v70
  let c2_i32_45 : BitVec 32 := 2#32
  let v72 : BitVec 32 := Scalar.shrsi v68 c2_i32_45
  let c3_i32_46 : BitVec 32 := 3#32
  let v73 : BitVec 32 := Scalar.shli v72 c3_i32_46
  let v74 : BitVec 32 := Scalar.ori v71 v73
  let c1_i32_2264 : BitVec 32 := 1#32
  let v2888 : BitVec 32 := Scalar.muli v74 c1_i32_2264
  let v2889 : BitVec 32 := Scalar.addi c0_i32_2265 v2888
  v2889.toNat
def k0_dev57 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c9_i32 : BitVec 32 := 9#32
  let v75 : BitVec 32 := Scalar.addi v9 c9_i32
  let c15_i32_47 : BitVec 32 := 15#32
  let v76 : BitVec 32 := Scalar.andi v75 c15_i32_47
  let c3_i32_48 : BitVec 32 := 3#32
  let v77 : BitVec 32 := Scalar.andi v76 c3_i32_48
  let c1_i32_49 : BitVec 32 := 1#32
  let v78 : BitVec 32 := Scalar.shli v77 c1_i32_49
  let v79 : BitVec 32 := Scalar.ori v3 v78
  let c2_i32_50 : BitVec 32 := 2#32
  let v80 : BitVec 32 := Scalar.shrsi v76 c2_i32_50
  let c3_i32_51 : BitVec 32 := 3#32
  let v81 : BitVec 32 := Scalar.shli v80 c3_i32_51
  let v82 : BitVec 32 := Scalar.ori v79 v81
  let c1_i32_2267 : BitVec 32 := 1#32
  let v2890 : BitVec 32 := Scalar.muli v82 c1_i32_2267
  let v2891 : BitVec 32 := Scalar.addi c0_i32_2268 v2890
  v2891.toNat
def k0_dev58 (d0 : Dev nD) : Nat :=
  let c0_i32_2271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c10_i32 : BitVec 32 := 10#32
  let v83 : BitVec 32 := Scalar.addi v9 c10_i32
  let c15_i32_52 : BitVec 32 := 15#32
  let v84 : BitVec 32 := Scalar.andi v83 c15_i32_52
  let c3_i32_53 : BitVec 32 := 3#32
  let v85 : BitVec 32 := Scalar.andi v84 c3_i32_53
  let c1_i32_54 : BitVec 32 := 1#32
  let v86 : BitVec 32 := Scalar.shli v85 c1_i32_54
  let v87 : BitVec 32 := Scalar.ori v3 v86
  let c2_i32_55 : BitVec 32 := 2#32
  let v88 : BitVec 32 := Scalar.shrsi v84 c2_i32_55
  let c3_i32_56 : BitVec 32 := 3#32
  let v89 : BitVec 32 := Scalar.shli v88 c3_i32_56
  let v90 : BitVec 32 := Scalar.ori v87 v89
  let c1_i32_2270 : BitVec 32 := 1#32
  let v2892 : BitVec 32 := Scalar.muli v90 c1_i32_2270
  let v2893 : BitVec 32 := Scalar.addi c0_i32_2271 v2892
  v2893.toNat
def k0_dev59 (d0 : Dev nD) : Nat :=
  let c0_i32_2274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c11_i32 : BitVec 32 := 11#32
  let v91 : BitVec 32 := Scalar.addi v9 c11_i32
  let c15_i32_57 : BitVec 32 := 15#32
  let v92 : BitVec 32 := Scalar.andi v91 c15_i32_57
  let c3_i32_58 : BitVec 32 := 3#32
  let v93 : BitVec 32 := Scalar.andi v92 c3_i32_58
  let c1_i32_59 : BitVec 32 := 1#32
  let v94 : BitVec 32 := Scalar.shli v93 c1_i32_59
  let v95 : BitVec 32 := Scalar.ori v3 v94
  let c2_i32_60 : BitVec 32 := 2#32
  let v96 : BitVec 32 := Scalar.shrsi v92 c2_i32_60
  let c3_i32_61 : BitVec 32 := 3#32
  let v97 : BitVec 32 := Scalar.shli v96 c3_i32_61
  let v98 : BitVec 32 := Scalar.ori v95 v97
  let c1_i32_2273 : BitVec 32 := 1#32
  let v2894 : BitVec 32 := Scalar.muli v98 c1_i32_2273
  let v2895 : BitVec 32 := Scalar.addi c0_i32_2274 v2894
  v2895.toNat
def k0_dev60 (d0 : Dev nD) : Nat :=
  let c0_i32_2277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c12_i32 : BitVec 32 := 12#32
  let v99 : BitVec 32 := Scalar.addi v9 c12_i32
  let c15_i32_62 : BitVec 32 := 15#32
  let v100 : BitVec 32 := Scalar.andi v99 c15_i32_62
  let c3_i32_63 : BitVec 32 := 3#32
  let v101 : BitVec 32 := Scalar.andi v100 c3_i32_63
  let c1_i32_64 : BitVec 32 := 1#32
  let v102 : BitVec 32 := Scalar.shli v101 c1_i32_64
  let v103 : BitVec 32 := Scalar.ori v3 v102
  let c2_i32_65 : BitVec 32 := 2#32
  let v104 : BitVec 32 := Scalar.shrsi v100 c2_i32_65
  let c3_i32_66 : BitVec 32 := 3#32
  let v105 : BitVec 32 := Scalar.shli v104 c3_i32_66
  let v106 : BitVec 32 := Scalar.ori v103 v105
  let c1_i32_2276 : BitVec 32 := 1#32
  let v2896 : BitVec 32 := Scalar.muli v106 c1_i32_2276
  let v2897 : BitVec 32 := Scalar.addi c0_i32_2277 v2896
  v2897.toNat
def k0_dev61 (d0 : Dev nD) : Nat :=
  let c0_i32_2280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c13_i32 : BitVec 32 := 13#32
  let v107 : BitVec 32 := Scalar.addi v9 c13_i32
  let c15_i32_67 : BitVec 32 := 15#32
  let v108 : BitVec 32 := Scalar.andi v107 c15_i32_67
  let c3_i32_68 : BitVec 32 := 3#32
  let v109 : BitVec 32 := Scalar.andi v108 c3_i32_68
  let c1_i32_69 : BitVec 32 := 1#32
  let v110 : BitVec 32 := Scalar.shli v109 c1_i32_69
  let v111 : BitVec 32 := Scalar.ori v3 v110
  let c2_i32_70 : BitVec 32 := 2#32
  let v112 : BitVec 32 := Scalar.shrsi v108 c2_i32_70
  let c3_i32_71 : BitVec 32 := 3#32
  let v113 : BitVec 32 := Scalar.shli v112 c3_i32_71
  let v114 : BitVec 32 := Scalar.ori v111 v113
  let c1_i32_2279 : BitVec 32 := 1#32
  let v2898 : BitVec 32 := Scalar.muli v114 c1_i32_2279
  let v2899 : BitVec 32 := Scalar.addi c0_i32_2280 v2898
  v2899.toNat
def k0_dev62 (d0 : Dev nD) : Nat :=
  let c0_i32_2283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c14_i32 : BitVec 32 := 14#32
  let v115 : BitVec 32 := Scalar.addi v9 c14_i32
  let c15_i32_72 : BitVec 32 := 15#32
  let v116 : BitVec 32 := Scalar.andi v115 c15_i32_72
  let c3_i32_73 : BitVec 32 := 3#32
  let v117 : BitVec 32 := Scalar.andi v116 c3_i32_73
  let c1_i32_74 : BitVec 32 := 1#32
  let v118 : BitVec 32 := Scalar.shli v117 c1_i32_74
  let v119 : BitVec 32 := Scalar.ori v3 v118
  let c2_i32_75 : BitVec 32 := 2#32
  let v120 : BitVec 32 := Scalar.shrsi v116 c2_i32_75
  let c3_i32_76 : BitVec 32 := 3#32
  let v121 : BitVec 32 := Scalar.shli v120 c3_i32_76
  let v122 : BitVec 32 := Scalar.ori v119 v121
  let c1_i32_2282 : BitVec 32 := 1#32
  let v2900 : BitVec 32 := Scalar.muli v122 c1_i32_2282
  let v2901 : BitVec 32 := Scalar.addi c0_i32_2283 v2900
  v2901.toNat
def k0_dev63 (d0 : Dev nD) : Nat :=
  let c0_i32_2286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let c15_i32_77 : BitVec 32 := 15#32
  let v123 : BitVec 32 := Scalar.addi v9 c15_i32_77
  let c15_i32_78 : BitVec 32 := 15#32
  let v124 : BitVec 32 := Scalar.andi v123 c15_i32_78
  let c3_i32_79 : BitVec 32 := 3#32
  let v125 : BitVec 32 := Scalar.andi v124 c3_i32_79
  let c1_i32_80 : BitVec 32 := 1#32
  let v126 : BitVec 32 := Scalar.shli v125 c1_i32_80
  let v127 : BitVec 32 := Scalar.ori v3 v126
  let c2_i32_81 : BitVec 32 := 2#32
  let v128 : BitVec 32 := Scalar.shrsi v124 c2_i32_81
  let c3_i32_82 : BitVec 32 := 3#32
  let v129 : BitVec 32 := Scalar.shli v128 c3_i32_82
  let v130 : BitVec 32 := Scalar.ori v127 v129
  let c1_i32_2285 : BitVec 32 := 1#32
  let v2902 : BitVec 32 := Scalar.muli v130 c1_i32_2285
  let v2903 : BitVec 32 := Scalar.addi c0_i32_2286 v2902
  v2903.toNat
def k0_off89 (d0 : Dev nD) : Fin 3 → Nat :=
  let c0_2303 : Index := 0#32
  let c256_i32_2302 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2914 : BitVec 32 := Scalar.subi c256_i32_2302 v2783
  let v2915 : Index := Scalar.indexCast v2914
  let c0_2304 : Index := 0#32
  ![0, v2915.toNat, 0]
def k0_off90 (d0 : Dev nD) (c0_i32_2306 : BitVec 32) (c0_i32_2309 : BitVec 32) : Fin 3 → Nat :=
  let c0_2310 : Index := 0#32
  let c64_i32_2308 : BitVec 32 := 64#32
  let c256_i32_2302 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2914 : BitVec 32 := Scalar.subi c256_i32_2302 v2783
  let v2919 : BitVec 32 := Scalar.addi v2914 c0_i32_2306
  let c7_i32_2307 : BitVec 32 := 7#32
  let v2920 : BitVec 32 := Scalar.shrsi v2919 c7_i32_2307
  let v2921 : BitVec 32 := Scalar.muli c64_i32_2308 v2920
  let v2922 : BitVec 32 := Scalar.addi v2921 c0_i32_2309
  let v2924 : Index := Scalar.indexCast v2922
  let c0_2311 : Index := 0#32
  ![0, v2924.toNat, 0]
def k0_off90_at (r : Fin 4) : BitVec 32 × BitVec 32 :=
  if r.val < 2 then
    if r.val < 1 then
      (0#32, 0#32)
    else
      (64#32, 256#32)
  else
    if r.val < 3 then
      (128#32, 0#32)
    else
      (192#32, 256#32)
def k0_off91 (d0 : Dev nD) : Fin 3 → Nat :=
  let c1_2330 : Index := 1#32
  let c256_i32_2302 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2914 : BitVec 32 := Scalar.subi c256_i32_2302 v2783
  let v2955 : Index := Scalar.indexCast v2914
  let c0_2331 : Index := 0#32
  ![1, v2955.toNat, 0]
def k0_off92 (d0 : Dev nD) (c0_i32_2333 : BitVec 32) (c0_i32_2336 : BitVec 32) : Fin 3 → Nat :=
  let c1_2337 : Index := 1#32
  let c64_i32_2335 : BitVec 32 := 64#32
  let c256_i32_2302 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c256_i32 : BitVec 32 := 256#32
  let v404 : BitVec 32 := Scalar.muli v3 c256_i32
  let c16_i32_1680 : BitVec 32 := 16#32
  let c3_i32_2 : BitVec 32 := 3#32
  let v6 : BitVec 32 := Scalar.shrsi v2 c3_i32_2
  let c3_i32_3 : BitVec 32 := 3#32
  let v7 : BitVec 32 := Scalar.andi v6 c3_i32_3
  let c2_i32 : BitVec 32 := 2#32
  let v8 : BitVec 32 := Scalar.shli v7 c2_i32
  let c1_i32_1 : BitVec 32 := 1#32
  let v4 : BitVec 32 := Scalar.shrsi v2 c1_i32_1
  let c3_i32 : BitVec 32 := 3#32
  let v5 : BitVec 32 := Scalar.andi v4 c3_i32
  let v9 : BitVec 32 := Scalar.ori v8 v5
  let v2286 : BitVec 32 := Scalar.muli c16_i32_1680 v9
  let v2287 : BitVec 32 := Scalar.addi v404 v2286
  let c16_i32_2179 : BitVec 32 := 16#32
  let v2782 : BitVec 32 := Scalar.muli c16_i32_2179 v9
  let v2783 : BitVec 32 := Scalar.subi v2287 v2782
  let v2914 : BitVec 32 := Scalar.subi c256_i32_2302 v2783
  let v2959 : BitVec 32 := Scalar.addi v2914 c0_i32_2333
  let c7_i32_2334 : BitVec 32 := 7#32
  let v2960 : BitVec 32 := Scalar.shrsi v2959 c7_i32_2334
  let v2961 : BitVec 32 := Scalar.muli c64_i32_2335 v2960
  let v2962 : BitVec 32 := Scalar.addi v2961 c0_i32_2336
  let v2964 : Index := Scalar.indexCast v2962
  let c0_2338 : Index := 0#32
  ![1, v2964.toNat, 0]
def k0_off92_at (r : Fin 4) : BitVec 32 × BitVec 32 :=
  if r.val < 2 then
    if r.val < 1 then
      (0#32, 0#32)
    else
      (64#32, 256#32)
  else
    if r.val < 3 then
      (128#32, 0#32)
    else
      (192#32, 256#32)
def k0_dev64 (d0 : Dev nD) : Nat :=
  let c0_i32_2359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v10 : BitVec 32 := Scalar.xori v2 c1_i32_4
  let c1_i32_2358 : BitVec 32 := 1#32
  let v2995 : BitVec 32 := Scalar.muli v10 c1_i32_2358
  let v2996 : BitVec 32 := Scalar.addi c0_i32_2359 v2995
  v2996.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x16384x8x64 : Shape := ⟨4, ![2, 16384, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S16384 : Shape := ⟨1, ![16384]⟩
abbrev S1x16384 : Shape := ⟨2, ![1, 16384]⟩
abbrev S512x16384 : Shape := ⟨2, ![512, 16384]⟩
abbrev S2x8x512x16384 : Shape := ⟨4, ![2, 8, 512, 16384]⟩
abbrev S1x1x512x16384 : Shape := ⟨4, ![1, 1, 512, 16384]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 142
  | .vmem => 0
  | .smem => 0
  | _ => 0

abbrev hbmTy0_0 (i : Nat) : BufTy := match i % 128 with
  | 0 => ⟨S2x512x768, .bf16⟩
  | 1 => ⟨S768x512, .bf16⟩
  | 2 => ⟨S2x16384x8x64, .bf16⟩
  | 3 => ⟨S2x16384x8x64, .bf16⟩
  | 4 => ⟨S512x768, .bf16⟩
  | 5 => ⟨S2x512x768, .f32⟩
  | 6 => ⟨S768x512, .f32⟩
  | 7 => ⟨S2x16384x8x64, .f32⟩
  | 8 => ⟨S2x16384x8x64, .f32⟩
  | 9 => ⟨S512x768, .f32⟩
  | 10 => ⟨S2x512x512, .f32⟩
  | 11 => ⟨S2x512x8x64, .f32⟩
  | 12 => ⟨S512, .i32⟩
  | 13 => ⟨S_, .i32⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S512, .i32⟩
  | 22 => ⟨S512, .i32⟩
  | 23 => ⟨S_, .i32⟩
  | 24 => ⟨S512, .i32⟩
  | 25 => ⟨S512, .i1⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S16384, .i32⟩
  | 33 => ⟨S_, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i1⟩
  | 41 => ⟨S16384, .i32⟩
  | 42 => ⟨S16384, .i32⟩
  | 43 => ⟨S_, .i32⟩
  | 44 => ⟨S16384, .i32⟩
  | 45 => ⟨S16384, .i1⟩
  | 46 => ⟨S16384, .i1⟩
  | 47 => ⟨S_, .i32⟩
  | 48 => ⟨S16384, .i32⟩
  | 49 => ⟨S16384, .i32⟩
  | 50 => ⟨S16384, .i32⟩
  | 51 => ⟨S1x16384, .i32⟩
  | 52 => ⟨S512x16384, .i32⟩
  | 53 => ⟨S512x16384, .i32⟩
  | 54 => ⟨S512x16384, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x16384, .i32⟩
  | 62 => ⟨S1x16384, .i32⟩
  | 63 => ⟨S_, .i32⟩
  | 64 => ⟨S1x16384, .i32⟩
  | 65 => ⟨S1x16384, .i1⟩
  | 66 => ⟨S_, .i32⟩
  | 67 => ⟨S1x16384, .i32⟩
  | 68 => ⟨S1x16384, .i1⟩
  | 69 => ⟨S_, .i32⟩
  | 70 => ⟨S_, .i1⟩
  | 71 => ⟨S1x16384, .i1⟩
  | 72 => ⟨S1x16384, .i1⟩
  | 73 => ⟨S1x16384, .i1⟩
  | 74 => ⟨S1x16384, .i32⟩
  | 75 => ⟨S1x16384, .i32⟩
  | 76 => ⟨S1x16384, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S512x1, .i32⟩
  | 84 => ⟨S512x1, .i32⟩
  | 85 => ⟨S_, .i32⟩
  | 86 => ⟨S512x1, .i32⟩
  | 87 => ⟨S512x1, .i1⟩
  | 88 => ⟨S_, .i32⟩
  | 89 => ⟨S512x1, .i32⟩
  | 90 => ⟨S512x1, .i1⟩
  | 91 => ⟨S_, .i32⟩
  | 92 => ⟨S_, .i1⟩
  | 93 => ⟨S512x1, .i1⟩
  | 94 => ⟨S512x1, .i1⟩
  | 95 => ⟨S512x1, .i1⟩
  | 96 => ⟨S512x1, .i32⟩
  | 97 => ⟨S512x1, .i32⟩
  | 98 => ⟨S512x1, .i32⟩
  | 99 => ⟨S512x16384, .i32⟩
  | 100 => ⟨S512x16384, .i32⟩
  | 101 => ⟨S512x16384, .i1⟩
  | 102 => ⟨S512x16384, .i1⟩
  | 103 => ⟨S2x8x512x16384, .f32⟩
  | 104 => ⟨S_, .f32⟩
  | 105 => ⟨S2x8x512x16384, .f32⟩
  | 106 => ⟨S2x8x512x16384, .f32⟩
  | 107 => ⟨S1x1x512x16384, .i1⟩
  | 108 => ⟨S_, .f32⟩
  | 109 => ⟨S_, .f32⟩
  | 110 => ⟨S2x8x512x16384, .i1⟩
  | 111 => ⟨S2x8x512x16384, .f32⟩
  | 112 => ⟨S2x8x512x16384, .f32⟩
  | 113 => ⟨S_, .f32⟩
  | 114 => ⟨S2x8x512, .f32⟩
  | 115 => ⟨S2x8x512x1, .f32⟩
  | 116 => ⟨S2x8x512x16384, .f32⟩
  | 117 => ⟨S2x8x512x16384, .f32⟩
  | 118 => ⟨S2x8x512x16384, .f32⟩
  | 119 => ⟨S_, .i1⟩
  | 120 => ⟨S512, .i1⟩
  | 121 => ⟨S1x1x512x1, .i1⟩
  | 122 => ⟨S_, .f32⟩
  | 123 => ⟨S2x8x512, .f32⟩
  | 124 => ⟨S2x8x512x1, .f32⟩
  | 125 => ⟨S_, .f32⟩
  | 126 => ⟨S_, .f32⟩
  | 127 => ⟨S2x8x512x1, .i1⟩
  | _ => ⟨S2x512x768, .bf16⟩

abbrev hbmTy0_1 (i : Nat) : BufTy := match i % 128 with
  | 0 => ⟨S2x8x512x1, .f32⟩
  | 1 => ⟨S2x8x512x1, .f32⟩
  | 2 => ⟨S2x8x512x16384, .f32⟩
  | 3 => ⟨S2x8x512x16384, .f32⟩
  | 4 => ⟨S1x1x512x1, .i1⟩
  | 5 => ⟨S_, .f32⟩
  | 6 => ⟨S_, .f32⟩
  | 7 => ⟨S2x8x512x16384, .i1⟩
  | 8 => ⟨S2x8x512x16384, .f32⟩
  | 9 => ⟨S2x8x512x16384, .f32⟩
  | 10 => ⟨S2x8x64x512, .f32⟩
  | 11 => ⟨S2x512x8x64, .f32⟩
  | 12 => ⟨S2x512x512, .f32⟩
  | 13 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.K.Base.lean ====
/- Common ground of the proof: the resource algebra, the abbreviation for "a buffer agrees with a named
   content wherever a numbering of its elements is below a bound", and the rules for one load or one store
   through a rectangle of a whole buffer stated over that abbreviation. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

/-- The launch library's ghost state beside the protocol's. -/
abbrev UU : Type := UR sig nD τ × URounds (GSem nD τ sig) ℕ

variable {F : FTy → Type} [FloatOps F]

/-- The ghost state of the whole run, over the float values `F`. -/
abbrev MM (F : FTy → Type) [FloatOps F] := MT nD τ sig Unit (Elt F) ℕ UU ℕ

abbrev EP : Emb (UR sig nD τ) (MT nD τ sig Unit (Elt F) ℕ UU ℕ) := embL
abbrev ER : Emb (URounds (GSem nD τ sig) ℕ) (MT nD τ sig Unit (Elt F) ℕ UU ℕ) := embR

/-- No loop of the kernel needs a variant. -/
abbrev 𝒱₀ : Variants := Variants.none

/-- The weakest precondition of a program of the body on device `d`. -/
abbrev bwp {α : Type _} (d : Dev nD) (p : Prog (TpuEff nD τ sig (Elt F) Λ₀ .tc) α) (Q : α → sProp (MM F)) : sProp (MM F) :=
  wp frame (wpE (defs₀ (F := F)) 𝒱₀ (d : Thread nD τ) none) Set.univ p Q

/-- Device `d`'s buffer `b`, its elements in `S`, at contents `f`, share `q`. -/
abbrev pts (d : Dev nD) (b : Ref sig .tc) (S : Finset b.ty.Idx) (q : PosShare TreeShare) (f : b.ty.Contents (Elt F)) : sProp (MM F) :=
  ((d : Thread nD τ).loc b) ↦[S]{q} f

/-- The elements of `S` are owned, and those of number below `n` are known. -/
def upto (d : Dev nD) (b : Ref sig .tc) (S : Finset b.ty.Idx) (q : PosShare TreeShare) (num : b.ty.Idx → ℕ) (n : ℕ)
    (T : b.ty.Contents (Elt F)) : sProp (MM F) :=
  iprop(∃ f : b.ty.Contents (Elt F), ⌜∀ i ∈ S, num i < n → f i = T i⌝ ∗ pts d b S q f)

/-- Knowing less. -/
theorem upto_weaken {d : Dev nD} {b : Ref sig .tc} {S : Finset b.ty.Idx} {q : PosShare TreeShare} {num num' : b.ty.Idx → ℕ} {n n' : ℕ}
    {T T' : b.ty.Contents (Elt F)} (h : ∀ i ∈ S, num' i < n' → num i < n ∧ T i = T' i) :
    upto d b S q num n T ⊢ upto d b S q num' n' T' := by
  unfold upto
  iintro ⟨%f, %hf, H⟩
  iexists f
  isplitr
  · ipureintro; exact fun i hi hn => (hf i hi (h i hi hn).1).trans (h i hi hn).2
  · iexact H

/-- Buffer `i` in the core's near memory, and the whole of it as the kernel names it. -/
abbrev vb (i : Fin (sig.nNear .tc .vmem)) (h : sig.names .tc .vmem i = true) : Ref sig .tc := ⟨.vmem, i, h⟩
abbrev wm (i : Fin (sig.nNear .tc .vmem)) (h : sig.names .tc .vmem i = true) :
    Memref sig .tc .vmem (vb i h).ty.shape (vb i h).ty.elt := Memref.whole (vb i h)

section Rules

variable {α : Type _} {d : Dev nD} {Q : α → sProp (MM F)}

/-- A load through a rectangle whose elements are owned and known. -/
theorem load_known {bi : Fin (sig.nNear .tc .vmem)} {bh : sig.names .tc .vmem bi = true} {S : Finset (vb bi bh).ty.Idx} {q : PosShare TreeShare} {num : (vb bi bh).ty.Idx → ℕ} {n : ℕ}
    {T : (vb bi bh).ty.Contents (Elt F)} {r : LoadRect (vb bi bh).ty.shape} {hl : (wm bi bh).view.LoadsAt r}
    {k : (r.shape.Idx → Elt F (vb bi bh).ty.elt) → Prog (TpuEff nD τ sig (Elt F) Λ₀ .tc) α} (v : r.shape.Idx → Elt F (vb bi bh).ty.elt)
    (hS : ∀ j, r.idx j ∈ S) (hn : ∀ j, num (r.idx j) < n) (hv : ∀ j, T (r.idx j) = v j)
    : upto d (vb bi bh) S q num n T ⊢ (upto d (vb bi bh) S q num n T -∗ bwp d (k v) Q) -∗ bwp d (.op (.load (wm bi bh) r hl) k) Q := by
  unfold upto
  iintro ⟨%f, %hf, H⟩ Hk
  have hval : (wm bi bh).view.readAt (Elt F) r f = v := by
    funext j
    exact (hf (r.idx j) (hS j) (hn j)).trans (hv j)
  iapply (wp_load (defs := defs₀ (F := F)) 𝒱₀ (d : Thread nD τ) none Set.univ (Q := Q) (m := wm bi bh) (r := r) (hl := hl)
    (k := k) (q := q) (f := f) (S := S) (by
      intro i hi
      obtain ⟨x, hx, rfl⟩ := Finset.mem_map.mp hi
      obtain ⟨j, rfl⟩ := r.exists_idx_of_mem hx
      exact hS j)) $$ H
  iintro H
  rw [hval]
  iapply Hk
  iexists f
  isplitr
  · ipureintro; exact hf
  · iexact H

/-- A load through a rectangle whose elements are owned, of a value nothing depends on. -/
theorem load_any {bi : Fin (sig.nNear .tc .vmem)} {bh : sig.names .tc .vmem bi = true} {S : Finset (vb bi bh).ty.Idx} {q : PosShare TreeShare} {num : (vb bi bh).ty.Idx → ℕ} {n : ℕ}
    {T : (vb bi bh).ty.Contents (Elt F)} {r : LoadRect (vb bi bh).ty.shape} {hl : (wm bi bh).view.LoadsAt r}
    {k : (r.shape.Idx → Elt F (vb bi bh).ty.elt) → Prog (TpuEff nD τ sig (Elt F) Λ₀ .tc) α}
    (hS : ∀ j, r.idx j ∈ S)
    : upto d (vb bi bh) S q num n T
      ⊢ (∀ v, ⌜∀ j, num (r.idx j) < n → v j = T (r.idx j)⌝ -∗ upto d (vb bi bh) S q num n T -∗ bwp d (k v) Q)
        -∗ bwp d (.op (.load (wm bi bh) r hl) k) Q := by
  unfold upto
  iintro ⟨%f, %hf, H⟩ Hk
  iapply (wp_load (defs := defs₀ (F := F)) 𝒱₀ (d : Thread nD τ) none Set.univ (Q := Q) (m := wm bi bh) (r := r) (hl := hl)
    (k := k) (q := q) (f := f) (S := S) (by
      intro i hi
      obtain ⟨x, hx, rfl⟩ := Finset.mem_map.mp hi
      obtain ⟨j, rfl⟩ := r.exists_idx_of_mem hx
      exact hS j)) $$ H
  iintro H
  iapply Hk $$ %_ %(fun j hj => hf _ (hS j) hj)
  iexists f
  isplitr
  · ipureintro; exact hf
  · iexact H

/-- A store through a rectangle that holds exactly the elements of number `n`. -/
theorem store_next {bi : Fin (sig.nNear .tc .vmem)} {bh : sig.names .tc .vmem bi = true} {S : Finset (vb bi bh).ty.Idx} {num : (vb bi bh).ty.Idx → ℕ} {n n' : ℕ} (hn' : n' = n + 1)
    {T : (vb bi bh).ty.Contents (Elt F)} {r : Rect (vb bi bh).ty.shape} {w : r.shape.Idx → Elt F (vb bi bh).ty.elt} {hx : ((wm bi bh).access r).Stores Finset.univ}
    {hm : (Finset.univ : Finset r.shape.Idx) = Finset.univ ∨ ∀ a, r.stride a = 1}
    {k : PUnit → Prog (TpuEff nD τ sig (Elt F) Λ₀ .tc) α}
    (hS : ∀ j, r.idx j ∈ S) (hw : ∀ j, num (r.idx j) < n + 1 → w j = T (r.idx j))
    (hn : ∀ i ∈ S, num i = n → i ∈ r.set)
    : upto d (vb bi bh) S fullShare num n T
      ⊢ (upto d (vb bi bh) S fullShare num n' T -∗ bwp d (k ⟨⟩) Q)
        -∗ bwp d (.op (.store (wm bi bh) r w Finset.univ hx hm) k) Q := by
  subst hn'
  unfold upto
  iintro ⟨%f, %hf, H⟩ Hk
  iapply (wp_store (defs := defs₀ (F := F)) 𝒱₀ (d : Thread nD τ) none Set.univ (Q := Q) (m := wm bi bh) (r := r) (w := w) (hx := hx) (hm := hm)
    (k := k) (f := f) (S := S) (by
      intro i hi
      obtain ⟨x, hx, rfl⟩ := Finset.mem_map.mp hi
      exact hS x)) $$ H
  iintro H
  iapply Hk
  iexists (((wm bi bh).access r).write (Elt F) f w Finset.univ)
  isplitr
  · ipureintro
    intro i hi hni
    by_cases h : i ∈ r.set
    · obtain ⟨j, rfl⟩ := r.exists_idx_of_mem h
      exact (View.write_emb_of_mem (v := (wm bi bh).access r) f w (Finset.mem_univ j)).trans (hw j hni)
    · rw [View.write_of_not_mem (v := (wm bi bh).access r) f w Finset.univ (by
        intro hc
        obtain ⟨x, _, rfl⟩ := Finset.mem_map.mp hc
        exact h (r.idx_mem x))]
      exact hf i hi (by
        rcases Nat.lt_succ_iff_lt_or_eq.mp hni with h' | h'
        · exact h'
        · exact absurd (hn i hi h') h)
  · iexact H

end Rules

end Cert.KernelIdeal.Talk
-- ==== Proof.K.Content.lean ====
/- What every buffer of the kernel holds, as functions of the devices' inputs, at natural-number coordinates.
   The kernel runs in five steps: each device permutes its copies of the token rows so that the rows of one mask
   class are adjacent; it forms, for its own block of keys and values, the unnormalised attention rows and their
   row sums (the last eight of 520 columns); the pair (d, d xor 1) adds the halves; the sixteen devices of equal
   parity add their own sixteen rows; the normalised rows are gathered and multiplied by the output weights. -/
module

public import proofs.«01_k».proof.Proof.K.Base

@[expose] public section

noncomputable section

namespace Cert.KernelIdeal.Talk

open Cert.KernelIdeal.Gen
open Idealize.ShloMosaic Idealize.ShloMosaic.TcCoe

variable {F : FTy → Type} [FloatOps F]

/-- The five inputs of the call on every device. -/
structure Ins (F : FTy → Type) where
  x : Dev nD → S2x512x768.Idx → F .bf16
  wq : Dev nD → S768x512.Idx → F .bf16
  k : Dev nD → S2x512x512.Idx → F .bf16
  v : Dev nD → S2x512x512.Idx → F .bf16
  wo : Dev nD → S512x768.Idx → F .bf16

/-- The index of coordinates `a b c`, each reduced into its range. -/
def mk3 (A B C : ℕ) [NeZero A] [NeZero B] [NeZero C] (a b c : ℕ) : (⟨3, ![A, B, C]⟩ : Shape).Idx := fun
  | 0 => (Fin.ofNat A a : Fin A)
  | 1 => (Fin.ofNat B b : Fin B)
  | 2 => (Fin.ofNat C c : Fin C)

/-- The source row of row `r` of a permuted buffer. -/
def perm (r : ℕ) : ℕ := 64 * (r / 64 / 2 + 4 * (r / 64 % 2)) + r % 64

variable (I : Ins F)

/-- The permuted copies of the token rows, the keys and the values. -/
def XP (d : Dev nD) (b r c : ℕ) : F .bf16 := I.x d (mk3 2 512 768 b (perm r) c)
def KP (d : Dev nD) (b r c : ℕ) : F .bf16 := I.k d (mk3 2 512 512 b (perm r) c)
def VP (d : Dev nD) (b r c : ℕ) : F .bf16 := I.v d (mk3 2 512 512 b (perm r) c)

/-- Rows of one batch and one half of the permuted token rows. -/
def xB (d : Dev nD) (b hf : ℕ) : FVec F S1x256x768 .bf16 := fun j => XP I d (b + j 0) (256 * hf + j 1) (j 2)
/-- The queries of one batch and one half. -/
def qB (d : Dev nD) (b hf : ℕ) : FVec F S256x512 .bf16 := k0_pay61 (I.wq d) (xB I d b hf)
/-- The keys and the values of one batch, mask class and head. -/
def kB (d : Dev nD) (b hf r h : ℕ) : FVec F S1x128x64 .bf16 := fun j => KP I d (b + j 0) (256 * hf + 128 * r + j 1) (64 * h + j 2)
def vB (d : Dev nD) (b hf r h : ℕ) : FVec F S1x128x64 .bf16 := fun j => VP I d (b + j 0) (256 * hf + 128 * r + j 1) (64 * h + j 2)

theorem slice_ok (r : Fin 2) (h : Fin 8) : S256x512.Slices ![128 * r.val, 64 * h.val] S128x64 := by
  revert r h; decide

/-- The exponentials of the scores of one batch, mask class and head. -/
def sB (d : Dev nD) (b hf r h : ℕ) : FVec F S128x128 .f32 :=
  exp (mulf (matmul dot_S128x64_S128x64_S128x128_1_1_0_0_n_n none
      (extractStridedSlice S128x64 ![128 * (Fin.ofNat 2 r).val, 64 * (Fin.ofNat 8 h).val] (qB I d b hf) (slice_ok _ _))
      (shapeCast S128x64 (kB I d b hf r h) shapeCasts_S1x128x64_S128x64) (constant S128x128 .f32 0x00000000#32))
    (broadcast S128x128 (Scalar.ofBits .f32 0x3E000000#32)))

/-- The unnormalised rows. -/
def oB (d : Dev nD) (b hf r h : ℕ) : FVec F S1x128x64 .bf16 :=
  shapeCast S1x128x64 (truncf .bf16 (matmul dot_S128x128_S128x64_S128x64_1_0_0_1_n_n none (truncf .bf16 (sB I d b hf r h) bitsLt_bf16_f32)
    (shapeCast S128x64 (vB I d b hf r h) shapeCasts_S1x128x64_S128x64) (constant S128x64 .f32 0x00000000#32)) bitsLt_bf16_f32)
    shapeCasts_S128x64_S1x128x64

/-- The row sums of one head, as a column. -/
def lB1 (d : Dev nD) (b hf r h : ℕ) : FVec F S128x1 .f32 :=
  shapeCast S128x1 (multiReduction .add [1] S128 (sB I d b hf r h) 0x00000000#32 reduces_S128x128_S128 (.inl rfl) rfl) shapeCasts_S128_S128x1

/-- The row sums of the eight heads. -/
def lB (d : Dev nD) (b hf r : ℕ) : FVec F S1x128x8 .bf16 :=
  shapeCast S1x128x8 (truncf .bf16 (concatenate S128x8 1
    [⟨S128x1, lB1 I d b hf r 0⟩, ⟨S128x1, lB1 I d b hf r 1⟩, ⟨S128x1, lB1 I d b hf r 2⟩, ⟨S128x1, lB1 I d b hf r 3⟩,
     ⟨S128x1, lB1 I d b hf r 4⟩, ⟨S128x1, lB1 I d b hf r 5⟩, ⟨S128x1, lB1 I d b hf r 6⟩, ⟨S128x1, lB1 I d b hf r 7⟩]
    concatenates_S128x1_S128x1_S128x1_S128x1_S128x1_S128x1_S128x1_S128x1_S128x8_d1) bitsLt_bf16_f32) shapeCasts_S128x8_S1x128x8

/-- A device's own contribution: columns below 512 the rows, the next eight the row sums. -/
def OA (d : Dev nD) (b r c : ℕ) : F .bf16 :=
  if c < 512 then oB I d b (r / 256) (r / 128 % 2) (c / 64) (mk3 1 128 64 0 (r % 128) (c % 64))
  else lB I d b (r / 256) (r / 128 % 2) (mk3 1 128 8 0 (r % 128) (c - 512))

end Cert.KernelIdeal.Talk
-- ==== Proof.K.Cut.lean ====
/- The kernel's body, cut into stretches. -/
module

public import proofs.«01_k».proof.Proof.Gen.KernelIdeal.Skeleton
public import Idealize.ShloMosaic.Lib.Tactic
public import Idealize.ShloMosaic.Lib.Tactic.OpenCalls
public import Idealize.ShloMosaic.Lib.Tactic.Stretches

@[expose] public section

namespace Cert.KernelIdeal.Talk

open Cert.KernelIdeal.Gen Idealize.ShloMosaic Idealize.SL.Sem
set_option maxRecDepth 65536
open_calls whole := cc0_body_skel [k0_part95, k0_part96, k0_part6, k0_part16, k0_part33, k0_part34, k0_part51, k0_part52, k0_part62, k0_part70, k0_part73, k0_part74, k0_part81, k0_part84, k0_part88, k0_part89, k0_part91, k0_part92, k0_part93]

cut_chain s := whole at 11, 29, 58, 60, 87, 89, 93, 104, 115, 128, 138, 151, 152, 166, 181, 183, 194

end Cert.KernelIdeal.Talk
-- ==== Proof.K.Attn.lean ====
/- The two attention sweeps: for each batch, mask class and head, one load of the keys, one of the values and one
   store of the unnormalised rows; after eight heads one store of their row sums. The sweep's state is the number
   of stores done. -/
module

public import proofs.«01_k».proof.Proof.K.Content
public import proofs.«01_k».proof.Proof.K.Cut

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)

/-- A function of three natural numbers as the contents of a rank-three buffer. -/
def c3 {α : Type} {A B C : ℕ} (f : ℕ → ℕ → ℕ → α) : (⟨3, ![A, B, C]⟩ : Shape).Idx → α :=
  fun i => f (i 0).val (i 1).val (i 2).val

/-- A whole buffer at known contents. -/
abbrev holds (d : Dev nD) (b : Ref sig .tc) (T : b.ty.Contents (Elt F)) : sProp (MM F) :=
  upto d b Finset.univ fullShare (fun _ => 0) 1 T

/-- The half that device `d` forms in sweep `p`: first the one it sends away, then the one it keeps. -/
def hd (d : Dev nD) (p : ℕ) : ℕ := (d.val + 1 + p) % 2

/-- The rows of half `hf` of the accumulator. -/
def half (hf : ℕ) : Finset S2x512x640.Idx := Finset.univ.filter fun i => (i 1).val / 256 = hf

/-- When, in a sweep, an element of the accumulator is written. -/
def numA (i : S2x512x640.Idx) : ℕ :=
  if (i 2).val < 512 then 18 * (i 0).val + 9 * ((i 1).val / 128 % 2) + (i 2).val / 64
  else if (i 2).val < 520 then 18 * (i 0).val + 9 * ((i 1).val / 128 % 2) + 8 else 1000

/-- The state of sweep `p` after `n` stores. -/
def Att (d : Dev nD) (p n : ℕ) : sProp (MM F) :=
  iprop(upto d cc0_scratch0 (half (hd d p)) fullShare numA n (c3 (OA I d)) ∗ holds d cc0_scratch1 (c3 (XP I d))
    ∗ holds d cc0_scratch2 (c3 (KP I d)) ∗ holds d cc0_scratch3 (c3 (VP I d)))

theorem mem_unit3 {A B C : ℕ} {o0 o1 o2 : ℕ} {size : Fin 3 → ℕ} {inb} (i : (⟨3, ![A, B, C]⟩ : Shape).Idx)
    (h0 : o0 ≤ (i 0).val ∧ (i 0).val < o0 + size 0) (h1 : o1 ≤ (i 1).val ∧ (i 1).val < o1 + size 1)
    (h2 : o2 ≤ (i 2).val ∧ (i 2).val < o2 + size 2) :
    i ∈ (Rect.unit (s := ⟨3, ![A, B, C]⟩) ![o0, o1, o2] size inb).toLoadRect.set := by
  rw [LoadRect.mem_set]
  intro a
  match a with
  | 0 => exact ⟨(i 0).val - o0, by simp [Rect.unit]; omega, by simp [Rect.unit]; omega⟩
  | 1 => exact ⟨(i 1).val - o1, by simp [Rect.unit]; omega, by simp [Rect.unit]; omega⟩
  | 2 => exact ⟨(i 2).val - o2, by simp [Rect.unit]; omega, by simp [Rect.unit]; omega⟩

theorem OA_o (d : Dev nD) (hf b r h : ℕ) (hr : r < 2) (hh : h < 8) (j : S1x128x64.Idx) :
    OA I d (b + (j 0).val) (256 * hf + 128 * r + (j 1).val) (64 * h + (j 2).val) = oB I d b hf r h j := by
  have h0 : (j 0).val < 1 := (j 0).isLt
  have h1 : (j 1).val < 128 := (j 1).isLt
  have h2 : (j 2).val < 64 := (j 2).isLt
  unfold OA
  rw [if_pos (by omega), show b + (j 0).val = b by omega, show (256 * hf + 128 * r + (j 1).val) / 256 = hf by omega,
    show (256 * hf + 128 * r + (j 1).val) / 128 % 2 = r by omega, show (64 * h + (j 2).val) / 64 = h by omega]
  congr 1
  funext a
  match a with
  | 0 => exact Fin.ext (by show 0 % 1 = (j 0).val; omega)
  | 1 => exact Fin.ext (by show _ % 128 % 128 = (j 1).val; omega)
  | 2 => exact Fin.ext (by show _ % 64 % 64 = (j 2).val; omega)

theorem OA_l (d : Dev nD) (hf b r : ℕ) (hr : r < 2) (j : S1x128x8.Idx) :
    OA I d (b + (j 0).val) (256 * hf + 128 * r + (j 1).val) (512 + (j 2).val) = lB I d b hf r j := by
  have h0 : (j 0).val < 1 := (j 0).isLt
  have h1 : (j 1).val < 128 := (j 1).isLt
  have h2 : (j 2).val < 8 := (j 2).isLt
  unfold OA
  rw [if_neg (by omega), show b + (j 0).val = b by omega, show (256 * hf + 128 * r + (j 1).val) / 256 = hf by omega,
    show (256 * hf + 128 * r + (j 1).val) / 128 % 2 = r by omega]
  congr 1
  funext a
  match a with
  | 0 => exact Fin.ext (by show 0 % 1 = (j 0).val; omega)
  | 1 => exact Fin.ext (by show _ % 128 % 128 = (j 1).val; omega)
  | 2 => exact Fin.ext (by show (512 + (j 2).val - 512) % 8 = (j 2).val; omega)

section Steps

variable {α : Type} {d : Dev nD} {R : sProp (MM F)} {Q : α → sProp (MM F)}

theorem att_k {p : ℕ} (n : ℕ) {off : Fin 3 → ℕ} {inb} {hl}
    {k : Vec F S1x128x64 .bf16 → Prog (TpuEff nD τ sig (Elt F) Λ₀ .tc) α}
    (hoff : off = ![n / 18, 256 * hd d p + 128 * (n / 9 % 2), 64 * (n % 9)])
    (hk : Att I d p n ∗ R ⊢ bwp d (k (kB I d (n / 18) (hd d p) (n / 9 % 2) (n % 9))) Q) :
    Att I d p n ∗ R ⊢ bwp d (.op (.load (Memref.whole cc0_scratch2) (Rect.unit (s := S2x512x512) off S1x128x64.size inb).toLoadRect hl) k) Q := by
  subst hoff
  unfold Att at hk ⊢
  iintro ⟨⟨H0, H1, H2, H3⟩, HR⟩
  iapply (load_known (d := d) (bi := 8) (bh := rfl) (kB I d (n / 18) (hd d p) (n / 9 % 2) (n % 9)) (fun _ => Finset.mem_univ _) (fun _ => Nat.one_pos)
    (fun j => by show KP I d _ _ _ = KP I d _ _ _; simp [LoadRect.idx, Rect.unit])) $$ H2
  iintro H2
  iapply hk
  iframe

theorem att_v {p : ℕ} (n : ℕ) {off : Fin 3 → ℕ} {inb} {hl}
    {k : Vec F S1x128x64 .bf16 → Prog (TpuEff nD τ sig (Elt F) Λ₀ .tc) α}
    (hoff : off = ![n / 18, 256 * hd d p + 128 * (n / 9 % 2), 64 * (n % 9)])
    (hk : Att I d p n ∗ R ⊢ bwp d (k (vB I d (n / 18) (hd d p) (n / 9 % 2) (n % 9))) Q) :
    Att I d p n ∗ R ⊢ bwp d (.op (.load (Memref.whole cc0_scratch3) (Rect.unit (s := S2x512x512) off S1x128x64.size inb).toLoadRect hl) k) Q := by
  subst hoff
  unfold Att at hk ⊢
  iintro ⟨⟨H0, H1, H2, H3⟩, HR⟩
  iapply (load_known (d := d) (bi := 9) (bh := rfl) (vB I d (n / 18) (hd d p) (n / 9 % 2) (n % 9)) (fun _ => Finset.mem_univ _) (fun _ => Nat.one_pos)
    (fun j => by show VP I d _ _ _ = VP I d _ _ _; simp [LoadRect.idx, Rect.unit])) $$ H3
  iintro H3
  iapply hk
  iframe

theorem att_x {p : ℕ} (n : ℕ) {off : Fin 3 → ℕ} {inb} {hl}
    {k : Vec F S1x256x768 .bf16 → Prog (TpuEff nD τ sig (Elt F) Λ₀ .tc) α}
    (hoff : off = ![n / 18, 256 * hd d p, 0])
    (hk : Att I d p n ∗ R ⊢ bwp d (k (xB I d (n / 18) (hd d p))) Q) :
    Att I d p n ∗ R ⊢ bwp d (.op (.load (Memref.whole cc0_scratch1) (Rect.unit (s := S2x512x768) off S1x256x768.size inb).toLoadRect hl) k) Q := by
  subst hoff
  unfold Att at hk ⊢
  iintro ⟨⟨H0, H1, H2, H3⟩, HR⟩
  iapply (load_known (d := d) (bi := 7) (bh := rfl) (xB I d (n / 18) (hd d p)) (fun _ => Finset.mem_univ _) (fun _ => Nat.one_pos)
    (fun j => by show XP I d _ _ _ = XP I d _ _ _; simp [LoadRect.idx, Rect.unit])) $$ H1
  iintro H1
  iapply hk
  iframe

/-- A rectangle of the accumulator within one half. -/
theorem mem_half {hf : ℕ} {off size : Fin 3 → ℕ} {inb} (h1 : 256 * hf ≤ off 1) (h2 : off 1 + size 1 ≤ 256 * hf + 256) (j) :
    (Rect.unit (s := S2x512x640) off size inb).toLoadRect.idx j ∈ half hf := by
  have := (j 1).isLt
  simp only [half, Finset.mem_filter, Finset.mem_univ, true_and, LoadRect.idx, Rect.unit] at this ⊢
  omega

theorem att_any {p : ℕ} (n : ℕ) {off size : Fin 3 → ℕ} {inb} {hl}
    {k : ((Rect.unit (s := S2x512x640) off size inb).shape.Idx → Elt F .bf16) → Prog (TpuEff nD τ sig (Elt F) Λ₀ .tc) α}
    (h1 : 256 * hd d p ≤ off 1) (h2 : off 1 + size 1 ≤ 256 * hd d p + 256)
    (hk : ∀ v, Att I d p n ∗ R ⊢ bwp d (k v) Q) :
    Att I d p n ∗ R ⊢ bwp d (.op (.load (Memref.whole cc0_scratch0) (Rect.unit (s := S2x512x640) off size inb).toLoadRect hl) k) Q := by
  unfold Att at hk ⊢
  iintro ⟨⟨H0, H1, H2, H3⟩, HR⟩
  iapply (load_any (d := d) (bi := 6) (bh := rfl) (mem_half h1 h2)) $$ H0
  iintro %v _ H0
  iapply (hk v)
  iframe

theorem att_o {p : ℕ} (n n' : ℕ) {off : Fin 3 → ℕ} {inb} {w : Vec F S1x128x64 .bf16} {hx} {hm}
    {k : PUnit → Prog (TpuEff nD τ sig (Elt F) Λ₀ .tc) α}
    (hoff : off = ![n / 18, 256 * hd d p + 128 * (n / 9 % 2), 64 * (n % 9)]) (h8 : n % 9 < 8) (hn : n < 36) (hn' : n' = n + 1)
    (hw : w = oB I d (n / 18) (hd d p) (n / 9 % 2) (n % 9))
    (hk : Att I d p n' ∗ R ⊢ bwp d (k ⟨⟩) Q) :
    Att I d p n ∗ R ⊢ bwp d (.op (.store (Memref.whole cc0_scratch0) (Rect.unit (s := S2x512x640) off S1x128x64.size inb) w Finset.univ hx hm) k) Q := by
  have hhd : hd d p < 2 := Nat.mod_lt _ (by decide)
  subst hoff
  unfold Att at hk ⊢
  iintro ⟨⟨H0, H1, H2, H3⟩, HR⟩
  iapply (store_next (d := d) (bi := 6) (bh := rfl) (n := n) (n' := n') hn' (mem_half (by simp) (by simp; omega)) (fun j _ => ?_) (fun i hi h => ?_)) $$ H0
  · subst hw
    refine (OA_o I d (hd d p) (n / 18) (n / 9 % 2) (n % 9) (by omega) h8 j).symm.trans ?_
    show OA I d _ _ _ = OA I d _ _ _
    simp [LoadRect.idx, Rect.unit]
  · have h0 : (i 0).val < 2 := (i 0).isLt
    have h2 : (i 2).val < 640 := (i 2).isLt
    simp only [half, Finset.mem_filter, Finset.mem_univ, true_and] at hi
    unfold numA at h
    split at h
    · exact mem_unit3 i (by simp; omega) (by simp; omega) (by simp; omega)
    · split at h <;> omega
  · iintro H0
    iapply hk
    iframe

theorem att_l {p : ℕ} (n n' : ℕ) {off : Fin 3 → ℕ} {inb} {w : Vec F S1x128x8 .bf16} {hx} {hm}
    {k : PUnit → Prog (TpuEff nD τ sig (Elt F) Λ₀ .tc) α}
    (hoff : off = ![n / 18, 256 * hd d p + 128 * (n / 9 % 2), 512]) (h8 : n % 9 = 8) (hn : n < 36) (hn' : n' = n + 1)
    (hw : w = lB I d (n / 18) (hd d p) (n / 9 % 2))
    (hk : Att I d p n' ∗ R ⊢ bwp d (k ⟨⟩) Q) :
    Att I d p n ∗ R ⊢ bwp d (.op (.store (Memref.whole cc0_scratch0) (Rect.unit (s := S2x512x640) off S1x128x8.size inb) w Finset.univ hx hm) k) Q := by
  have hhd : hd d p < 2 := Nat.mod_lt _ (by decide)
  subst hoff
  unfold Att at hk ⊢
  iintro ⟨⟨H0, H1, H2, H3⟩, HR⟩
  iapply (store_next (d := d) (bi := 6) (bh := rfl) (n := n) (n' := n') hn' (mem_half (by simp) (by simp; omega)) (fun j _ => ?_) (fun i hi h => ?_)) $$ H0
  · subst hw
    refine (OA_l I d (hd d p) (n / 18) (n / 9 % 2) (by omega) j).symm.trans ?_
    show OA I d _ _ _ = OA I d _ _ _
    simp [LoadRect.idx, Rect.unit]
  · have h0 : (i 0).val < 2 := (i 0).isLt
    have h2 : (i 2).val < 640 := (i 2).isLt
    simp only [half, Finset.mem_filter, Finset.mem_univ, true_and] at hi
    unfold numA at h
    split at h
    · omega
    · split at h
      · exact mem_unit3 i (by simp; omega) (by simp; omega) (by simp; omega)
      · omega
  · iintro H0
    iapply hk
    iframe

end Steps

end Cert.KernelIdeal.Talk
-- ==== Proof.K.Maps.lean ====
/- Who talks to whom. Every device makes the same sixty-four payments to other devices, in program order: sixteen
   entry signals, one transfer of a half accumulator to its partner, fifteen transfers of summed rows, fifteen
   transfers of normalised rows, one transfer of a normalised half, and sixteen exit signals. Payments 64 to 95 are
   what the thirty-two transfers pay to the sender's own completion semaphores: transfer `j` pays `j + 48` there.
   Every device waits on its sixty-six semaphores in one order, once each. -/
module

public import proofs.«01_k».proof.Proof.K.Attn

@[expose] public section

noncomputable section

namespace Cert.KernelIdeal.Talk

open Cert.KernelIdeal.Gen
open Idealize.ShloMosaic Idealize.ShloMosaic.TcCoe

/-- The partner of a device: the other device of the same row number. -/
def xp (c : Dev nD) : Dev nD := ⟨(c.val + 1 - 2 * (c.val % 2)) % 32, Nat.mod_lt _ (by decide)⟩

/-- The device `k + 1` rows further on, of the same parity. -/
def nb (c : Dev nD) (k : ℕ) : Dev nD := ⟨(c.val % 2 + 2 * ((c.val / 2 + k + 1) % 16)) % 32, Nat.mod_lt _ (by decide)⟩

theorem xp_xp (c : Dev nD) : xp (xp c) = c := by revert c; decide +kernel
theorem nb_nb (c : Dev nD) (k : Fin 15) : nb (nb c k.val) (14 - k.val) = c := by revert c k; decide +kernel
theorem nb_nb' (c : Dev nD) (k : Fin 15) : nb (nb c (14 - k.val)) k.val = c := by revert c k; decide +kernel

/-- Whom payment `j` of a device goes to. -/
def peer (j : ℕ) (c : Dev nD) : Dev nD :=
  if j = 0 then xp c else if j < 16 then nb c (j - 1) else if j = 16 then xp c else if j < 32 then nb c (j - 17)
  else if j < 47 then nb c (j - 32) else if j = 47 then xp c else if j < 63 then nb c (j - 48) else if j = 63 then xp c else c

/-- Whom payment `j` to a device comes from. -/
def payer (j : ℕ) (c : Dev nD) : Dev nD :=
  if j = 0 then xp c else if j < 16 then nb c (15 - j) else if j = 16 then xp c else if j < 32 then nb c (31 - j)
  else if j < 47 then nb c (46 - j) else if j = 47 then xp c else if j < 63 then nb c (62 - j) else if j = 63 then xp c else c

theorem payer_peer (j : Fin 96) (c : Dev nD) : payer j (peer j c) = c := by revert j c; decide +kernel
theorem peer_payer (j : Fin 96) (c : Dev nD) : peer j (payer j c) = c := by revert j c; decide +kernel

/-- A semaphore of the transfer pool, by number. -/
abbrev dm (n : ℕ) : SemLoc sig := .dma (Fin.ofNat 70 n)

/-- The entry semaphore and the exit semaphore. -/
abbrev barS : SemLoc sig := .reg ⟨1, by decide⟩
abbrev exitS : SemLoc sig := .reg ⟨0, by decide⟩

/-- The semaphore payment `j` raises. -/
def sm (j : ℕ) : SemLoc sig :=
  if j < 16 then barS else if j = 16 then dm 7 else if j < 32 then dm (54 - j) else if j < 47 then dm (99 - j)
  else if j = 47 then dm 69 else if j < 64 then exitS else if j = 64 then dm 6 else if j < 80 then dm (j - 57)
  else if j < 95 then dm (j - 42) else dm 68

/-- By how much. -/
def amt (j : ℕ) : ℕ :=
  if j < 16 then 1 else if j = 16 ∨ j = 64 then 20480 else if j < 32 ∨ (64 < j ∧ j < 80) then 1280
  else if j < 47 ∨ (79 < j ∧ j < 95) then 1024 else if j = 47 ∨ j = 95 then 16384 else 1

theorem amt_pos (j : ℕ) : 0 < amt j := by unfold amt; (repeat' split) <;> decide

/-- The semaphore of a device's wait `i`. -/
def ws (i : ℕ) : SemLoc sig :=
  if i = 0 then barS else if i = 1 then dm 6 else if i = 2 then dm 7
  else if i < 33 then (if i % 2 = 1 then dm (8 + (i - 3) / 2) else dm (37 - (i - 4) / 2))
  else if i < 48 then dm (i + 5) else if i < 63 then dm (i + 5) else if i = 63 then dm 68 else if i = 64 then dm 69 else exitS

/-- What wait `i` waits for. -/
def wamt (i : ℕ) : ℕ :=
  if i = 0 then 16 else if i < 3 then 20480 else if i < 33 then 1280 else if i < 63 then 1024 else if i < 65 then 16384 else 16

/-- The wait whose semaphore payment `j` raises. -/
def wix (j : ℕ) : ℕ :=
  if j < 16 then 0 else if j = 16 then 2 else if j < 32 then 4 + 2 * (j - 17) else if j < 47 then 94 - j
  else if j = 47 then 64 else if j < 64 then 65 else if j = 64 then 1 else if j < 80 then 3 + 2 * (j - 65)
  else if j < 95 then j - 47 else 63

/-- The order of the waits: what is still owed at a wait lies above it. -/
def level : SemLoc sig → ℕ
  | .reg s => if s.val = 1 then 1 else 6
  | .dma s => if s.val = 7 then 2 else if 23 ≤ s.val ∧ s.val < 38 then 3 else if 53 ≤ s.val ∧ s.val < 68 then 4 else if s.val = 69 then 5 else 0

theorem ws_wix (j : Fin 96) : ws (wix j) = sm j := by revert j; decide +kernel
theorem wix_lt (j : Fin 96) : wix j < 66 := by revert j; decide +kernel
theorem ws_inj (i i' : Fin 66) : ws i = ws i' → i = i' := by revert i i'; decide +kernel
theorem sum_wamt (i : Fin 66) : ∑ j ∈ Finset.univ.filter (fun j : Fin 96 => sm j = ws i), amt j = wamt i := by
  revert i; decide +kernel

theorem credits : RefSig.tileCredit S2x256x640 .bf16 = 20480 ∧ RefSig.tileCredit S2x16x640 .bf16 = 1280 ∧ RefSig.tileCredit S2x16x512 .bf16 = 1024
    ∧ RefSig.tileCredit S2x256x512 .bf16 = 16384 := by decide +kernel

/-- The addresses the kernel computes are these devices. -/
theorem dev_eq (d : Dev nD) : k0_dev1 d = (peer 0 d).val ∧ k0_dev2 d = (peer 1 d).val ∧ k0_dev16 d = (peer 15 d).val
    ∧ k0_dev17 d = (peer 16 d).val ∧ k0_dev18 d = (peer 17 d).val ∧ k0_dev33 d = (peer 32 d).val ∧ k0_dev48 d = (peer 47 d).val
    ∧ k0_dev49 d = (peer 48 d).val ∧ k0_dev64 d = (peer 63 d).val := by revert d; decide +kernel

theorem off_eq (d : Dev nD) : k0_off37 d = ![0, 256 * (1 - d.val % 2), 0] ∧ k0_off74 d = ![0, 256 * (d.val % 2), 0]
    ∧ k0_off76 d = ![0, 256 * (d.val % 2) + 16 * (d.val / 2), 0]
    ∧ k0_off83 d = ![0, 256 * (d.val % 2) + 16 * (d.val / 2), 0]
    ∧ k0_off84 d = ![0, 256 * (d.val % 2), 0] := by revert d; decide +kernel

theorem off75_eq (d : Dev nD) (k : Fin 15) : k0_off75 d (BitVec.ofNat 32 (1 + k.val)) = ![0, 256 * ((nb d k).val % 2) + 16 * ((nb d k).val / 2), 0] := by
  revert d k; decide +kernel

end Cert.KernelIdeal.Talk
-- ==== Proof.K.Rows.lean ====
/- What the exchanged rows hold: the pair's sum, the sum over the sixteen devices of equal parity, and the rows
   divided by their row sums, all at natural-number coordinates. -/
module

public import proofs.«01_k».proof.Proof.K.Maps
public import Idealize.ShloMosaic.Lib.Pipeline.Value

@[expose] public section

noncomputable section

namespace Cert.KernelIdeal.Talk

open Cert.KernelIdeal.Gen
open Idealize.ShloMosaic Idealize.ShloMosaic.TcCoe

variable {F : FTy → Type} [FloatOps F]

/-- The sum of a pair, as the kernel rounds it. -/
def add2 (a b : F .bf16) : F .bf16 := k0_pay297 (fun _ => a) (fun _ => b) (mk3 2 256 640 0 0 0)

theorem pay297_at (v w : FVec F S2x256x640 .bf16) (j : S2x256x640.Idx) : k0_pay297 v w j = add2 (v j) (w j) := by
  unfold add2 k0_pay297
  rw [shapeCast_self, shapeCast_self]
  rfl

/-- The sum of fifteen received values, in order of slot, and the own one. -/
def tot (f : ℕ → F .bf16) (own : F .bf16) : F .bf16 :=
  k0_pay300 (k0_pay299 (k0_pay298 fun _ => f 0) (fun _ => f 1) (fun _ => f 2) (fun _ => f 3) (fun _ => f 4) (fun _ => f 5) (fun _ => f 6)
    (fun _ => f 7) (fun _ => f 8)) (fun _ => f 9) (fun _ => f 10) (fun _ => f 11) (fun _ => f 12) (fun _ => f 13) (fun _ => f 14) (fun _ => own)
    (mk3 2 16 640 0 0 0)

/-- An element of a slot, under its leading unit axis. -/
def up4 (j : S2x16x640.Idx) : S1x2x16x640.Idx := Fin.cons (⟨0, Nat.one_pos⟩ : Fin 1) j

theorem cast_slot {α : Type} (v : S1x2x16x640.Idx → α) (j : S2x16x640.Idx) :
    shapeCast S2x16x640 v shapeCasts_S1x2x16x640_S2x16x640 j = v (up4 j) :=
  shapeCast_dropUnit_apply ![2, 16, 640] v _ j

theorem sum_at (w : ℕ → FVec F S1x2x16x640 .bf16) (own : FVec F S2x16x640 .bf16) (j : S2x16x640.Idx) :
    k0_pay300 (k0_pay299 (k0_pay298 (w 0)) (w 1) (w 2) (w 3) (w 4) (w 5) (w 6) (w 7) (w 8)) (w 9) (w 10) (w 11) (w 12) (w 13) (w 14) own j
      = tot (fun s => w s (up4 j)) (own j) := by
  unfold tot k0_pay300 k0_pay299 k0_pay298
  rw [shapeCast_self, shapeCast_self]
  show truncf _ _ _ j = truncf _ _ _ _
  simp only [truncf, addf, extf, cast_slot]

/-- A value divided by its row sum, as the kernel rounds it. -/
def nrm (l o : F .bf16) : F .bf16 := k0_pay301 (fun _ => l) (fun _ => o) (mk3 1 16 512 0 0 0)

theorem pay302_eq : k0_pay302 (F := F) = k0_pay301 := rfl

/-- The index of coordinates `a b`, each reduced into its range. -/
def mk2 (A B : ℕ) [NeZero A] [NeZero B] (a b : ℕ) : (⟨2, ![A, B]⟩ : Shape).Idx := fun
  | 0 => (Fin.ofNat A a : Fin A)
  | 1 => (Fin.ofNat B b : Fin B)

theorem denom_at {α : Type} (g : S16x8.Idx → α) (j : S16x512.Idx) :
    shapeCast S16x512 (broadcastTo S16x8x64 (shapeCast S16x8x1 (shapeCast S16x8x1 g
      shapeCasts_S16x8_S16x8x1) shapeCasts_S16x8x1_S16x8x1) broadcasts_S16x8x1_S16x8x64) shapeCasts_S16x8x64_S16x512 j
      = g (mk2 16 8 (j 0).val ((j 1).val / 64)) := by
  have h0 : (j 0).val < 16 := (j 0).isLt
  have h1 : (j 1).val < 512 := (j 1).isLt
  rw [shapeCast_apply _ _ j (mk3 16 8 64 (j 0).val ((j 1).val / 64) ((j 1).val % 64)) (by
    rw [Shape.rowMajor_val_three, Shape.rowMajor_val_two]
    show (((j 0).val % 16) * 8 + ((j 1).val / 64 % 8)) * 64 + ((j 1).val % 64 % 64) = (j 0).val * 512 + (j 1).val
    omega)]
  rw [broadcastTo_apply _ _ _ (mk3 16 8 1 (j 0).val ((j 1).val / 64) 0) (by
    intro a
    match a with
    | 0 => rfl
    | 1 => rfl
    | 2 => rfl)]
  rw [shapeCast_self]
  exact shapeCast_apply _ _ _ _ (by
    rw [Shape.rowMajor_val_three, Shape.rowMajor_val_two]
    show ((j 0).val % 16) * 8 + ((j 1).val / 64 % 8) = (((j 0).val % 16) * 8 + ((j 1).val / 64 % 8)) * 1 + 0 % 1
    omega)

theorem pay301_at (v : FVec F S1x16x8 .bf16) (w : FVec F S1x16x512 .bf16) (j : S1x16x512.Idx) :
    k0_pay301 v w j = nrm (v (mk3 1 16 8 0 (j 1).val ((j 2).val / 64))) (w j) := by
  have h0 : (j 0).val < 1 := (j 0).isLt
  have h1 : (j 1).val < 16 := (j 1).isLt
  have h2 : (j 2).val < 512 := (j 2).isLt
  have key : ∀ (v : FVec F S1x16x8 .bf16) (w : FVec F S1x16x512 .bf16) (j : S1x16x512.Idx), k0_pay301 v w j
      = FloatOps.truncf .bf16 bitsLt_bf16_f32 (FloatOps.divf (FloatOps.extf .f32 bitsLt_bf16_f32 (w (Fin.cons ⟨0, Nat.one_pos⟩ fun a => j a.succ)))
          (FloatOps.extf .f32 bitsLt_bf16_f32 (v (Fin.cons ⟨0, Nat.one_pos⟩ (mk2 16 8 (j 1).val ((j 2).val / 64)))))) := by
    intro v w j
    unfold k0_pay301
    refine (shapeCast_addUnit_apply ![16, 512] _ _ j).trans ?_
    refine congrArg (FloatOps.truncf .bf16 bitsLt_bf16_f32) ?_
    refine congrArg₂ FloatOps.divf ?_ ?_
    · exact congrArg (FloatOps.extf .f32 bitsLt_bf16_f32) (shapeCast_dropUnit_apply ![16, 512] w _ _)
    · refine (denom_at _ _).trans ?_
      exact congrArg (FloatOps.extf .f32 bitsLt_bf16_f32) (shapeCast_dropUnit_apply ![16, 8] v _ _)
  unfold nrm
  rw [key, key]
  congr 3
  · refine congrArg w (funext fun a => ?_)
    match a with
    | 0 => exact Fin.ext (by show 0 = (j 0).val; omega)
    | 1 => rfl
    | 2 => rfl
  · refine congrArg v (funext fun a => ?_)
    match a with
    | 0 => rfl
    | 1 => rfl
    | 2 => rfl

variable (I : Ins F)

/-- The pair's sum of device `c`'s kept half. -/
def X1 (c : Dev nD) (b r k : ℕ) : F .bf16 := add2 (OA I c b r k) (OA I (xp c) b r k)
/-- The sum over the devices of equal parity, of device `c`'s own sixteen rows. -/
def SS (c : Dev nD) (b r k : ℕ) : F .bf16 := tot (fun s => X1 I (nb c s) b r k) (X1 I c b r k)
/-- Device `c`'s own rows, divided by their row sums. -/
def NRM (c : Dev nD) (b r k : ℕ) : F .bf16 := nrm (SS I c b r (512 + k / 64)) (SS I c b r k)

/-- The device whose own rows contain row `r`. -/
def devOf (r : ℕ) : Dev nD := ⟨(r / 256 + 2 * (r % 256 / 16)) % 32, Nat.mod_lt _ (by decide)⟩

/-- All rows, divided. -/
def FIN (b r k : ℕ) : F .bf16 := NRM I (devOf r) b r k

end Cert.KernelIdeal.Talk
-- ==== Proof.K.Proto.lean ====
/- The protocol of the five exchanges. Every semaphore has one round; payment `j` to device `q` hands over `Pay q j`.
   An entry signal hands over the landing buffers its receiver will write, the record that the sender's semaphores
   stand open, and a transfer's landing hands over the rows that landed. `Pr` is what a device holds of the protocol
   after `n` payments and `w` waits; the three step lemmas are a signal, a transfer and a wait. -/
module

public import proofs.«01_k».proof.Proof.K.Rows
public import Idealize.ShloMosaic.Lib.Transfers

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## Element sets -/

/-- The number of a device's own block of sixteen rows. -/
def bn (c : Dev nD) : ℕ := 16 * (c.val % 2) + c.val / 2

/-- The rows of half `hf`, and of device `c`'s own block, of a buffer of 512 rows; one slot of the landing buffer. -/
def hlf (C : ℕ) (hf : ℕ) : Finset (⟨3, ![2, 512, C]⟩ : Shape).Idx := Finset.univ.filter fun i => (i 1).val / 256 = hf
def blk (C : ℕ) (c : Dev nD) : Finset (⟨3, ![2, 512, C]⟩ : Shape).Idx := Finset.univ.filter fun i => (i 1).val / 16 = bn c
def slot (s : ℕ) : Finset S15x2x16x640.Idx := Finset.univ.filter fun i => (i 0).val = s

/-- The columns the accumulation fills: the last 120 are never written. -/
def ok3 {A B C : ℕ} (i : (⟨3, ![A, B, C]⟩ : Shape).Idx) : ℕ := if (i 2).val < 520 then 0 else 1
def ok4 (i : S15x2x16x640.Idx) : ℕ := if (i 3).val < 520 then 0 else 1

/-- Owned, at whatever contents. -/
def any (d : Dev nD) (b : Ref sig .tc) (S : Finset b.ty.Idx) : sProp (MM F) := iprop(∃ f, pts d b S fullShare f)

theorem upto_any {d : Dev nD} {b : Ref sig .tc} {S : Finset b.ty.Idx} {num : b.ty.Idx → ℕ} {n : ℕ} {T : b.ty.Contents (Elt F)} :
    upto d b S fullShare num n T ⊢ any d b S := by
  unfold upto any
  iintro ⟨%f, -, H⟩
  iexists f; iexact H

theorem any_upto {d : Dev nD} {b : Ref sig .tc} {S : Finset b.ty.Idx} {num : b.ty.Idx → ℕ} {n : ℕ} (h : ∀ i ∈ S, n ≤ num i) (T : b.ty.Contents (Elt F)) :
    any d b S ⊢ upto d b S fullShare num n T := by
  unfold upto any
  iintro ⟨%f, H⟩
  iexists f
  isplitr
  · ipureintro; exact fun i hi hn => absurd (h i hi) (by omega)
  · iexact H

/-- A family of disjoint pieces is the whole. -/
theorem upto_split {d : Dev nD} {b : Ref sig .tc} {q : PosShare TreeShare} {num : b.ty.Idx → ℕ} {n : ℕ} {T : b.ty.Contents (Elt F)}
    {A : Type} [DecidableEq A] (S : Finset A) (K : A → Finset b.ty.Idx) (h : ∀ t ∈ S, ∀ t' ∈ S, t ≠ t' → Disjoint (K t) (K t')) :
    upto d b (S.biUnion K) q num n T ⊢ bigSep S fun t => upto d b (K t) q num n T := by
  unfold upto
  iintro ⟨%f, %hf, H⟩
  ihave H := (Entails.of_eq (pointsTo_biUnion S K h)) $$ H
  have hm : bigSep S (fun t => pts d b (K t) q f) ⊢ bigSep S fun t => iprop(∃ f, ⌜∀ i ∈ K t, num i < n → f i = T i⌝ ∗ pts d b (K t) q f) := by
    refine bigSep_mono fun t ht => (show pts d b (K t) q f ⊢ _ from ?_)
    iintro H
    iexists f
    isplitr
    · ipureintro; exact fun i hi hn => hf i (Finset.mem_biUnion.mpr ⟨t, ht, hi⟩) hn
    · iexact H
  iapply hm
  iexact H

theorem upto_merge {d : Dev nD} {b : Ref sig .tc} {q : PosShare TreeShare} {num : b.ty.Idx → ℕ} {n : ℕ} {T : b.ty.Contents (Elt F)}
    {A : Type} [DecidableEq A] (S : Finset A) (K : A → Finset b.ty.Idx) (h : ∀ t ∈ S, ∀ t' ∈ S, t ≠ t' → Disjoint (K t) (K t')) :
    bigSep S (fun t => upto d b (K t) q num n T) ⊢ upto d b (S.biUnion K) q num n T := by
  classical
  induction S using Finset.induction_on with
  | empty =>
    rw [Finset.biUnion_empty, bigSep_empty]
    unfold upto pts
    iintro -
    iexists T
    isplitr
    · ipureintro; exact fun i hi => absurd hi (Finset.notMem_empty i)
    · rw [pointsTo_empty]; iempintro
  | insert t S ht ih =>
    have hd : Disjoint (K t) (S.biUnion K) := by
      rw [Finset.disjoint_biUnion_right]
      exact fun t' ht' => h t (Finset.mem_insert_self _ _) t' (Finset.mem_insert_of_mem ht') (fun e => ht (e ▸ ht'))
    rw [Finset.biUnion_insert, bigSep_insert ht]
    change iprop(_ ∗ _) ⊢ _
    iintro ⟨H1, H2⟩
    ihave H2 := (ih fun a ha a' ha' => h a (Finset.mem_insert_of_mem ha) a' (Finset.mem_insert_of_mem ha')) $$ H2
    unfold upto
    icases H1 with ⟨%f, %hf, H1⟩
    icases H2 with ⟨%g, %hg, H2⟩
    iexists (S.biUnion K).piecewise g f
    isplitr
    · ipureintro
      intro i hi hn
      by_cases hm : i ∈ S.biUnion K
      · rw [Finset.piecewise_eq_of_mem _ _ _ hm]; exact hg i hm hn
      · rw [Finset.piecewise_eq_of_notMem _ _ _ hm]
        exact hf i ((Finset.mem_union.mp hi).resolve_right hm) hn
    · iapply (pointsTo_join hd)
      isplitl [H1] <;> iassumption

/-! ## Counting through a range -/

theorem ico {n N : ℕ} (h : n < N) : Finset.Ico n N = insert n (Finset.Ico (n + 1) N) := by
  ext k; simp only [Finset.mem_insert, Finset.mem_Ico]; omega

theorem el {A : Type} [DecidableEq A] {S : Finset A} {Φ : A → sProp (MM F)} {i : A} (hi : i ∈ S) : bigSep S Φ ⊢ Φ i := bigSep_elim hi

theorem img {A B : Type} [DecidableEq B] {S : Finset A} {f : A → B} (hf : Set.InjOn f S) (Φ : B → sProp (MM F)) :
    bigSep (S.image f) Φ = bigSep S fun a => Φ (f a) := by
  classical
  induction S using Finset.induction_on with
  | empty => rw [Finset.image_empty, bigSep_empty, bigSep_empty]
  | insert a S ha ih =>
    have hn : f a ∉ S.image f := fun h => by
      obtain ⟨b, hb, e⟩ := Finset.mem_image.mp h
      exact ha ((hf (Finset.mem_coe.mpr (Finset.mem_insert_of_mem hb)) (Finset.mem_coe.mpr (Finset.mem_insert_self a S)) e) ▸ hb)
    rw [Finset.image_insert, bigSep_insert hn, bigSep_insert ha, ih (hf.mono (Finset.coe_subset.mpr (Finset.subset_insert _ _)))]

/-- The part of a family still to come, and the part dealt with. -/
def Rest (N n : ℕ) (A : ℕ → sProp (MM F)) : sProp (MM F) := bigSep (Finset.Ico n N) A
def Done (n : ℕ) (A : ℕ → sProp (MM F)) : sProp (MM F) := bigSep (Finset.range n) A

theorem Rest_step {N n : ℕ} (h : n < N) (A : ℕ → sProp (MM F)) : Rest N n A = iprop(A n ∗ Rest N (n + 1) A) := by
  unfold Rest
  rw [ico h, bigSep_insert (by simp)]
  rfl

theorem Done_step (n : ℕ) (A : ℕ → sProp (MM F)) : Done (n + 1) A = iprop(A n ∗ Done n A) := by
  unfold Done
  rw [Finset.range_add_one, bigSep_insert (by simp)]
  rfl

theorem Rest_end (N : ℕ) (A : ℕ → sProp (MM F)) : Rest N N A = iprop(emp) := by
  unfold Rest; rw [Finset.Ico_self, bigSep_empty]; rfl
theorem Done_zero (A : ℕ → sProp (MM F)) : Done 0 A = iprop(emp) := by
  unfold Done; rw [Finset.range_zero, bigSep_empty]; rfl
theorem Done_Rest (N : ℕ) (A : ℕ → sProp (MM F)) : Done N A = Rest N 0 A := by
  unfold Done Rest; rw [Finset.range_eq_Ico]

/-- The same family in the opposite order. -/
theorem Done_flip (N : ℕ) (A : ℕ → sProp (MM F)) : Done N A = Done N fun k => A (N - 1 - k) := by
  unfold Done
  have h : Finset.range N = (Finset.range N).image fun k => N - 1 - k := by
    ext k
    simp only [Finset.mem_image, Finset.mem_range]
    exact ⟨fun h => ⟨N - 1 - k, by omega, by omega⟩, fun ⟨a, h, e⟩ => by omega⟩
  conv_lhs => rw [h]
  refine img (fun a ha b hb e => ?_) A
  simp only [Finset.coe_range, Set.mem_Iio] at ha hb e
  omega

/-! ## What the payments hand over -/

abbrev cell (c : Dev nD) (s : SemLoc sig) : GSem nD τ sig := ((c : Thread nD τ), s)

/-- Device `c`'s sixty-six semaphores stand open. -/
def Own (c : Dev nD) : sProp (MM F) := bigSep (Finset.range 66) fun i => reached ER (cell c (ws i)) 0

instance (c : Dev nD) : BI.Persistent (Own (F := F) c) := by unfold Own; infer_instance

variable (I : Ins F)

/-- What lands: the partner's rows; a row block of each of the fifteen others. -/
def orxT (q : Dev nD) : S2x256x640.Idx → F .bf16 := fun i => OA I (xp q) (i 0).val (256 * (q.val % 2) + (i 1).val) (i 2).val
def oryT (q : Dev nD) : S15x2x16x640.Idx → F .bf16 := fun i => X1 I (nb q (i 0).val) (i 1).val (16 * bn q + (i 2).val) (i 3).val

/-- What payment `j` to device `q` hands over. -/
def Pay (q : Dev nD) (j : ℕ) : sProp (MM F) :=
  if j = 0 then iprop(any (xp q) cc0_scratch4 Finset.univ ∗ any (xp q) cc0_scratch14 (hlf 512 (q.val % 2)) ∗ Own (xp q))
  else if j < 16 then iprop(any (nb q (15 - j)) cc0_scratch5 (slot (j - 1)) ∗ any (nb q (15 - j)) cc0_scratch14 (blk 512 q) ∗ Own (nb q (15 - j)))
  else if j = 16 then upto q cc0_scratch4 Finset.univ fullShare ok3 1 (orxT I q)
  else if j < 32 then upto q cc0_scratch5 (slot (31 - j)) fullShare ok4 1 (oryT I q)
  else if j < 47 then upto q cc0_scratch14 (blk 512 (nb q (46 - j))) fullShare (fun _ => 0) 1 (c3 (FIN I))
  else if j = 47 then upto q cc0_scratch14 (hlf 512 (1 - q.val % 2)) fullShare (fun _ => 0) 1 (c3 (FIN I))
  else if j < 64 then iprop(emp)
  else if j = 64 then any q cc0_scratch0 (hlf 640 (1 - q.val % 2))
  else if j < 80 then any q cc0_scratch0 (blk 640 (nb q (j - 65)))
  else if j < 95 then upto q cc0_scratch14 (blk 512 q) (Transfers.shareTokN fullShare (j - 80)) (fun _ => 0) 1 (c3 (FIN I))
  else upto q cc0_scratch14 (hlf 512 (q.val % 2)) fullShare.left (fun _ => 0) 1 (c3 (FIN I))

instance (d : Dev nD) (b : Ref sig .tc) (S : Finset b.ty.Idx) : BI.Storable (upEmb : UEmb _ (MM F)) (any d b S) := by
  unfold any pts; infer_instance
instance (d : Dev nD) (b : Ref sig .tc) (S : Finset b.ty.Idx) (q : PosShare TreeShare) (num : b.ty.Idx → ℕ) (n : ℕ) (T : b.ty.Contents (Elt F)) :
    BI.Storable (upEmb : UEmb _ (MM F)) (upto d b S q num n T) := by
  unfold upto pts; infer_instance
instance (c : Dev nD) : BI.Storable (upEmb : UEmb _ (MM F)) (Own c) := by
  unfold Own; infer_instance
instance (q : Dev nD) (j : ℕ) : BI.Storable (upEmb : UEmb _ (MM F)) (Pay I q j) := by
  unfold Pay
  (repeat' split) <;> infer_instance

/-- One round on every semaphore of every device. -/
def Rd : Rounds.Schedule (GSem nD τ sig) ℕ (MM F) where
  duties g r := if r = 0 ∧ g.1.2 = .tc then (Finset.range 96).filter (fun j => sm j = g.2) else ∅
  unitless _ := False
  amount _ _ j := amt j
  payload g _ j := Pay I g.1.1 j
  amount_pos _ _ j _ := amt_pos j

instance (g : GSem nD τ sig) (r : ℕ) (j : ℕ) : BI.Storable (upEmb : UEmb _ (MM F)) ((Rd I).payload g r j) := by
  show BI.Storable upEmb (Pay I g.1.1 j)
  infer_instance

theorem payload_eq (c : Dev nD) (s : SemLoc sig) (r j : ℕ) : (Rd I).payload (cell c s) r j = Pay I c j := rfl
theorem duties_eq (c : Dev nD) (s : SemLoc sig) : (Rd I).duties (cell c s) 0 = (Finset.range 96).filter (fun j => sm j = s) := by
  dsimp only [Rd]; exact if_pos ⟨rfl, rfl⟩
theorem duties_later (g : GSem nD τ sig) : ∀ r, 1 ≤ r → (Rd I).duties g r = ∅ := fun r hr => by
  dsimp only [Rd]; exact if_neg (fun h => by omega)
theorem mem_duties (c : Dev nD) {j : ℕ} (hj : j < 96) : j ∈ (Rd I).duties (cell c (sm j)) 0 := by
  rw [duties_eq]; exact Finset.mem_filter.mpr ⟨Finset.mem_range.mpr hj, rfl⟩
theorem filt (j : Fin 96) (h : 16 ≤ j.val) (h' : j.val < 48 ∨ 64 ≤ j.val) : (Finset.range 96).filter (fun i => sm i = sm j) = {j.val} := by
  revert j; decide +kernel
theorem sum_filt (i : Fin 66) : ∑ j ∈ (Finset.range 96).filter (fun j => sm j = ws i), amt j = wamt i := by
  revert i; decide +kernel
theorem expect_eq (c : Dev nD) {i : ℕ} (hi : i < 66) : (Rd I).expect (cell c (ws i)) 0 = wamt i := by
  unfold Schedule.expect Schedule.amountOf
  rw [duties_eq]
  exact sum_filt ⟨i, hi⟩

/-! ## Owing and levels -/

/-- What device `d` still owes after `n` payments. -/
def owing (d : Dev nD) (n : ℕ) : CellTallies nD τ sig Unit := ∑ j ∈ Finset.Ico n 64, tallyAt (cell (peer j d) (sm j)) () (amt j)

theorem owing_step (d : Dev nD) {n : ℕ} (h : n < 64) : owing d n = owing d (n + 1) + tallyAt (cell (peer n d) (sm n)) () (amt n) := by
  unfold owing
  rw [ico h, Finset.sum_insert (by simp), add_comm]
theorem owing_end (d : Dev nD) : owing d 64 = 0 := by
  unfold owing; rw [Finset.Ico_self, Finset.sum_empty]

def L (g : GSem nD τ sig) : Finset Unit := if g.1.2 = .tc then {()} else ∅
def lv (g : GSem nD τ sig) (_ : Unit) : ℕ := level g.2

theorem L_of_ne (g : GSem nD τ sig) (h : g.1.2 ≠ .tc) : L g = ∅ := if_neg h
theorem L_tc (c : Dev nD) (s : SemLoc sig) : L (cell c s) = {()} := if_pos rfl

theorem owing_pos {d : Dev nD} {n : ℕ} {g : GSem nD τ sig} {u : Unit} (h : 0 < owing d n g u) :
    ∃ j ∈ Finset.Ico n 64, g = cell (peer j d) (sm j) := by
  by_contra hc
  refine absurd h (Nat.not_lt.mpr (Nat.le_of_eq ?_))
  unfold owing
  rw [Finset.sum_apply, Finsupp.finset_sum_apply]
  exact Finset.sum_eq_zero fun j hj => by
    rw [tallyAt_apply, if_neg (fun e => hc ⟨j, hj, e.1⟩)]

theorem mayWait (d : Dev nD) (n : ℕ) (s : SemLoc sig) (h : ∀ j ∈ Finset.Ico n 64, level s < level (sm j)) :
    (levAts L lv : sProp (MM F)) ⊢ MayWait (d : Thread nD τ) s () (owing d n) :=
  MayOwe.of_cut (L := L) (lev := lv) (level s) (fun p hp => by rw [Finset.mem_singleton.mp hp, L_tc]; exact Finset.mem_singleton_self _)
    (fun g u hg => by obtain ⟨j, -, rfl⟩ := owing_pos hg; rw [L_tc]; exact Finset.mem_singleton_self _)
    (fun p hp => by rw [Finset.mem_singleton.mp hp]; exact le_rfl)
    (fun g u hg => by obtain ⟨j, hj, rfl⟩ := owing_pos hg; exact h j hj)

/-! ## The protocol state of a device -/

/-- Does wait `i` consume a sender's own completion? -/
def isSend (i : ℕ) : Prop := i = 1 ∨ (3 ≤ i ∧ i < 33 ∧ i % 2 = 1) ∨ (33 ≤ i ∧ i < 48) ∨ i = 63
instance (i : ℕ) : Decidable (isSend i) := by unfold isSend; infer_instance

/-- The credit to make wait `i` with. -/
def crd (d : Dev nD) (i : ℕ) : sProp (MM F) := cred (tallyAt (cell d (ws i)) () (wamt i))
def pos (d : Dev nD) (i : ℕ) : sProp (MM F) :=
  iprop(atPos ER (cell d (ws i)) 0 ∅ 0 ∗ (if isSend i then iprop(emp) else crd d i))
def fin (d : Dev nD) (i : ℕ) : sProp (MM F) := atPos ER (cell d (ws i)) (0 + 1) ∅ 0
def tok (d : Dev nD) (j : ℕ) : sProp (MM F) :=
  iprop(dutyTok ER (cell (peer j d) (sm j)) 0 j ∗ (if 16 ≤ j ∧ j < 48 then dutyTok ER (cell d (sm (j + 48))) 0 (j + 48) else iprop(emp)))

theorem crd_eq (d : Dev nD) (i : ℕ) : crd (F := F) d i = cred (tallyAt (cell d (ws i)) () (wamt i)) := rfl
theorem pos_eq (d : Dev nD) (i : ℕ) : pos (F := F) d i
    = iprop(atPos ER (cell d (ws i)) 0 ∅ 0 ∗ (if isSend i then iprop(emp) else crd d i)) := rfl
theorem fin_eq (d : Dev nD) (i : ℕ) : fin (F := F) d i = atPos ER (cell d (ws i)) (0 + 1) ∅ 0 := rfl
theorem tok_eq (d : Dev nD) (j : ℕ) : tok (F := F) d j = iprop(dutyTok ER (cell (peer j d) (sm j)) 0 j
    ∗ (if 16 ≤ j ∧ j < 48 then dutyTok ER (cell d (sm (j + 48))) 0 (j + 48) else iprop(emp))) := rfl

/-- What is known for good: the invariants, the levels, which semaphores stand open. -/
def More (d : Dev nD) : Bool → sProp (MM F)
  | true => bigSep (Finset.range 16) fun j => Own (payer j d)
  | false => iprop(emp)

instance (d : Dev nD) (b : Bool) : BI.Persistent (More (F := F) d b) := by
  cases b
  · exact inferInstanceAs (BI.Persistent iprop(emp))
  · exact inferInstanceAs (BI.Persistent (bigSep (Finset.range 16) fun j => Own (F := F) (payer j d)))

def Facts (K : GSem nD τ sig → ℕ) (d : Dev nD) (b : Bool) : sProp (MM F) :=
  iprop((bigSep Finset.univ fun c : Dev nD => bigSep (Finset.range 66) fun i => cellInv ER (Rd I) (K (cell c (ws i))) (cell c (ws i)))
    ∗ levAts L lv ∗ (bigSep Finset.univ fun c : Dev nD => reached ER (cell c barS) 0) ∗ Own d
    ∗ More d b)

instance (K : GSem nD τ sig → ℕ) (d : Dev nD) (b : Bool) : BI.Persistent (Facts I K d b) := by
  unfold Facts; infer_instance

def Pr (K : GSem nD τ sig → ℕ) (d : Dev nD) (b : Bool) (n w : ℕ) : sProp (MM F) :=
  iprop(Facts I K d b ∗ (∃ W, owes (d : Thread nD τ) (owing d n) W) ∗ Rest 64 n (tok d) ∗ Rest 66 w (pos d) ∗ Done w (fin d))

variable {I}

theorem inv_get {K : GSem nD τ sig → ℕ} {d : Dev nD} {b : Bool} (c : Dev nD) {j : ℕ} (hj : j < 96) :
    Facts I K d b ⊢ cellInv ER (Rd I) (K (cell c (sm j))) (cell c (sm j)) := by
  unfold Facts
  iintro ⟨#H, -⟩
  have h : (bigSep Finset.univ fun c : Dev nD => bigSep (Finset.range 66) fun i => cellInv ER (Rd I) (K (cell c (ws i))) (cell c (ws i)))
      ⊢ cellInv ER (Rd I) (K (cell c (sm j))) (cell c (sm j)) := by
    refine (el (Finset.mem_univ c)).trans ?_
    have := ws_wix ⟨j, hj⟩
    rw [← show ws (wix j) = sm j from this]
    exact el (Finset.mem_range.mpr (wix_lt ⟨j, hj⟩))
  iapply h; iexact H

theorem Own_get (c : Dev nD) {j : ℕ} (hj : j < 96) : Own (F := F) c ⊢ reached ER (cell c (sm j)) 0 := by
  unfold Own
  have := ws_wix ⟨j, hj⟩
  rw [← show ws (wix j) = sm j from this]
  exact el (Finset.mem_range.mpr (wix_lt ⟨j, hj⟩))

theorem own_get {K : GSem nD τ sig → ℕ} {d : Dev nD} {b : Bool} : Facts I K d b ⊢ Own d := by
  unfold Facts
  iintro ⟨-, -, -, #H, -⟩
  iexact H

theorem peer_in (j : Fin 64) (d : Dev nD) : ∃ i : Fin 16, peer j d = payer i d := by revert j d; decide +kernel

theorem reached_get {K : GSem nD τ sig → ℕ} {d : Dev nD} {b : Bool} {j : ℕ} (hj : j < 64) (hb : j < 16 ∨ b = true) :
    Facts I K d b ⊢ reached ER (cell (peer j d) (sm j)) 0 := by
  unfold Facts
  by_cases h : j < 16
  · iintro ⟨-, -, #H, -⟩
    have e : sm j = barS := by unfold sm; rw [if_pos h]
    rw [e]
    iapply (el (Φ := fun c : Dev nD => (reached ER (cell c barS) 0 : sProp (MM F))) (Finset.mem_univ (peer j d)))
    iexact H
  · obtain rfl := hb.resolve_left h
    iintro ⟨-, -, -, -, #H⟩
    obtain ⟨i, hi⟩ := peer_in ⟨j, hj⟩ d
    rw [show peer j d = payer i d from hi]
    iapply (Own_get (payer i d) (by omega : j < 96))
    have hh : More (F := F) d true ⊢ Own (payer i d) := el (Φ := fun j => Own (F := F) (payer j d)) (Finset.mem_range.mpr i.isLt)
    iapply hh; iexact H

section Steps

variable {α : Type} {K : GSem nD τ sig → ℕ} {d : Dev nD} {b : Bool} {n w : ℕ} {R : sProp (MM F)} {Q : α → sProp (MM F)}

/-- Payment `n` by a signal. -/
theorem pay_signal {dst : Thread nD τ} {sem : Sem sig} {z : ℤ} {k : PUnit → Prog (TpuEff nD τ sig (Elt F) Λ₀ .tc) α}
    (hn : n < 64) (hb : n < 16 ∨ b = true) (ha : amt n = 1) (hdst : dst = (peer n d : Thread nD τ)) (hsem : SemLoc.reg sem = sm n) (hz : z = ((1 : ℕ) : ℤ))
    (hk : Pr I K d b (n + 1) w ∗ R ⊢ bwp d (k ⟨⟩) Q) :
    Pr I K d b n w ∗ (Pay I (peer n d) n ∗ R) ⊢ bwp d (.op (.semSignal dst sem z) k) Q := by
  subst hdst hz
  have hO : owing d n = owing d (n + 1) + tallyAt ((peer n d : Thread nD τ), SemLoc.reg sem) () 1 := by rw [hsem, owing_step d hn, ha]
  have hd : n ∈ (Rd I).duties ((peer n d : Thread nD τ), SemLoc.reg sem) 0 := by rw [hsem]; exact mem_duties I _ (by omega)
  unfold Pr
  rw [Rest_step hn, tok_eq]
  iintro ⟨⟨#HF, ⟨%W, HO⟩, ⟨Ht, HT⟩, HP, HD⟩, Hpay, HR⟩
  icases Ht with ⟨Ht, -⟩
  iapply (Rounds.wp_signal 𝒱₀ ER (Rd I) (d : Thread nD τ) none (dst := (peer n d : Thread nD τ)) (sem := sem) (r := 0) (d := n) (κ := K (cell (peer n d) (sm n)))
      hd (k' := 1) ha () (owing d (n + 1)) hO)
    $$ [HO Ht Hpay]
  · rw [hsem, payload_eq]
    isplitr; · iapply (inv_get (peer n d) (by omega : n < 96)) $$ HF
    isplitl [HO]; · iexact HO
    isplitl [Ht]; · iexact Ht
    isplitl [Hpay]; · iexact Hpay
    · iapply (reached_get hn hb) $$ HF
  iintro HO
  iapply hk
  unfold Pr
  isplitr [HR]
  · isplitr; · iexact HF
    isplitl [HO]; · iexists W; iexact HO
    iframe
  · iexact HR

set_option maxRecDepth 8192 in
/-- A wait, with what it needs of credit. -/
theorem wait_step {op : TpuEff nD τ sig (Elt F) Λ₀ .tc PUnit} {s : SemLoc sig} {m : ℕ} {k : PUnit → Prog (TpuEff nD τ sig (Elt F) Λ₀ .tc) α}
    (hw : ∀ K : PUnit → sProp (MM F), wpE (defs₀ (F := F)) 𝒱₀ (d : Thread nD τ) none Set.univ op K = waitSpec (d : Thread nD τ) Set.univ s m K)
    (hs : s = ws w) (hm : m = wamt w) (hw66 : w < 66)
    (hl : ∀ j ∈ Finset.Ico n 64, level (ws w) < level (sm j))
    (hk : Pr I K d b n (w + 1) ∗ ((bigSep ((Finset.range 96).filter fun j => sm j = ws w) fun j => Pay I d j) ∗ R) ⊢ bwp d (k ⟨⟩) Q) :
    Pr I K d b n w ∗ ((if isSend w then crd d w else iprop(emp)) ∗ R) ⊢ bwp d (.op op k) Q := by
  subst hs hm
  unfold Pr
  rw [Rest_step hw66, pos_eq]
  iintro ⟨⟨#HF, ⟨%W, HO⟩, HT, ⟨Hp, HP⟩, HD⟩, Hc, HR⟩
  icases Hp with ⟨Hat, Hc'⟩
  have hcr : iprop((if isSend w then crd d w else iprop(emp)) ∗ (if isSend w then iprop(emp) else crd (F := F) d w)) ⊢ crd d w := by
    by_cases h : isSend w
    · rw [if_pos h, if_pos h]; iintro ⟨H, -⟩; iexact H
    · rw [if_neg h, if_neg h]; iintro ⟨-, H⟩; iexact H
  ihave Hcr := (hcr.trans (Entails.of_eq (crd_eq d w))) $$ [Hc Hc']
  · isplitl [Hc] <;> iassumption
  have hinv : Facts I K d b ⊢ cellInv ER (Rd I) (K (cell d (ws w))) (cell d (ws w)) := by
    unfold Facts
    iintro ⟨#H, -⟩
    iapply (el (Φ := fun i => cellInv ER (Rd I) (K (cell d (ws i))) (cell d (ws i))) (Finset.mem_range.mpr hw66))
    iapply (el (Φ := fun c : Dev nD => bigSep (Finset.range 66) fun i => cellInv ER (Rd I) (K (cell c (ws i))) (cell c (ws i))) (Finset.mem_univ d))
    iexact H
  have hmw : Facts I K d b ⊢ MayWait (d : Thread nD τ) (ws w) () (owing d n) := by
    unfold Facts
    iintro ⟨-, #H, -⟩
    iapply (mayWait d n (ws w) hl)
    iexact H
  iapply (Rounds.wp_wait_rest_token 𝒱₀ ER (Rd I) (d : Thread nD τ) none (κ := K (cell d (ws w))) hw (Set.mem_univ _) () (O := owing d n) (W := W) (R := 0) (m := 0) (T := ∅)
      ((Nat.zero_add _).trans (expect_eq I d hw66).symm)) $$ [Hcr HO Hat]
  · isplitr; · iapply hinv $$ HF
    isplitl [Hcr]; · iexact Hcr
    isplitl [HO]; · iexact HO
    isplitr
    · iapply hmw $$ HF
    iexact Hat
  iintro ⟨HO, Hat, -, Hpay⟩
  iapply hk
  unfold Pr
  rw [Done_step, fin_eq]
  isplitr [HR Hpay]
  · isplitr; · iexact HF
    isplitl [HO]; · iexists _; iexact HO
    isplitl [HT]; · iexact HT
    isplitl [HP]; · iexact HP
    isplitl [Hat]; · iexact Hat
    iexact HD
  isplitl [Hpay]
  · rw [Finset.sdiff_empty, duties_eq]
    iexact Hpay
  · iexact HR

theorem wamt_wix (j : Fin 96) (h : 16 ≤ j.val) (h' : j.val < 48 ∨ 64 ≤ j.val) : wamt (wix j) = amt j := by revert j; decide +kernel
theorem amt_48 (j : Fin 48) (h : 16 ≤ j.val) : amt (j + 48) = amt j := by revert j; decide +kernel
theorem isSend_wix (j : Fin 96) (h : 16 ≤ j.val) : isSend (wix j) ↔ 64 ≤ j.val := by revert j; decide +kernel

/-- A wait for the sender's own completion of transfer `j - 48`. -/
theorem wait_sent {op : TpuEff nD τ sig (Elt F) Λ₀ .tc PUnit} {s : SemLoc sig} {m : ℕ} {k : PUnit → Prog (TpuEff nD τ sig (Elt F) Λ₀ .tc) α}
    (hw : ∀ K : PUnit → sProp (MM F), wpE (defs₀ (F := F)) 𝒱₀ (d : Thread nD τ) none Set.univ op K = waitSpec (d : Thread nD τ) Set.univ s m K)
    (j : ℕ) (hj : 64 ≤ j) (hj' : j < 96) (hwj : w = wix j) (hs : s = sm j) (hm : m = amt j)
    (hl : ∀ i ∈ Finset.Ico n 64, level (sm j) < level (sm i))
    (hk : Pr I K d b n (w + 1) ∗ (Pay I d j ∗ R) ⊢ bwp d (k ⟨⟩) Q) :
    Pr I K d b n w ∗ (crd d (wix j) ∗ R) ⊢ bwp d (.op op k) Q := by
  have hws : ws (wix j) = sm j := ws_wix ⟨j, hj'⟩
  have h := wait_step (I := I) (K := K) (d := d) (b := b) (n := n) (w := w) (R := R) (Q := Q) (k := k) hw (by rw [hs, hwj, hws])
    (by rw [hm, hwj]; exact (wamt_wix ⟨j, hj'⟩ (by simp; omega) (.inr hj)).symm) (by rw [hwj]; exact wix_lt ⟨j, hj'⟩)
    (by rw [hwj, hws]; exact hl) (by
      rw [hwj, hws, filt ⟨j, hj'⟩ (by simp; omega) (.inr hj), bigSep_singleton, ← hwj]; exact hk)
  rw [if_pos (by rw [hwj]; exact (isSend_wix ⟨j, hj'⟩ (by simp; omega)).mpr hj)] at h
  rw [← hwj]; exact h

/-- A wait for what transfer `j` lands. -/
theorem wait_landed {op : TpuEff nD τ sig (Elt F) Λ₀ .tc PUnit} {s : SemLoc sig} {m : ℕ} {k : PUnit → Prog (TpuEff nD τ sig (Elt F) Λ₀ .tc) α}
    (hw : ∀ K : PUnit → sProp (MM F), wpE (defs₀ (F := F)) 𝒱₀ (d : Thread nD τ) none Set.univ op K = waitSpec (d : Thread nD τ) Set.univ s m K)
    (j : ℕ) (hj : 16 ≤ j) (hj' : j < 48) (hwj : w = wix j) (hs : s = sm j) (hm : m = amt j)
    (hl : ∀ i ∈ Finset.Ico n 64, level (sm j) < level (sm i))
    (hk : Pr I K d b n (w + 1) ∗ (Pay I d j ∗ R) ⊢ bwp d (k ⟨⟩) Q) :
    Pr I K d b n w ∗ R ⊢ bwp d (.op op k) Q := by
  have hws : ws (wix j) = sm j := ws_wix ⟨j, by omega⟩
  have h := wait_step (I := I) (K := K) (d := d) (b := b) (n := n) (w := w) (R := R) (Q := Q) (k := k) hw (by rw [hs, hwj, hws])
    (by rw [hm, hwj]; exact (wamt_wix ⟨j, by omega⟩ hj (.inl hj')).symm) (by rw [hwj]; exact wix_lt ⟨j, by omega⟩)
    (by rw [hwj, hws]; exact hl) (by
      rw [hwj, hws, filt ⟨j, by omega⟩ hj (.inl hj'), bigSep_singleton, ← hwj]; exact hk)
  rw [if_neg (by rw [hwj, isSend_wix ⟨j, by omega⟩ hj]; simp; omega)] at h
  iintro ⟨H, HR⟩
  iapply h
  iframe

/-- Payment `n` by a transfer. -/
theorem pay_send {sp sp' : Space} {s : Shape} {e : EltTy} {c' : Thread nD τ} {src : Memref sig .tc sp s e} {dst : Memref sig c'.2.kind sp' s e}
    {hsc : dst.view.ref.isScScratch = false} {sS sem : SemLoc sig} {hsrc : src.view.WordExact} {hdst : dst.view.WordExact}
    {hsem : DmaTarget.Typed sp sem (.remote c' dst sS hsc)} {k : PUnit → Prog (TpuEff nD τ sig (Elt F) Λ₀ .tc) α} {q : PosShare TreeShare}
    {fs : Buf (Elt F) (src.view.loc (d : Thread nD τ))} {fd : Buf (Elt F) (dst.view.loc c')}
    (hn : 16 ≤ n) (hn' : n < 48) (hb : b = true) (hc : c' = (peer n d : Thread nD τ)) (hsS : sS = sm (n + 48)) (hsm : sem = sm n)
    (hN : dst.view.amount sem = amt n)
    (hpay₁ : (src.view.loc (d : Thread nD τ) ↦[src.view.set]{q} fs) ⊢ Pay I d (n + 48))
    (hpay₂ : (dst.view.loc c' ↦[dst.view.set]{fullShare} (dst.view.write (Elt F) fd (src.view.read (Elt F) fs) Finset.univ)) ⊢ Pay I (peer n d) n)
    (hk : Pr I K d b (n + 1) w ∗ (crd d (wix (n + 48)) ∗ R) ⊢ bwp d (k ⟨⟩) Q) :
    Pr I K d b n w ∗ ((src.view.loc (d : Thread nD τ) ↦[src.view.set]{q} fs) ∗ (dst.view.loc c' ↦[dst.view.set]{fullShare} fd) ∗ R)
      ⊢ bwp d (.op (.enqueueDma src (.remote c' dst sS hsc) sem hsrc hdst hsem) k) Q := by
  subst hc hsS hsm
  unfold Pr
  rw [Rest_step (by omega), tok_eq, if_pos ⟨hn, hn'⟩]
  iintro ⟨⟨#HF, ⟨%W, HO⟩, ⟨Ht, HT⟩, HP, HD⟩, Hs, Hd, HR⟩
  icases Ht with ⟨Ht, Hts⟩
  iapply (Rounds.wp_send_pointsTo 𝒱₀ ER (Rd I) (d : Thread nD τ) none (c' := (peer n d : Thread nD τ)) (src := src) (dst := dst)
      (sS := sm (n + 48)) (sem := sm n) (q := q) (fs := fs) (fd := fd) (κ₁ := K (cell d (sm (n + 48)))) (κ₂ := K (cell (peer n d) (sm n)))
      (r₁ := 0) (r₂ := 0) (d₁ := n + 48) (d₂ := n)
      (mem_duties I d (by omega)) (mem_duties I _ (by omega))
      () () (amt n) hN (amt_48 ⟨n, hn'⟩ hn) rfl (owing d (n + 1)) (owing_step d (by omega)) (W := W)
      hpay₁ hpay₂) $$ [Hs Hd HO Ht Hts]
  · isplitr; · iapply (inv_get d (by omega : n + 48 < 96)) $$ HF
    isplitr; · iapply (inv_get (peer n d) (by omega : n < 96)) $$ HF
    isplitl [Hs]; · iexact Hs
    isplitl [Hd]; · iexact Hd
    isplitl [HO]; · iexact HO
    isplitl [Hts]; · iexact Hts
    isplitr
    · iapply (Own_get d (by omega : n + 48 < 96)); iapply own_get; iexact HF
    isplitl [Ht]; · iexact Ht
    iapply (reached_get (by omega) (.inr hb)) $$ HF
  iintro ⟨Hc, HO⟩
  iapply hk
  unfold Pr
  rw [crd_eq]
  isplitr [HR Hc]
  · isplitr; · iexact HF
    isplitl [HO]; · iexists W; iexact HO
    iframe
  isplitl [Hc]
  · have e1 : ws (wix (n + 48)) = sm (n + 48) := ws_wix ⟨n + 48, by omega⟩
    have e2 : wamt (wix (n + 48)) = amt n := (wamt_wix ⟨n + 48, by omega⟩ (by simp) (.inr (by simp; omega))).trans (amt_48 ⟨n, hn'⟩ hn)
    rw [e1, e2]
    iexact Hc
  · iexact HR

end Steps

end Cert.KernelIdeal.Talk
-- ==== Proof.K.Comm.lean ====
/- The exchanges: entry and exit signals, the transfers and the waits, each stretch from the protocol state before it to
   the state after. -/
module

public import proofs.«01_k».proof.Proof.K.Proto
public import proofs.«01_k».proof.Proof.K.Cut

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] (I : Ins F)

section Signals

variable {α : Type} {K : GSem nD τ sig → ℕ} {d : Dev nD} {b : Bool} {n w : ℕ} {R : sProp (MM F)} {Q : α → sProp (MM F)}

/-- One of a run of signals. -/
theorem sig_step {N : ℕ} {dst : Dev nD} {sem : Sem sig} {z : ℤ} {k : PUnit → Prog (TpuEff nD τ sig (Elt F) Λ₀ .tc) α}
    (hdst : dst = peer n d) (hnN : n < N) (hn : n < 64) (hb : n < 16 ∨ b = true) (ha : amt n = 1) (hsem : SemLoc.reg sem = sm n) (hz : z = ((1 : ℕ) : ℤ))
    (hk : Pr I K d b (n + 1) w ∗ (Rest N (n + 1) (fun j => Pay I (peer j d) j) ∗ R) ⊢ bwp d (k ⟨⟩) Q) :
    Pr I K d b n w ∗ (Rest N n (fun j => Pay I (peer j d) j) ∗ R) ⊢ bwp d (.op (.semSignal (dst, .tc) sem z) k) Q := by
  rw [Rest_step hnN]
  have h := pay_signal (I := I) (K := K) (d := d) (b := b) (n := n) (w := w) (Q := Q) (k := k) hn hb ha (dst := (dst, .tc)) (by rw [hdst]) hsem hz hk
  iintro ⟨H, ⟨HP, HS⟩, HR⟩
  iapply h
  iframe

set_option maxRecDepth 65536 in
set_option maxHeartbeats 4000000 in
theorem enter (κ : Dev nD → BitVec 32 → BitVec 32 → BitVec 32 → Sems sig S_ → Prog (TpuEff nD τ sig (Elt F) Λ₀ .tc) α)
    (hk : ∀ v2 v3 v9, Pr I K d false 16 0 ∗ (Rest 16 16 (fun j => Pay I (peer j d) j) ∗ R)
      ⊢ bwp d (κ d v2 v3 v9 (SemArray.scalar (sig.barrier 0 rfl))) Q) :
    Pr I K d false 0 0 ∗ (Rest 16 0 (fun j => Pay I (peer j d) j) ∗ R)
      ⊢ bwp d (s1 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 κ) Q := by
  unfold s1
  simp only [k0_part1_eq_skeleton, k0_part1_skel, k0_part2_eq_skeleton, k0_part2_skel, k0_part3_eq_skeleton, k0_part3_skel,
    k0_part4_eq_skeleton, k0_part4_skel, k0_part5_eq_skeleton, k0_part5_skel, semSignalWord, Prog.bind_lift, Prog.bind_assoc, Prog.bind_ret, Prog.bind_op, Prog.pure_eq_ret]
  refine BIBase.Entails.trans ?_ (Entails.of_eq (wp_deviceId ..).symm)
  iterate 16
    refine sig_step I (Fin.ext (by clear * - d; revert d; decide +kernel)) (by decide) (by decide) (.inl (by decide)) (by decide) (by decide +kernel) rfl ?_
  exact hk _ _ _

end Signals
/-! ## Windows -/

theorem unit_at {s : Shape} {off size : Fin s.rank → ℕ} {inb} (j : (Rect.unit (s := s) off size inb).shape.Idx) (a : Fin s.rank) :
    ((Rect.unit (s := s) off size inb).emb j a).val = off a + (j a).val := by
  show off a + 1 * (j a).val = _
  rw [Nat.one_mul]

theorem hlf_set {C hf : ℕ} {off size : Fin 3 → ℕ} {inb} (ho : off = ![0, 256 * hf, 0]) (h0 : size 0 = 2) (h1 : size 1 = 256) (h2 : size 2 = C) :
    (Rect.unit (s := ⟨3, ![2, 512, C]⟩) off size inb).set = hlf C hf := by
  subst ho
  ext i
  have a0 : (i 0).val < 2 := (i 0).isLt
  have a2 : (i 2).val < C := (i 2).isLt
  unfold hlf
  rw [Rect.mem_set_unit, Finset.mem_filter]
  constructor
  · intro h
    have := h 1
    exact ⟨Finset.mem_univ _, by simp [h1] at this; omega⟩
  · rintro ⟨-, h⟩ a
    match a with
    | 0 => simp [h0]; exact a0
    | 1 => simp [h1]; omega
    | 2 => simp [h2]; exact a2

theorem blk_set {C : ℕ} {c : Dev nD} {off size : Fin 3 → ℕ} {inb} (ho : off = ![0, 256 * (c.val % 2) + 16 * (c.val / 2), 0]) (h0 : size 0 = 2) (h1 : size 1 = 16) (h2 : size 2 = C) :
    (Rect.unit (s := ⟨3, ![2, 512, C]⟩) off size inb).set = blk C c := by
  subst ho
  ext i
  have a0 : (i 0).val < 2 := (i 0).isLt
  have a2 : (i 2).val < C := (i 2).isLt
  unfold blk bn
  rw [Rect.mem_set_unit, Finset.mem_filter]
  constructor
  · intro h
    have := h 1
    exact ⟨Finset.mem_univ _, by simp [h1] at this; omega⟩
  · rintro ⟨-, h⟩ a
    match a with
    | 0 => simp [h0]; exact a0
    | 1 => simp [h1]; omega
    | 2 => simp [h2]; exact a2

theorem slot_set {s : ℕ} {off : Fin 4 → ℕ} {inb} (ho : off = ![s, 0, 0, 0]) :
    (Rect.unit (s := S15x2x16x640) off S1x2x16x640.size inb).set = slot s := by
  subst ho
  ext i
  have a1 : (i 1).val < 2 := (i 1).isLt
  have a2 : (i 2).val < 16 := (i 2).isLt
  have a3 : (i 3).val < 640 := (i 3).isLt
  unfold slot
  rw [Rect.mem_set_unit, Finset.mem_filter]
  constructor
  · intro h
    have := h 0
    exact ⟨Finset.mem_univ _, by simp at this; omega⟩
  · rintro ⟨-, h⟩ a
    match a with
    | 0 => simp; omega
    | 1 => simp; omega
    | 2 => simp; omega
    | 3 => simp; omega

section Transfers

variable {α : Type} {K : GSem nD τ sig → ℕ} {d : Dev nD} {n w : ℕ} {R : sProp (MM F)} {Q : α → sProp (MM F)}

/-- What a transfer wrote through a view. -/
theorem landed (q : Dev nD) {sp : Space} {s : Shape} {e : EltTy} (v : View sig .tc sp s e) {S : Finset v.ref.ty.Idx} (hS : v.set = S)
    {num : v.ref.ty.Idx → ℕ} {nn : ℕ} {T : v.ref.ty.Contents (Elt F)} (fd : v.ref.ty.Contents (Elt F)) (w : s.Idx → Elt F e)
    (h : ∀ x, num (v.emb x) < nn → cast (congrArg (Elt F) v.elt_eq.symm) (w x) = T (v.emb x)) :
    (v.loc (q : Thread nD τ) ↦[v.set]{fullShare} v.write (Elt F) fd w Finset.univ) ⊢ upto q v.ref S fullShare num nn T := by
  subst hS
  unfold upto
  iintro H
  iexists v.write (Elt F) fd w Finset.univ
  isplitr
  · ipureintro
    intro i hi hn
    obtain ⟨x, -, rfl⟩ := Finset.mem_map.mp hi
    rw [View.write_emb_of_mem _ _ (Finset.mem_univ x)]
    exact h x hn
  · iexact H

/-- A transfer out of a window of a buffer whose contents are known. -/
theorem send_step {bi : Fin (sig.nNear .tc .vmem)} {bh : sig.names .tc .vmem bi = true} {S : Finset (vb bi bh).ty.Idx} {q : PosShare TreeShare} {num : (vb bi bh).ty.Idx → ℕ} {nn : ℕ}
    {T : (vb bi bh).ty.Contents (Elt F)} {r : Rect (vb bi bh).ty.shape} {hr : ∀ a, r.stride a = 1} {c : Dev nD} {sp' : Space}
    {dst : Memref sig .tc sp' r.shape (vb bi bh).ty.elt} {hsc : dst.view.ref.isScScratch = false} {sS sem : SemLoc sig}
    {hsrc : ((wm bi bh).slice r hr).view.WordExact} {hdst : dst.view.WordExact} {hsem : DmaTarget.Typed .vmem sem (.remote (Dev.tc c) dst sS hsc)}
    {k : PUnit → Prog (TpuEff nD τ sig (Elt F) Λ₀ .tc) α} {S' : Finset dst.view.ref.ty.Idx}
    (hn : 16 ≤ n) (hn' : n < 48) (hc : c = peer n d) (hsS : sS = sm (n + 48)) (hsm : sem = sm n) (hN : dst.view.amount sem = amt n)
    (hS : r.set = S) (hS' : dst.view.set = S')
    (hpay₁ : upto d (vb bi bh) S q num nn T ⊢ Pay I d (n + 48))
    (hpay₂ : ∀ (f : (vb bi bh).ty.Contents (Elt F)) (fd : dst.view.ref.ty.Contents (Elt F)), (∀ j, num (r.emb j) < nn → f (r.emb j) = T (r.emb j)) →
      (dst.view.loc (peer n d : Thread nD τ) ↦[dst.view.set]{fullShare} dst.view.write (Elt F) fd (fun j => f (r.emb j)) Finset.univ) ⊢ Pay I (peer n d) n)
    (hk : Pr I K d true (n + 1) w ∗ (crd d (wix (n + 48)) ∗ R) ⊢ bwp d (k ⟨⟩) Q) :
    Pr I K d true n w ∗ (upto d (vb bi bh) S q num nn T ∗ any (peer n d) dst.view.ref S' ∗ R)
      ⊢ bwp d (.op (.enqueueDma ((wm bi bh).slice r hr) (.remote (Dev.tc c) dst sS hsc) sem hsrc hdst hsem) k) Q := by
  subst hc hS hS'
  have e : ((wm bi bh).slice r hr).view.set = r.set := View.set_slice_whole _ _
  unfold any upto
  unfold upto at hpay₁
  iintro ⟨HP, ⟨%f, %hf, Hs⟩, ⟨%fd, Hd⟩, HR⟩
  have h1 : (((wm bi bh).slice r hr).view.loc (d : Thread nD τ) ↦[((wm bi bh).slice r hr).view.set]{q} f) ⊢ Pay I d (n + 48) := by
    rw [e]
    refine BIBase.Entails.trans ?_ hpay₁
    iintro H
    iexists f
    isplitr
    · ipureintro; exact hf
    · iexact H
  iapply (pay_send (I := I) (K := K) (d := d) (b := true) (n := n) (w := w) (R := R) (Q := Q) (k := k) (c' := (peer n d : Thread nD τ))
    (src := (wm bi bh).slice r hr) (dst := dst) (q := q) (fs := f) (fd := fd) hn hn' rfl rfl hsS hsm hN h1
    (hpay₂ f fd fun j hj => hf _ (r.toLoadRect.idx_mem j) hj) hk)
  isplitl [HP]; · iexact HP
  isplitl [Hs]
  · rw [e]; iexact Hs
  isplitl [Hd]; · iexact Hd
  iexact HR

end Transfers

section Stretches

variable {α : Type} {K : GSem nD τ sig → ℕ} {d : Dev nD} {n w : ℕ} {R : sProp (MM F)} {Q : α → sProp (MM F)}

/-- What the entry signals hand over, their records apart. -/
def Rcv (q : Dev nD) (j : ℕ) : sProp (MM F) :=
  if j = 0 then iprop(any (xp q) cc0_scratch4 Finset.univ ∗ any (xp q) cc0_scratch14 (hlf 512 (q.val % 2)))
  else iprop(any (nb q (15 - j)) cc0_scratch5 (slot (j - 1)) ∗ any (nb q (15 - j)) cc0_scratch14 (blk 512 q))

theorem Pay_entry (q : Dev nD) {j : ℕ} (hj : j < 16) : Pay I q j ⊢ iprop(Rcv q j ∗ Own (payer j q)) := by
  unfold Pay Rcv payer
  by_cases h : j = 0
  · rw [if_pos h, if_pos h, if_pos h]
    iintro ⟨H1, H2, H3⟩; iframe
  · rw [if_neg h, if_neg h, if_neg h, if_pos hj, if_pos hj]
    iintro ⟨H1, H2, H3⟩; iframe

theorem range_succ_front (N : ℕ) (A : ℕ → sProp (MM F)) : bigSep (Finset.range (N + 1)) A = iprop(A 0 ∗ Done N fun i => A (i + 1)) := by
  rw [Finset.range_add_one', bigSep_insert (by simp), bigSep_map]
  rfl

theorem entered {b : Bool} : iprop(Pr I K d b n w ∗ bigSep (Finset.range 16) (Pay I d))
    ⊢ iprop(Pr I K d true n w ∗ any (xp d) cc0_scratch4 Finset.univ ∗ any (xp d) cc0_scratch14 (hlf 512 (d.val % 2))
      ∗ Done 15 (fun k => any (nb d k) cc0_scratch5 (slot (14 - k))) ∗ Done 15 (fun k => any (nb d k) cc0_scratch14 (blk 512 d))) := by
  have h1 : bigSep (Finset.range 16) (Pay I d) ⊢ bigSep (Finset.range 16) fun j => iprop(Rcv d j ∗ Own (payer j d)) :=
    bigSep_mono fun j hj => Pay_entry I d (Finset.mem_range.mp hj)
  have h2 : bigSep (Finset.range 16) (fun j => iprop(Rcv (F := F) d j ∗ Own (payer j d)))
      = iprop(bigSep (Finset.range 16) (Rcv d) ∗ More d true) := bigSep_sep' ..
  have h3 : bigSep (Finset.range 16) (Rcv (F := F) d) ⊢ iprop((any (xp d) cc0_scratch4 Finset.univ ∗ any (xp d) cc0_scratch14 (hlf 512 (d.val % 2)))
      ∗ Done 15 (fun k => any (nb d k) cc0_scratch5 (slot (14 - k))) ∗ Done 15 (fun k => any (nb d k) cc0_scratch14 (blk 512 d))) := by
    rw [range_succ_front, Done_flip]
    unfold Done
    rw [← bigSep_sep']
    refine sep_mono .rfl (bigSep_mono fun k hk => ?_)
    have hk := Finset.mem_range.mp hk
    unfold Rcv
    rw [if_neg (by omega), show 15 - (15 - 1 - k + 1) = k by omega, show 15 - 1 - k + 1 - 1 = 14 - k by omega]
    exact (show iprop(any (nb d k) cc0_scratch5 (slot (14 - k)) ∗ any (nb d k) cc0_scratch14 (blk 512 d)) ⊢ _ from BIBase.Entails.rfl)
  unfold Pr Facts
  iintro ⟨⟨⟨#H1, #H2, #H3, #H4, -⟩, HO, HT, HP, HD⟩, H⟩
  ihave H := (h1.trans (Entails.of_eq h2)) $$ H
  icases H with ⟨H, #HM⟩
  ihave H := h3 $$ H
  icases H with ⟨⟨Ha, Hb⟩, Hc, Hd⟩
  iframe
  isplitr; · iexact H1
  isplitr; · iexact H2
  isplitr; · iexact H3
  isplitr; · iexact H4
  iexact HM

end Stretches

end Cert.KernelIdeal.Talk
-- ==== Proof.K.Meet.lean ====
/- The stretches in which a device only talks: it waits at the entry and sends half of its accumulator to its partner,
   sends summed rows to the devices of its parity, sends its normalised rows to the same devices, sends its normalised
   half to its partner, and leaves. -/
module

public import proofs.«01_k».proof.Proof.K.Comm

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)
variable {α : Type} {K : GSem nD τ sig → ℕ} {d : Dev nD} {n w : ℕ} {R : sProp (MM F)} {Q : α → sProp (MM F)}

/-- A wait for a transfer of one's own, in a family of such waits. -/
theorem group_sent {b : Bool} {op : TpuEff nD τ sig (Elt F) Λ₀ .tc PUnit} {s : SemLoc sig} {m : ℕ} {k : PUnit → Prog (TpuEff nD τ sig (Elt F) Λ₀ .tc) α}
    (jf : ℕ → ℕ) (i : ℕ) (hi : i < 15)
    (hw : ∀ K : PUnit → sProp (MM F), wpE (defs₀ (F := F)) 𝒱₀ (d : Thread nD τ) none Set.univ op K = waitSpec (d : Thread nD τ) Set.univ s m K)
    (hj : 64 ≤ jf i) (hj' : jf i < 96) (hwj : w = wix (jf i)) (hs : s = sm (jf i)) (hm : m = amt (jf i))
    (hl : ∀ a ∈ Finset.Ico n 64, level (sm (jf i)) < level (sm a))
    (hk : Pr I K d b n (w + 1) ∗ (Rest 15 (i + 1) (fun a => crd d (wix (jf a))) ∗ Done (i + 1) (fun a => Pay I d (jf a)) ∗ R) ⊢ bwp d (k ⟨⟩) Q) :
    Pr I K d b n w ∗ (Rest 15 i (fun a => crd d (wix (jf a))) ∗ Done i (fun a => Pay I d (jf a)) ∗ R) ⊢ bwp d (.op op k) Q := by
  rw [Rest_step hi]
  rw [Done_step] at hk
  iintro ⟨HP, ⟨Hc, HA⟩, HB, HR⟩
  iapply (wait_sent (I := I) (K := K) (b := b) (n := n) (w := w) (Q := Q) (k := k)
    (R := iprop(Rest 15 (i + 1) (fun a => crd d (wix (jf a))) ∗ Done i (fun a => Pay I d (jf a)) ∗ R))
    hw (jf i) hj hj' hwj hs hm hl (by
      refine BIBase.Entails.trans ?_ hk
      iintro ⟨HP, Hp, HA, HB, HR⟩
      isplitl [HP]; · iexact HP
      isplitl [HA]; · iexact HA
      isplitl [Hp HB]
      · isplitl [Hp]; · iexact Hp
        iexact HB
      iexact HR))
  isplitl [HP]; · iexact HP
  isplitl [Hc]; · iexact Hc
  isplitl [HA]; · iexact HA
  isplitl [HB]; · iexact HB
  iexact HR

/-- A wait for a transfer from another device, in a family of such waits. -/
theorem group_landed {b : Bool} {op : TpuEff nD τ sig (Elt F) Λ₀ .tc PUnit} {s : SemLoc sig} {m : ℕ} {k : PUnit → Prog (TpuEff nD τ sig (Elt F) Λ₀ .tc) α}
    {A B : sProp (MM F)} (jf : ℕ → ℕ) (i : ℕ)
    (hw : ∀ K : PUnit → sProp (MM F), wpE (defs₀ (F := F)) 𝒱₀ (d : Thread nD τ) none Set.univ op K = waitSpec (d : Thread nD τ) Set.univ s m K)
    (hj : 16 ≤ jf i) (hj' : jf i < 48) (hwj : w = wix (jf i)) (hs : s = sm (jf i)) (hm : m = amt (jf i))
    (hl : ∀ a ∈ Finset.Ico n 64, level (sm (jf i)) < level (sm a))
    (hk : Pr I K d b n (w + 1) ∗ (A ∗ B ∗ Done (i + 1) (fun a => Pay I d (jf a)) ∗ R) ⊢ bwp d (k ⟨⟩) Q) :
    Pr I K d b n w ∗ (A ∗ B ∗ Done i (fun a => Pay I d (jf a)) ∗ R) ⊢ bwp d (.op op k) Q := by
  rw [Done_step] at hk
  refine wait_landed hw (jf i) hj hj' hwj hs hm hl (.trans ?_ hk)
  iintro ⟨HP, Hp, HA, HB, HD, HR⟩
  isplitl [HP]; · iexact HP
  isplitl [HA]; · iexact HA
  isplitl [HB]; · iexact HB
  isplitl [Hp HD]
  · isplitl [Hp]; · iexact Hp
    iexact HD
  iexact HR

theorem unit_is {s : Shape} {off off' size : Fin s.rank → ℕ} {inb} (ho : off = off') (j : (Rect.unit (s := s) off size inb).shape.Idx) (a : Fin s.rank) :
    ((Rect.unit (s := s) off size inb).emb j a).val = off' a + (j a).val := by
  subst ho; exact unit_at j a

theorem Pay_sx (q : Dev nD) : Pay I q 64 = any q cc0_scratch0 (hlf 640 (1 - q.val % 2)) := rfl
theorem Pay_rx (q : Dev nD) : Pay I q 16 = upto q cc0_scratch4 Finset.univ fullShare ok3 1 (orxT I q) := rfl
theorem Pay_agxs (q : Dev nD) : Pay I q 95 = upto q cc0_scratch14 (hlf 512 (q.val % 2)) fullShare.left (fun _ => 0) 1 (c3 (FIN I)) := rfl
theorem Pay_agxr (q : Dev nD) : Pay I q 47 = upto q cc0_scratch14 (hlf 512 (1 - q.val % 2)) fullShare (fun _ => 0) 1 (c3 (FIN I)) := rfl
theorem Pay_yzr (q : Dev nD) {k : ℕ} (hk : k < 15) : Pay I q (17 + k) = upto q cc0_scratch5 (slot (14 - k)) fullShare ok4 1 (oryT I q) := by
  unfold Pay
  rw [if_neg (by omega), if_neg (by omega), if_neg (by omega), if_pos (by omega), show 31 - (17 + k) = 14 - k by omega]
theorem Pay_yzs (q : Dev nD) {k : ℕ} (hk : k < 15) : Pay I q (65 + k) = any q cc0_scratch0 (blk 640 (nb q k)) := by
  unfold Pay
  rw [if_neg (by omega), if_neg (by omega), if_neg (by omega), if_neg (by omega), if_neg (by omega), if_neg (by omega), if_neg (by omega), if_neg (by omega),
    if_pos (by omega), show 65 + k - 65 = k by omega]
theorem Pay_ags (q : Dev nD) {k : ℕ} (hk : k < 15) :
    Pay I q (80 + k) = upto q cc0_scratch14 (blk 512 q) (Transfers.shareTokN fullShare k) (fun _ => 0) 1 (c3 (FIN I)) := by
  unfold Pay
  rw [if_neg (by omega), if_neg (by omega), if_neg (by omega), if_neg (by omega), if_neg (by omega), if_neg (by omega), if_neg (by omega), if_neg (by omega),
    if_neg (by omega), if_pos (by omega), show 80 + k - 80 = k by omega]
theorem Pay_agr (q : Dev nD) {k : ℕ} (hk : k < 15) :
    Pay I q (32 + k) = upto q cc0_scratch14 (blk 512 (nb q (14 - k))) fullShare (fun _ => 0) 1 (c3 (FIN I)) := by
  unfold Pay
  rw [if_neg (by omega), if_neg (by omega), if_neg (by omega), if_neg (by omega), if_pos (by omega), show 46 - (32 + k) = 14 - k by omega]

theorem filt_bar : (Finset.range 96).filter (fun j => sm j = ws 0) = Finset.range 16 := by decide +kernel

/-- The wait at the entry, and the half accumulator sent to the partner. -/
theorem meet (κ : Prog (TpuEff nD τ sig (Elt F) Λ₀ .tc) α)
    (hk : Pr I K d true 17 1 ∗ (crd d (wix 64) ∗ any (xp d) cc0_scratch14 (hlf 512 (d.val % 2))
        ∗ Done 15 (fun k => any (nb d k) cc0_scratch5 (slot (14 - k))) ∗ Done 15 (fun k => any (nb d k) cc0_scratch14 (blk 512 d)) ∗ R) ⊢ bwp d κ Q) :
    Pr I K d false 16 0 ∗ (upto d cc0_scratch0 (hlf 640 (1 - d.val % 2)) fullShare ok3 1 (c3 (OA I d)) ∗ R)
      ⊢ bwp d (s4 (Memref.whole cc0_scratch0) (Memref.isWhole_whole _) (Memref.whole cc0_scratch4) (Memref.isWhole_whole _) cc0_scratch6 cc0_scratch7 d (SemArray.scalar (sig.barrier 0 rfl)) κ) Q := by
  unfold s4
  simp only [semWaitWord, Prog.bind_lift, Prog.bind_assoc, Prog.bind_ret, Prog.bind_op, Prog.pure_eq_ret]
  refine BIBase.Entails.trans ?_ (wait_step (I := I) (K := K) (d := d) (b := false) (n := 16) (w := 0) (Q := Q)
    (R := iprop(upto d cc0_scratch0 (hlf 640 (1 - d.val % 2)) fullShare ok3 1 (c3 (OA I d)) ∗ R))
    (s := barS) (m := 16) (fun X => wpE_semWait_eq (k := 16) 𝒱₀ (d : Thread nD τ) none Set.univ X) rfl rfl (by decide) (by decide +kernel) ?_)
  · iintro ⟨HP, HR⟩
    isplitl [HP]; · iexact HP
    isplitr; · exact (show _ ⊢ iprop(emp) from by iintro -; iempintro)
    iexact HR
  rw [filt_bar]
  have h := entered I (K := K) (d := d) (n := 16) (w := 1) (b := false)
  iintro ⟨HP, HB, HS, HR⟩
  ihave H := h $$ [HP HB]
  · isplitl [HP]; · iexact HP
    iexact HB
  icases H with ⟨HP, Hx, Ho, H5, H14⟩
  iapply (send_step I (K := K) (d := d) (n := 16) (w := 1) (Q := Q) (S := hlf 640 (1 - d.val % 2)) (S' := Finset.univ) (num := ok3) (nn := 1)
    (T := c3 (OA I d)) (q := fullShare) (bi := 6) (bh := rfl)
    (R := iprop(any (xp d) cc0_scratch14 (hlf 512 (d.val % 2)) ∗ Done 15 (fun k => any (nb d k) cc0_scratch5 (slot (14 - k)))
      ∗ Done 15 (fun k => any (nb d k) cc0_scratch14 (blk 512 d)) ∗ R))
    (by decide) (by decide) (Fin.ext (by clear * - d; revert d; decide +kernel)) (by decide +kernel) (by decide +kernel) (by exact credits.1)
    (by exact hlf_set (off_eq d).1 rfl rfl rfl) (by exact View.set_whole _) (by exact upto_any) (fun f fd hf => ?_) hk)
  · have hx := xp_xp d
    have hd : (xp d).val % 2 = 1 - d.val % 2 := by clear * - d; revert d; decide +kernel
    refine landed (xp d) (Memref.whole cc0_scratch4).view (View.set_whole _) fd _ fun x hn => ?_
    have e : ∀ a, ((Rect.unit (s := S2x512x640) (k0_off37 d) S2x256x640.size (k0_off37_inb d)).emb x a).val = (![0, 256 * (1 - d.val % 2), 0] : Fin 3 → ℕ) a + (x a).val :=
      fun a => unit_is (off_eq d).1 x a
    have e0 := (e 0).trans (Nat.zero_add _)
    have e1 := e 1
    have e2 := (e 2).trans (Nat.zero_add _)
    refine (hf x (by unfold ok3; rw [e2]; exact hn)).trans ?_
    show OA I d _ _ _ = OA I (xp (xp d)) (x 0).val (256 * ((xp d).val % 2) + (x 1).val) (x 2).val
    rw [e0, e1, e2, hx, hd]
    rfl
  · isplitl [HP]; · iexact HP
    isplitl [HS]; · iexact HS
    isplitl [Hx]; · iexact Hx
    isplitl [Ho]; · iexact Ho
    isplitl [H5]; · iexact H5
    isplitl [H14]; · iexact H14
    iexact HR

/-- The two waits that follow it. -/
theorem met (κ : Prog (TpuEff nD τ sig (Elt F) Λ₀ .tc) α)
    (hk : Pr I K d true 17 3 ∗ (Pay I d 16 ∗ Pay I d 64 ∗ R) ⊢ bwp d κ Q) :
    Pr I K d true 17 1 ∗ (crd d (wix 64) ∗ R) ⊢ bwp d (s6 (Memref.whole cc0_scratch0) (Memref.isWhole_whole _) (Memref.whole cc0_scratch4) (Memref.isWhole_whole _) cc0_scratch6 cc0_scratch7 d κ) Q := by
  unfold s6
  simp only [Prog.bind_lift, Prog.bind_assoc, Prog.bind_ret, Prog.bind_op, Prog.pure_eq_ret]
  refine wait_sent (fun X => wpE_waitDma2_eq 𝒱₀ (d : Thread nD τ) none Set.univ X) 64 (by decide) (by decide) rfl (by decide +kernel) (by exact credits.1) (by decide +kernel) ?_
  refine wait_landed (fun X => wpE_waitDma2_eq 𝒱₀ (d : Thread nD τ) none Set.univ X) 16 (by decide) (by decide) rfl (by decide +kernel) (by exact credits.1) (by decide +kernel) ?_
  exact hk

/-! ## The summed rows -/

theorem peer_yz (k : Fin 15) (c : Dev nD) : peer (17 + k) c = nb c k := by revert k c; decide +kernel
theorem peer_ag (k : Fin 15) (c : Dev nD) : peer (32 + k) c = nb c k := by revert k c; decide +kernel

theorem up4_eq {h : (S2x16x640 : Shape).numel = (S1x2x16x640 : Shape).numel} (j : S2x16x640.Idx) : Shape.reshapeEquiv h j = up4 j :=
  cast_slot (fun i => i) j

/-- What a transfer of summed rows leaves in its slot. -/
theorem yz_lands {k : ℕ} (hk : k < 15) {off : Fin 3 → ℕ} {inb} {off' : Fin 4 → ℕ} {inb' hr hq}
    (ho : off = ![0, 256 * ((nb d k).val % 2) + 16 * ((nb d k).val / 2), 0]) (ho' : off' = ![14 - k, 0, 0, 0])
    (f : (vb 6 rfl).ty.Contents (Elt F)) (fd : (vb 11 rfl).ty.Contents (Elt F))
    (hf : ∀ j, ok3 ((Rect.unit (s := S2x512x640) off S2x16x640.size inb).emb j) < 1 →
      f ((Rect.unit (s := S2x512x640) off S2x16x640.size inb).emb j) = c3 (X1 I d) ((Rect.unit (s := S2x512x640) off S2x16x640.size inb).emb j)) :
    ((((Memref.whole cc0_scratch5).slice (Rect.unit (s := S15x2x16x640) off' S1x2x16x640.size inb') hr).squeeze S2x16x640 hq).view.loc (nb d k : Thread nD τ)
      ↦[(((Memref.whole cc0_scratch5).slice (Rect.unit (s := S15x2x16x640) off' S1x2x16x640.size inb') hr).squeeze S2x16x640 hq).view.set]{fullShare}
      (((Memref.whole cc0_scratch5).slice (Rect.unit (s := S15x2x16x640) off' S1x2x16x640.size inb') hr).squeeze S2x16x640 hq).view.write (Elt F) fd
        (fun j => f ((Rect.unit (s := S2x512x640) off S2x16x640.size inb).emb j)) Finset.univ) ⊢ Pay I (nb d k) (17 + k) := by
  rw [Pay_yzr I (nb d k) hk]
  have hset : (((Memref.whole cc0_scratch5).slice (Rect.unit (s := S15x2x16x640) off' S1x2x16x640.size inb') hr).squeeze S2x16x640 hq).view.set = slot (14 - k) := ((View.set_reshape ..).trans (View.set_slice_whole ..)).trans (slot_set ho')
  refine landed (num := ok4) (nn := 1) (T := oryT I (nb d k)) (nb d k) (((Memref.whole cc0_scratch5).slice (Rect.unit (s := S15x2x16x640) off' S1x2x16x640.size inb') hr).squeeze S2x16x640 hq).view hset fd (fun j => f ((Rect.unit (s := S2x512x640) off S2x16x640.size inb).emb j)) fun x hn => ?_
  have hx : ((((Memref.whole cc0_scratch5).slice (Rect.unit (s := S15x2x16x640) off' S1x2x16x640.size inb') hr).squeeze S2x16x640 hq).view.emb x)
      = (Rect.unit (s := S15x2x16x640) off' S1x2x16x640.size inb').emb (up4 x) := by
    show (Rect.unit (s := S15x2x16x640) off' S1x2x16x640.size inb').emb (Shape.reshapeEquiv _ x) = _
    rw [up4_eq]
  rw [hx] at hn ⊢
  have e := unit_is (inb := inb) ho x
  have e0 := (e 0).trans (Nat.zero_add _)
  have e1 := e 1
  have e2 := (e 2).trans (Nat.zero_add _)
  have g := unit_is (inb := inb') ho' (up4 x)
  have g0 := (g 0).trans (Nat.add_zero _)
  have g1 := (g 1).trans (Nat.zero_add _)
  have g2 := (g 2).trans (Nat.zero_add _)
  have g3 := (g 3).trans (Nat.zero_add _)
  refine (hf x (by unfold ok3; rw [e2]; unfold ok4 at hn; rw [g3] at hn; exact hn)).trans ?_
  show X1 I d _ _ _ = X1 I (nb (nb d k) _) _ _ _
  rw [e0, e1, e2, g0, g1, g2, g3]
  have hc : nb (nb d k) (14 - k) = d := nb_nb d ⟨k, hk⟩
  show X1 I d (x 0).val _ (x 2).val = X1 I (nb (nb d k) (14 - k)) (x 0).val _ (x 2).val
  rw [hc]
  refine congrArg (fun r => X1 I d _ r _) ?_
  show 256 * ((nb d k).val % 2) + 16 * ((nb d k).val / 2) + (x 1).val = 16 * bn (nb d k) + (x 1).val
  unfold bn
  omega

/-- One transfer of summed rows. -/
theorem yz_send {i : ℕ} {off : Fin 3 → ℕ} {inb} {off' : Fin 4 → ℕ} {inb' hr hq} {hr' : ∀ a, (Rect.unit (s := S2x512x640) off S2x16x640.size inb).stride a = 1} {c : Dev nD}
    {hsc} {sS sem : SemLoc sig} {hsrc hdst hsem} {k : PUnit → Prog (TpuEff nD τ sig (Elt F) Λ₀ .tc) α}
    (hi : i < 15) (hn : n = 17 + i) (hc : c = peer n d) (hsS : sS = sm (n + 48)) (hsm : sem = sm n) (hN : ∃ p, sem = SemLoc.dma p)
    (ho : off = ![0, 256 * ((nb d i).val % 2) + 16 * ((nb d i).val / 2), 0]) (ho' : off' = ![14 - i, 0, 0, 0])
    (hk : Pr I K d true (n + 1) w ∗ (Rest 15 (i + 1) (fun a => upto d cc0_scratch0 (blk 640 (nb d a)) fullShare ok3 1 (c3 (X1 I d)))
        ∗ Rest 15 (i + 1) (fun a => any (nb d a) cc0_scratch5 (slot (14 - a))) ∗ Done (i + 1) (fun a => crd d (wix (65 + a))) ∗ R) ⊢ bwp d (k ⟨⟩) Q) :
    Pr I K d true n w ∗ (Rest 15 i (fun a => upto d cc0_scratch0 (blk 640 (nb d a)) fullShare ok3 1 (c3 (X1 I d)))
        ∗ Rest 15 i (fun a => any (nb d a) cc0_scratch5 (slot (14 - a))) ∗ Done i (fun a => crd d (wix (65 + a))) ∗ R)
      ⊢ bwp d (.op (.enqueueDma ((Memref.whole cc0_scratch0).slice (Rect.unit (s := S2x512x640) off S2x16x640.size inb) hr')
        (.remote (Dev.tc c) (((Memref.whole cc0_scratch5).slice (Rect.unit (s := S15x2x16x640) off' S1x2x16x640.size inb') hr).squeeze S2x16x640 hq) sS hsc)
        sem hsrc hdst hsem) k) Q := by
  have hp : peer n d = nb d i := by rw [hn]; exact peer_yz ⟨i, hi⟩ d
  rw [Rest_step hi, Rest_step hi]
  rw [Done_step, show 65 + i = n + 48 by omega] at hk
  iintro ⟨HP, ⟨Hs, HA⟩, ⟨Hd, HB⟩, HC, HR⟩
  iapply (send_step I (K := K) (d := d) (n := n) (w := w) (Q := Q) (k := k) (S := blk 640 (nb d i)) (S' := by exact slot (14 - i)) (num := ok3) (nn := 1)
    (T := c3 (X1 I d)) (q := fullShare) (bi := 6) (bh := rfl)
    (R := iprop(Rest 15 (i + 1) (fun a => upto d cc0_scratch0 (blk 640 (nb d a)) fullShare ok3 1 (c3 (X1 I d)))
        ∗ Rest 15 (i + 1) (fun a => any (nb d a) cc0_scratch5 (slot (14 - a))) ∗ Done i (fun a => crd d (wix (65 + a))) ∗ R))
    (by omega) (by omega) hc hsS hsm (by
      obtain ⟨p, rfl⟩ := hN
      refine Eq.trans (b := 1280) credits.2.1 ?_
      unfold amt
      rw [if_neg (by omega), if_neg (by omega), if_pos (by omega)])
    (by exact blk_set ho rfl rfl rfl) (by exact ((View.set_reshape ..).trans (View.set_slice_whole ..)).trans (slot_set ho'))
    (by rw [show n + 48 = 65 + i by omega, Pay_yzs I d hi]; exact upto_any)
    (fun f fd hf => by
      rw [hp, hn]
      exact yz_lands I hi ho ho' f fd hf) (by
      refine BIBase.Entails.trans ?_ hk
      iintro ⟨HP, Hc, HA, HB, HC, HR⟩
      isplitl [HP]; · iexact HP
      isplitl [HA]; · iexact HA
      isplitl [HB]; · iexact HB
      isplitl [Hc HC]
      · isplitl [Hc]; · iexact Hc
        iexact HC
      iexact HR))
  isplitl [HP]; · iexact HP
  isplitl [Hs]; · iexact Hs
  isplitl [Hd]; · rw [hp]; iexact Hd
  isplitl [HA]; · iexact HA
  isplitl [HB]; · iexact HB
  isplitl [HC]; · iexact HC
  iexact HR

end Cert.KernelIdeal.Talk
-- ==== Proof.K.Split.lean ====
/- Buffers cut into halves, blocks, slots and shares, and put together again. -/
module

public import proofs.«01_k».proof.Proof.K.Meet

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)
variable {d : Dev nD}

section Any

variable {b : Ref sig .tc} {q : PosShare TreeShare} {num : b.ty.Idx → ℕ} {n : ℕ} {T : b.ty.Contents (Elt F)}

theorem upto_two {S S' : Finset b.ty.Idx} (h : Disjoint S S') : upto d b (S ∪ S') q num n T ⊢ iprop(upto d b S q num n T ∗ upto d b S' q num n T) := by
  unfold upto
  iintro ⟨%f, %hf, H⟩
  ihave H := (pointsTo_union h).1 $$ H
  icases H with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

theorem two_upto {S S' : Finset b.ty.Idx} (h : Disjoint S S') : iprop(upto d b S q num n T ∗ upto d b S' q num n T) ⊢ upto d b (S ∪ S') q num n T := by
  unfold upto
  iintro ⟨⟨%f, %hf, H1⟩, ⟨%g, %hg, H2⟩⟩
  iexists S'.piecewise g f
  isplitr
  · ipureintro
    intro i hi hn
    by_cases hm : i ∈ S'
    · rw [Finset.piecewise_eq_of_mem _ _ _ hm]; exact hg i hm hn
    · rw [Finset.piecewise_eq_of_notMem _ _ _ hm]
      exact hf i ((Finset.mem_union.mp hi).resolve_right hm) hn
  · iapply (pointsTo_join h)
    isplitl [H1] <;> iassumption

theorem any_two (T : b.ty.Contents (Elt F)) {S S' : Finset b.ty.Idx} (h : Disjoint S S') : any (F := F) d b (S ∪ S') ⊢ iprop(any (F := F) d b S ∗ any (F := F) d b S') :=
  ((any_upto (F := F) (num := fun _ => 0) (n := 0) (fun _ _ => Nat.zero_le _) T).trans (upto_two h)).trans (BIClass.sep_mono upto_any upto_any)

theorem two_any (T : b.ty.Contents (Elt F)) {S S' : Finset b.ty.Idx} (h : Disjoint S S') : iprop(any (F := F) d b S ∗ any (F := F) d b S') ⊢ any (F := F) d b (S ∪ S') :=
  ((BIClass.sep_mono (any_upto (F := F) (num := fun _ => 0) (n := 0) (fun _ _ => Nat.zero_le _) T)
    (any_upto (F := F) (num := fun _ => 0) (n := 0) (fun _ _ => Nat.zero_le _) T)).trans (two_upto h)).trans upto_any

theorem any_many (T : b.ty.Contents (Elt F)) (N : ℕ) (K : ℕ → Finset b.ty.Idx) (h : ∀ t ∈ Finset.range N, ∀ t' ∈ Finset.range N, t ≠ t' → Disjoint (K t) (K t')) :
    any (F := F) d b ((Finset.range N).biUnion K) ⊢ Done N fun t => any (F := F) d b (K t) :=
  ((any_upto (F := F) (num := fun _ => 0) (n := 0) (fun _ _ => Nat.zero_le _) T).trans (upto_split _ K h)).trans (bigSep_mono fun t _ => upto_any)

theorem many_any (T : b.ty.Contents (Elt F)) (N : ℕ) (K : ℕ → Finset b.ty.Idx) (h : ∀ t ∈ Finset.range N, ∀ t' ∈ Finset.range N, t ≠ t' → Disjoint (K t) (K t')) :
    (Done N fun t => any (F := F) d b (K t)) ⊢ any (F := F) d b ((Finset.range N).biUnion K) :=
  ((show (Done N fun t => any (F := F) d b (K t)) ⊢ _ from
    bigSep_mono fun t _ => any_upto (num := fun _ => 0) (n := 0) (fun _ _ => Nat.zero_le _) T).trans (upto_merge _ K h)).trans upto_any

/-- Contents known everywhere are the known function. -/
theorem known {S : Finset b.ty.Idx} : upto d b S q (fun _ => 0) 1 T ⊢ pts d b S q T := by
  unfold upto
  iintro ⟨%f, %hf, H⟩
  iapply (Entails.of_eq (pointsTo_congr (fun i hi => hf i hi Nat.one_pos)))
  iexact H

theorem unknown {S : Finset b.ty.Idx} : pts d b S q T ⊢ upto d b S q (fun _ => 0) 1 T := by
  unfold upto
  iintro H
  iexists T
  isplitr
  · ipureintro; exact fun _ _ _ => rfl
  · iexact H

theorem share_two {S : Finset b.ty.Idx} : upto d b S q (fun _ => 0) 1 T ⊢ iprop(upto d b S q.left (fun _ => 0) 1 T ∗ upto d b S q.right (fun _ => 0) 1 T) :=
  (known.trans (pointsTo_share (PosShare.mem_left_op_right q)).1).trans (BIClass.sep_mono unknown unknown)

theorem two_share {S : Finset b.ty.Idx} : iprop(upto d b S q.left (fun _ => 0) 1 T ∗ upto d b S q.right (fun _ => 0) 1 T) ⊢ upto d b S q (fun _ => 0) 1 T :=
  ((BIClass.sep_mono known known).trans (pointsTo_share (PosShare.mem_left_op_right q)).2).trans unknown

theorem share_many {S : Finset b.ty.Idx} (N : ℕ) : upto d b S q (fun _ => 0) 1 T
    ⊢ iprop(upto d b S (Transfers.shareDrop q N) (fun _ => 0) 1 T ∗ Done N fun k => upto d b S (Transfers.shareTokN q k) (fun _ => 0) 1 T) :=
  (known.trans (Transfers.pointsTo_toks_range q N).1).trans (BIClass.sep_mono unknown (bigSep_mono fun _ _ => unknown))

theorem many_share {S : Finset b.ty.Idx} (N : ℕ) : iprop(upto d b S (Transfers.shareDrop q N) (fun _ => 0) 1 T ∗ Done N fun k => upto d b S (Transfers.shareTokN q k) (fun _ => 0) 1 T)
    ⊢ upto d b S q (fun _ => 0) 1 T :=
  ((BIClass.sep_mono known (show (Done N fun k => upto d b S (Transfers.shareTokN q k) (fun _ => 0) 1 T) ⊢ _ from bigSep_mono fun _ _ => known)).trans
    (Transfers.pointsTo_toks_range q N).2).trans unknown

end Any

/-- The sixteen devices of one parity, starting from `c`. -/
def ring (c : Dev nD) : ℕ → Dev nD
  | 0 => c
  | k + 1 => nb c k

theorem ring_onto : ∀ (c : Dev nD) (r : Fin 16), ∃ k : Fin 16, bn (ring c k.val) = 16 * (c.val % 2) + r.val := by decide +kernel
theorem ring_in : ∀ (c : Dev nD) (k : Fin 16), bn (ring c k.val) / 16 = c.val % 2 := by decide +kernel
theorem ring_ne : ∀ (c : Dev nD) (k k' : Fin 16), bn (ring c k.val) = bn (ring c k'.val) → k = k' := by decide +kernel

theorem halves (C : ℕ) {e : ℕ} (he : e < 2) : (Finset.univ : Finset (⟨3, ![2, 512, C]⟩ : Shape).Idx) = hlf C e ∪ hlf C (1 - e) := by
  ext i
  have : (i 1).val < 512 := (i 1).isLt
  simp only [hlf, Finset.mem_univ, Finset.mem_union, Finset.mem_filter, true_and, true_iff]
  omega

theorem halves_disj (C : ℕ) {e : ℕ} (he : e < 2) : Disjoint (hlf C e) (hlf C (1 - e)) := by
  refine Finset.disjoint_left.mpr fun i h h' => ?_
  have h1 := (Finset.mem_filter.mp h).2
  have h2 := (Finset.mem_filter.mp h').2
  omega

theorem half_blocks (C : ℕ) (d : Dev nD) : hlf C (d.val % 2) = (Finset.range 16).biUnion fun k => blk C (ring d k) := by
  ext i
  have hi : (i 1).val < 512 := (i 1).isLt
  simp only [hlf, blk, Finset.mem_univ, Finset.mem_biUnion, Finset.mem_filter, Finset.mem_range, true_and]
  constructor
  · intro h
    obtain ⟨k, hk⟩ := ring_onto d ⟨(i 1).val % 256 / 16, by omega⟩
    exact ⟨k.val, k.isLt, by rw [hk]; show (i 1).val / 16 = 16 * (d.val % 2) + (i 1).val % 256 / 16; omega⟩
  · rintro ⟨k, hk, h⟩
    have := ring_in d ⟨k, hk⟩
    rw [← show _ = bn (ring d k) from h] at this
    omega

theorem blocks_disj (C : ℕ) (d : Dev nD) : ∀ t ∈ Finset.range 16, ∀ t' ∈ Finset.range 16, t ≠ t' → Disjoint (blk C (ring d t)) (blk C (ring d t')) := by
  intro t ht t' ht' hne
  refine Finset.disjoint_left.mpr fun i h h' => hne ?_
  have h1 := (Finset.mem_filter.mp h).2
  have h2 := (Finset.mem_filter.mp h').2
  exact congrArg Fin.val (ring_ne d ⟨t, Finset.mem_range.mp ht⟩ ⟨t', Finset.mem_range.mp ht'⟩ (h1.symm.trans h2))

theorem slots : (Finset.univ : Finset S15x2x16x640.Idx) = (Finset.range 15).biUnion slot := by
  ext i
  have hi : (i 0).val < 15 := (i 0).isLt
  simp only [slot, Finset.mem_univ, Finset.mem_biUnion, Finset.mem_filter, Finset.mem_range, true_and, true_iff]
  exact ⟨_, hi, rfl⟩

theorem slots_disj : ∀ t ∈ Finset.range 15, ∀ t' ∈ Finset.range 15, t ≠ t' → Disjoint (slot t) (slot t') := by
  intro t _ t' _ hne
  refine Finset.disjoint_left.mpr fun i h h' => hne ?_
  exact ((Finset.mem_filter.mp h).2).symm.trans (Finset.mem_filter.mp h').2

theorem front (N : ℕ) (A : ℕ → sProp (MM F)) : Done (N + 1) A = iprop(A 0 ∗ Done N fun i => A (i + 1)) := range_succ_front N A

theorem Done_congr {N : ℕ} {A B : ℕ → sProp (MM F)} (h : ∀ k < N, A k = B k) : Done N A = Done N B :=
  bigSep_congr fun k hk => h k (Finset.mem_range.mp hk)

/-- A half of a buffer and its sixteen blocks. -/
theorem acc_blocks {q : PosShare TreeShare} {num : S2x512x640.Idx → ℕ} {n : ℕ} {T : S2x512x640.Idx → F .bf16} :
    upto d cc0_scratch0 (hlf 640 (d.val % 2)) q num n T
      ⊢ iprop(upto d cc0_scratch0 (blk 640 d) q num n T ∗ Done 15 fun k => upto d cc0_scratch0 (blk 640 (nb d k)) q num n T) := by
  rw [half_blocks]
  exact (upto_split (b := cc0_scratch0) (Finset.range 16) (fun k => blk 640 (ring d k)) (blocks_disj 640 d)).trans (Entails.of_eq (front 15 _))

include I in
theorem blocks_acc : iprop(any (F := F) d cc0_scratch0 (blk 640 d) ∗ Done 15 fun k => any d cc0_scratch0 (blk 640 (nb d k)))
      ⊢ any d cc0_scratch0 (hlf 640 (d.val % 2)) := by
  rw [half_blocks]
  exact (Entails.of_eq (front (F := F) 15 fun k => any d cc0_scratch0 (blk 640 (ring d k))).symm).trans (many_any (b := cc0_scratch0) (c3 (OA I d)) 16 (fun k => blk 640 (ring d k)) (blocks_disj 640 d))

include I in
theorem out_blocks : any (F := F) d cc0_scratch14 (hlf 512 (d.val % 2))
      ⊢ iprop(any d cc0_scratch14 (blk 512 d) ∗ Done 15 fun k => any d cc0_scratch14 (blk 512 (nb d k))) := by
  rw [half_blocks]
  exact (any_many (b := cc0_scratch14) (c3 (FIN I)) 16 (fun k => blk 512 (ring d k)) (blocks_disj 512 d)).trans (Entails.of_eq (front 15 _))

theorem blocks_out {q : PosShare TreeShare} {num : S2x512x512.Idx → ℕ} {n : ℕ} {T : S2x512x512.Idx → F .bf16} :
    iprop(upto d cc0_scratch14 (blk 512 d) q num n T ∗ Done 15 fun k => upto d cc0_scratch14 (blk 512 (nb d k)) q num n T)
      ⊢ upto d cc0_scratch14 (hlf 512 (d.val % 2)) q num n T := by
  rw [half_blocks]
  exact (Entails.of_eq (front (F := F) 15 fun k => upto d cc0_scratch14 (blk 512 (ring d k)) q num n T).symm).trans
    (upto_merge (b := cc0_scratch14) (Finset.range 16) (fun k => blk 512 (ring d k)) (blocks_disj 512 d))

include I in
theorem open_slots : any (F := F) d cc0_scratch5 Finset.univ ⊢ Done 15 fun k => any d cc0_scratch5 (slot k) := by
  rw [slots]; exact any_many (b := cc0_scratch5) (oryT I d) 15 slot slots_disj

theorem close_slots {q : PosShare TreeShare} {num : S15x2x16x640.Idx → ℕ} {n : ℕ} {T : S15x2x16x640.Idx → F .bf16} :
    (Done 15 fun k => upto d cc0_scratch5 (slot k) q num n T) ⊢ upto d cc0_scratch5 Finset.univ q num n T := by
  rw [slots]; exact upto_merge (b := cc0_scratch5) (Finset.range 15) slot slots_disj

theorem e_lt (d : Dev nD) : d.val % 2 < 2 := Nat.mod_lt _ (by decide)

include I in
theorem acc_halves : any (F := F) d cc0_scratch0 Finset.univ ⊢ iprop(any d cc0_scratch0 (hlf 640 (d.val % 2)) ∗ any d cc0_scratch0 (hlf 640 (1 - d.val % 2))) := by
  rw [halves 640 (e_lt d)]; exact any_two (b := cc0_scratch0) (c3 (OA I d)) (halves_disj 640 (e_lt d))

include I in
theorem halves_acc : iprop(any (F := F) d cc0_scratch0 (hlf 640 (d.val % 2)) ∗ any d cc0_scratch0 (hlf 640 (1 - d.val % 2))) ⊢ any d cc0_scratch0 Finset.univ := by
  rw [halves 640 (e_lt d)]; exact two_any (b := cc0_scratch0) (c3 (OA I d)) (halves_disj 640 (e_lt d))

include I in
theorem out_halves : any (F := F) d cc0_scratch14 Finset.univ ⊢ iprop(any d cc0_scratch14 (hlf 512 (d.val % 2)) ∗ any d cc0_scratch14 (hlf 512 (1 - d.val % 2))) := by
  rw [halves 512 (e_lt d)]; exact any_two (b := cc0_scratch14) (c3 (FIN I)) (halves_disj 512 (e_lt d))

include I in
theorem halves_out : iprop(any (F := F) d cc0_scratch14 (hlf 512 (d.val % 2)) ∗ any d cc0_scratch14 (hlf 512 (1 - d.val % 2))) ⊢ any d cc0_scratch14 Finset.univ := by
  rw [halves 512 (e_lt d)]; exact two_any (b := cc0_scratch14) (c3 (FIN I)) (halves_disj 512 (e_lt d))

/-- What a device hands to the others as it enters. -/
theorem give : iprop(any d cc0_scratch4 Finset.univ ∗ any d cc0_scratch14 (hlf 512 (1 - d.val % 2)) ∗ (Done 15 fun k => any d cc0_scratch5 (slot k))
      ∗ (Done 15 fun k => any d cc0_scratch14 (blk 512 (nb d k))) ∗ Own d) ⊢ Rest 16 0 (fun j => Pay I (peer j d) j) := by
  have h0 : Pay I (peer 0 d) 0 = iprop(any d cc0_scratch4 Finset.univ ∗ any d cc0_scratch14 (hlf 512 (1 - d.val % 2)) ∗ Own d) := by
    show iprop(any (xp (xp d)) cc0_scratch4 Finset.univ ∗ any (xp (xp d)) cc0_scratch14 (hlf 512 ((xp d).val % 2)) ∗ Own (xp (xp d))) = _
    rw [xp_xp, show (xp d).val % 2 = 1 - d.val % 2 by revert d; decide +kernel]
  have h1 : Done 15 (fun k => Pay I (peer (k + 1) d) (k + 1)) = Done 15 fun k => iprop(any d cc0_scratch5 (slot k) ∗ any d cc0_scratch14 (blk 512 (nb d k)) ∗ Own d) := by
    refine Done_congr fun k hk => ?_
    unfold Pay peer
    rw [if_neg (by omega), if_pos (by omega), if_neg (by omega), if_pos (by omega), show 15 - (k + 1) = 14 - k by omega, Nat.add_sub_cancel, nb_nb d ⟨k, hk⟩]
  rw [← Done_Rest, front 15, h1, h0]
  have h2 : iprop((Done 15 fun k => any (F := F) d cc0_scratch5 (slot k)) ∗ (Done 15 fun k => any d cc0_scratch14 (blk 512 (nb d k))) ∗ Done 15 fun _ => Own d)
      = Done 15 fun k => iprop(any d cc0_scratch5 (slot k) ∗ any d cc0_scratch14 (blk 512 (nb d k)) ∗ Own d) := by
    unfold Done
    rw [bigSep_sep', bigSep_sep']
  rw [← h2]
  iintro ⟨H4, H14, H5, HB, #HO⟩
  iframe
  isplitl []
  · iexact HO
  · unfold Done
    iapply (bigSep_of_persistent (Finset.range 15) (Own (F := F) d))
    iexact HO

end Cert.KernelIdeal.Talk
-- ==== Proof.K.Gather.lean ====
/- The later stretches of talk: the fifteen transfers of summed rows and their waits, the fifteen transfers of
   normalised rows and theirs, the normalised half sent to the partner, and the exit. -/
module

public import proofs.«01_k».proof.Proof.K.Meet

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)
variable {α : Type} {K : GSem nD τ sig → ℕ} {d : Dev nD} {n w : ℕ} {R : sProp (MM F)} {Q : α → sProp (MM F)}

set_option maxRecDepth 65536 in
set_option maxHeartbeats 4000000 in
theorem scatter (v3 v9 : BitVec 32) (κ : BitVec 32 → BitVec 32 → BitVec 32 → BitVec 32 → BitVec 32 → BitVec 32 → BitVec 32 → BitVec 32 → BitVec 32
      → BitVec 32 → BitVec 32 → BitVec 32 → BitVec 32 → Prog (TpuEff nD τ sig (Elt F) Λ₀ .tc) α)
    (hk : ∀ a₁ a₂ a₃ a₄ a₅ a₆ a₇ a₈ a₉ a₁₀ a₁₁ a₁₂ a₁₃, Pr I K d true 32 3 ∗ (Rest 15 15 (fun a => upto d cc0_scratch0 (blk 640 (nb d a)) fullShare ok3 1 (c3 (X1 I d)))
        ∗ Rest 15 15 (fun a => any (nb d a) cc0_scratch5 (slot (14 - a))) ∗ Done 15 (fun a => crd d (wix (65 + a))) ∗ R)
          ⊢ bwp d (κ a₁ a₂ a₃ a₄ a₅ a₆ a₇ a₈ a₉ a₁₀ a₁₁ a₁₂ a₁₃) Q) :
    Pr I K d true 17 3 ∗ (Rest 15 0 (fun a => upto d cc0_scratch0 (blk 640 (nb d a)) fullShare ok3 1 (c3 (X1 I d)))
        ∗ Rest 15 0 (fun a => any (nb d a) cc0_scratch5 (slot (14 - a))) ∗ Done 0 (fun a => crd d (wix (65 + a))) ∗ R)
      ⊢ bwp d (s8 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 v9 κ) Q := by
  unfold s8
  simp only [k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, Prog.bind_lift, Prog.bind_assoc, Prog.bind_ret, Prog.pure_eq_ret]
  iterate 15
    refine yz_send I (by decide) rfl (Fin.ext (by clear * - d; revert d; decide +kernel)) (by decide +kernel) (by decide +kernel) ⟨_, rfl⟩
      (by clear * - d; revert d; decide +kernel) rfl ?_
  exact hk _ _ _ _ _ _ _ _ _ _ _ _ _

set_option maxRecDepth 65536 in
set_option maxHeartbeats 4000000 in
theorem scattered (a₁ a₂ a₃ a₄ a₅ a₆ a₇ a₈ a₉ a₁₀ a₁₁ a₁₂ a₁₃ : BitVec 32) (κ : Prog (TpuEff nD τ sig (Elt F) Λ₀ .tc) α)
    (hk : Pr I K d true 32 33 ∗ (Rest 15 15 (fun a => crd d (wix (65 + a))) ∗ Done 15 (fun a => Pay I d (65 + a)) ∗ Done 15 (fun a => Pay I d (17 + a)) ∗ R)
          ⊢ bwp d κ Q) :
    Pr I K d true 32 3 ∗ (Rest 15 0 (fun a => crd d (wix (65 + a))) ∗ Done 0 (fun a => Pay I d (65 + a)) ∗ Done 0 (fun a => Pay I d (17 + a)) ∗ R)
      ⊢ bwp d (s9 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d a₁ a₂ a₃ a₄ a₅ a₆ a₇ a₈ a₉ a₁₀ a₁₁ a₁₂ a₁₃ κ) Q := by
  unfold s9
  simp only [k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, Prog.bind_lift, Prog.bind_assoc, Prog.bind_ret, Prog.pure_eq_ret]
  iterate 13
    refine group_sent I (fun a => 65 + a) _ (by decide) (fun X => wpE_waitDma2_eq 𝒱₀ (d : Thread nD τ) none Set.univ X) (by decide) (by decide) rfl (by decide +kernel)
        (by exact credits.2.1) (by decide +kernel) ?_
    refine group_landed I (fun a => 17 + a) _ (fun X => wpE_waitDma2_eq 𝒱₀ (d : Thread nD τ) none Set.univ X) (by decide) (by decide) rfl (by decide +kernel)
        (by exact credits.2.1) (by decide +kernel) ?_
  refine group_sent I (fun a => 65 + a) _ (by decide) (fun X => wpE_waitDma2_eq 𝒱₀ (d : Thread nD τ) none Set.univ X) (by decide) (by decide) rfl (by decide +kernel)
      (by exact credits.2.1) (by decide +kernel) ?_
  change _ ⊢ bwp d (Prog.op _ _) Q
  refine group_landed I (fun a => 17 + a) _ (fun X => wpE_waitDma2_eq 𝒱₀ (d : Thread nD τ) none Set.univ X) (by decide) (by decide) rfl (by decide +kernel)
      (by exact credits.2.1) (by decide +kernel) ?_
  refine group_sent I (fun a => 65 + a) _ (by decide) (fun X => wpE_waitDma2_eq 𝒱₀ (d : Thread nD τ) none Set.univ X) (by decide) (by decide) rfl (by decide +kernel)
      (by exact credits.2.1) (by decide +kernel) ?_
  refine group_landed I (fun a => 17 + a) _ (fun X => wpE_waitDma2_eq 𝒱₀ (d : Thread nD τ) none Set.univ X) (by decide) (by decide) rfl (by decide +kernel)
      (by exact credits.2.1) (by decide +kernel) ?_
  exact hk

/-! ## The normalised rows -/

/-- What a transfer of normalised rows leaves. -/
theorem fin_lands (q : Dev nD) {S : Finset S2x512x512.Idx} {r : Rect S2x512x512} {hr : ∀ a, r.stride a = 1} (hS : r.set = S)
    (f fd : (vb 12 rfl).ty.Contents (Elt F)) (hf : ∀ j, f (r.emb j) = c3 (FIN I) (r.emb j)) :
    (((Memref.whole cc0_scratch14).slice r hr).view.loc (q : Thread nD τ) ↦[((Memref.whole cc0_scratch14).slice r hr).view.set]{fullShare}
      ((Memref.whole cc0_scratch14).slice r hr).view.write (Elt F) fd (fun j => f (r.emb j)) Finset.univ)
    ⊢ upto q cc0_scratch14 S fullShare (fun _ => 0) 1 (c3 (FIN I)) := by
  have hset : ((Memref.whole cc0_scratch14).slice r hr).view.set = S := (View.set_slice_whole ..).trans hS
  exact landed (num := fun _ => 0) (nn := 1) (T := c3 (FIN I)) q ((Memref.whole cc0_scratch14).slice r hr).view hset fd (fun j => f (r.emb j)) fun x _ => hf x

/-- One transfer of normalised rows. -/
theorem ag_send {i : ℕ} {off : Fin 3 → ℕ} {inb} {hr : ∀ a, (Rect.unit (s := S2x512x512) off S2x16x512.size inb).stride a = 1} {c : Dev nD}
    {hsc} {sS sem : SemLoc sig} {hsrc hdst hsem} {k : PUnit → Prog (TpuEff nD τ sig (Elt F) Λ₀ .tc) α}
    (hi : i < 15) (hn : n = 32 + i) (hc : c = peer n d) (hsS : sS = sm (n + 48)) (hsm : sem = sm n) (hN : ∃ p, sem = SemLoc.dma p)
    (ho : off = ![0, 256 * (d.val % 2) + 16 * (d.val / 2), 0])
    (hk : Pr I K d true (n + 1) w ∗ (Rest 15 (i + 1) (fun a => upto d cc0_scratch14 (blk 512 d) (Transfers.shareTokN fullShare a) (fun _ => 0) 1 (c3 (FIN I)))
        ∗ Rest 15 (i + 1) (fun a => any (nb d a) cc0_scratch14 (blk 512 d)) ∗ Done (i + 1) (fun a => crd d (wix (80 + a))) ∗ R) ⊢ bwp d (k ⟨⟩) Q) :
    Pr I K d true n w ∗ (Rest 15 i (fun a => upto d cc0_scratch14 (blk 512 d) (Transfers.shareTokN fullShare a) (fun _ => 0) 1 (c3 (FIN I)))
        ∗ Rest 15 i (fun a => any (nb d a) cc0_scratch14 (blk 512 d)) ∗ Done i (fun a => crd d (wix (80 + a))) ∗ R)
      ⊢ bwp d (.op (.enqueueDma ((Memref.whole cc0_scratch14).slice (Rect.unit (s := S2x512x512) off S2x16x512.size inb) hr)
        (.remote (Dev.tc c) ((Memref.whole cc0_scratch14).slice (Rect.unit (s := S2x512x512) off S2x16x512.size inb) hr) sS hsc)
        sem hsrc hdst hsem) k) Q := by
  have hp : peer n d = nb d i := by rw [hn]; exact peer_ag ⟨i, hi⟩ d
  have hb : nb (nb d i) (14 - i) = d := nb_nb d ⟨i, hi⟩
  rw [Rest_step hi, Rest_step hi]
  rw [Done_step, show 80 + i = n + 48 by omega] at hk
  iintro ⟨HP, ⟨Hs, HA⟩, ⟨Hd, HB⟩, HC, HR⟩
  iapply (send_step I (K := K) (d := d) (n := n) (w := w) (Q := Q) (k := k) (S := blk 512 d) (S' := by exact blk 512 d) (num := fun _ => 0) (nn := 1)
    (T := c3 (FIN I)) (q := Transfers.shareTokN fullShare i) (bi := 12) (bh := rfl)
    (R := iprop(Rest 15 (i + 1) (fun a => upto d cc0_scratch14 (blk 512 d) (Transfers.shareTokN fullShare a) (fun _ => 0) 1 (c3 (FIN I)))
        ∗ Rest 15 (i + 1) (fun a => any (nb d a) cc0_scratch14 (blk 512 d)) ∗ Done i (fun a => crd d (wix (80 + a))) ∗ R))
    (by omega) (by omega) hc hsS hsm (by
      obtain ⟨p, rfl⟩ := hN
      refine Eq.trans (b := 1024) credits.2.2.1 ?_
      unfold amt
      rw [if_neg (by omega), if_neg (by omega), if_neg (by omega), if_pos (by omega)])
    (by exact blk_set ho rfl rfl rfl) (by exact (View.set_slice_whole ..).trans (blk_set ho rfl rfl rfl))
    (by rw [show n + 48 = 80 + i by omega, Pay_ags I d hi])
    (fun f fd hf => by
      rw [hp, hn, Pay_agr I (nb d i) hi, hb]
      exact fin_lands I (nb d i) (blk_set ho rfl rfl rfl) f fd fun j => hf j Nat.one_pos) (by
      refine BIBase.Entails.trans ?_ hk
      iintro ⟨HP, Hc, HA, HB, HC, HR⟩
      isplitl [HP]; · iexact HP
      isplitl [HA]; · iexact HA
      isplitl [HB]; · iexact HB
      isplitl [Hc HC]
      · isplitl [Hc]; · iexact Hc
        iexact HC
      iexact HR))
  isplitl [HP]; · iexact HP
  isplitl [Hs]; · iexact Hs
  isplitl [Hd]; · rw [hp]; iexact Hd
  isplitl [HA]; · iexact HA
  isplitl [HB]; · iexact HB
  isplitl [HC]; · iexact HC
  iexact HR

set_option maxRecDepth 65536 in
set_option maxHeartbeats 4000000 in
theorem share_rows (v3 v9 : BitVec 32) (κ : Prog (TpuEff nD τ sig (Elt F) Λ₀ .tc) α)
    (hk : Pr I K d true 47 33 ∗ (Rest 15 15 (fun a => upto d cc0_scratch14 (blk 512 d) (Transfers.shareTokN fullShare a) (fun _ => 0) 1 (c3 (FIN I)))
        ∗ Rest 15 15 (fun a => any (nb d a) cc0_scratch14 (blk 512 d)) ∗ Done 15 (fun a => crd d (wix (80 + a))) ∗ R) ⊢ bwp d κ Q) :
    Pr I K d true 32 33 ∗ (Rest 15 0 (fun a => upto d cc0_scratch14 (blk 512 d) (Transfers.shareTokN fullShare a) (fun _ => 0) 1 (c3 (FIN I)))
        ∗ Rest 15 0 (fun a => any (nb d a) cc0_scratch14 (blk 512 d)) ∗ Done 0 (fun a => crd d (wix (80 + a))) ∗ R)
      ⊢ bwp d (s11 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 v9 κ) Q := by
  unfold s11
  simp only [k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, Prog.bind_lift, Prog.bind_assoc, Prog.bind_ret, Prog.pure_eq_ret]
  iterate 15
    refine ag_send I (by decide) rfl (Fin.ext (by clear * - d; revert d; decide +kernel)) (by decide +kernel) (by decide +kernel) ⟨_, rfl⟩
      (by exact (off_eq d).2.2.2.1) ?_
  exact hk

set_option maxRecDepth 65536 in
set_option maxHeartbeats 4000000 in
theorem shared_rows (v2 : BitVec 32) (κ : Prog (TpuEff nD τ sig (Elt F) Λ₀ .tc) α)
    (hk : Pr I K d true 47 63 ∗ (Rest 15 15 (fun a => crd d (wix (80 + a))) ∗ Done 15 (fun a => Pay I d (80 + a)) ∗ Done 15 (fun a => Pay I d (46 - a)) ∗ R)
          ⊢ bwp d κ Q) :
    Pr I K d true 47 33 ∗ (Rest 15 0 (fun a => crd d (wix (80 + a))) ∗ Done 0 (fun a => Pay I d (80 + a)) ∗ Done 0 (fun a => Pay I d (46 - a)) ∗ R)
      ⊢ bwp d (s12 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v2 κ) Q := by
  unfold s12
  simp only [k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, Prog.bind_lift, Prog.bind_assoc, Prog.bind_ret, Prog.pure_eq_ret]
  iterate 15
    refine group_sent I (fun a => 80 + a) _ (by decide) (fun X => wpE_waitDma2_eq 𝒱₀ (d : Thread nD τ) none Set.univ X) (by decide) (by decide) rfl (by decide +kernel)
      (by exact credits.2.2.1) (by decide +kernel) ?_
  iterate 15
    refine group_landed I (fun a => 46 - a) _ (fun X => wpE_waitDma2_eq 𝒱₀ (d : Thread nD τ) none Set.univ X) (by decide) (by decide) rfl (by decide +kernel)
      (by exact credits.2.2.1) (by decide +kernel) ?_
  exact hk

/-! ## The normalised half, and the exit -/

theorem half_send (κ : Prog (TpuEff nD τ sig (Elt F) Λ₀ .tc) α)
    (hk : Pr I K d true 48 63 ∗ (crd d (wix 95) ∗ R) ⊢ bwp d κ Q) :
    Pr I K d true 47 63 ∗ (upto d cc0_scratch14 (hlf 512 (d.val % 2)) fullShare.left (fun _ => 0) 1 (c3 (FIN I))
        ∗ any (xp d) cc0_scratch14 (hlf 512 (d.val % 2)) ∗ R)
      ⊢ bwp d (s13 cc0_scratch12 cc0_scratch13 (Memref.whole cc0_scratch14) (Memref.isWhole_whole _) d κ) Q := by
  unfold s13
  simp only [Prog.bind_lift, Prog.bind_assoc, Prog.bind_ret, Prog.bind_op, Prog.pure_eq_ret]
  have hd : 1 - (xp d).val % 2 = d.val % 2 := by clear * - d; revert d; decide +kernel
  have key : ∀ (f fd : (vb 12 rfl).ty.Contents (Elt F)), (∀ j, (0 : ℕ) < 1 → f ((Rect.unit (s := S2x512x512) (k0_off84 d) S2x256x512.size (k0_off84_inb d)).emb j)
        = c3 (FIN I) ((Rect.unit (s := S2x512x512) (k0_off84 d) S2x256x512.size (k0_off84_inb d)).emb j)) →
      (((Memref.whole cc0_scratch14).slice (Rect.unit (s := S2x512x512) (k0_off84 d) S2x256x512.size (k0_off84_inb d)) (fun _ => rfl)).view.loc (xp d : Thread nD τ)
        ↦[((Memref.whole cc0_scratch14).slice (Rect.unit (s := S2x512x512) (k0_off84 d) S2x256x512.size (k0_off84_inb d)) (fun _ => rfl)).view.set]{fullShare}
        ((Memref.whole cc0_scratch14).slice (Rect.unit (s := S2x512x512) (k0_off84 d) S2x256x512.size (k0_off84_inb d)) (fun _ => rfl)).view.write (Elt F) fd
          (fun j => f ((Rect.unit (s := S2x512x512) (k0_off84 d) S2x256x512.size (k0_off84_inb d)).emb j)) Finset.univ) ⊢ Pay I (xp d) 47 := by
    intro f fd hf
    rw [Pay_agxr, hd]
    exact fin_lands I (xp d) (hlf_set (off_eq d).2.2.2.2 rfl rfl rfl) f fd fun j => hf j Nat.one_pos
  iintro ⟨HP, HS, HD, HR⟩
  iapply (send_step I (K := K) (d := d) (n := 47) (w := 63) (Q := Q) (R := R) (S := hlf 512 (d.val % 2)) (S' := by exact hlf 512 (d.val % 2)) (num := fun _ => 0) (nn := 1)
    (T := c3 (FIN I)) (q := fullShare.left) (bi := 12) (bh := rfl)
    (by decide) (by decide) (Fin.ext (by clear * - d; revert d; decide +kernel)) (by decide +kernel) (by decide +kernel) (by exact credits.2.2.2)
    (by exact hlf_set (off_eq d).2.2.2.2 rfl rfl rfl) (by exact (View.set_slice_whole ..).trans (hlf_set (off_eq d).2.2.2.2 rfl rfl rfl))
    (by exact BIBase.Entails.rfl) (fun f fd hf => by exact key f fd hf) hk)
  isplitl [HP]; · iexact HP
  isplitl [HS]; · iexact HS
  isplitl [HD]; · iexact HD
  iexact HR

/-- A signal that hands nothing over. -/
theorem plain_signal {dst : Dev nD} {sem : Sem sig} {z : ℤ} {k : PUnit → Prog (TpuEff nD τ sig (Elt F) Λ₀ .tc) α}
    (hdst : dst = peer n d) (hn : 47 < n) (hn' : n < 64) (hsem : SemLoc.reg sem = sm n) (hz : z = ((1 : ℕ) : ℤ))
    (hk : Pr I K d true (n + 1) w ∗ R ⊢ bwp d (k ⟨⟩) Q) :
    Pr I K d true n w ∗ R ⊢ bwp d (.op (.semSignal (dst, .tc) sem z) k) Q := by
  have h := pay_signal (I := I) (K := K) (d := d) (b := true) (n := n) (w := w) (Q := Q) (k := k) hn' (.inr rfl)
    (by unfold amt; rw [if_neg (by omega), if_neg (by omega), if_neg (by omega), if_neg (by omega), if_neg (by omega)]) (dst := (dst, .tc)) (by rw [hdst]) hsem hz hk
  have e : Pay I (peer n d) n = iprop(emp) := by
    unfold Pay
    rw [if_neg (by omega), if_neg (by omega), if_neg (by omega), if_neg (by omega), if_neg (by omega), if_neg (by omega), if_pos (by omega)]
  rw [e] at h
  refine BIBase.Entails.trans ?_ h
  iintro ⟨HP, HR⟩
  isplitl [HP]; · iexact HP
  isplitr; · iempintro
  iexact HR

set_option maxRecDepth 65536 in
set_option maxHeartbeats 4000000 in
theorem farewell (κ : Prog (TpuEff nD τ sig (Elt F) Λ₀ .tc) α)
    (hk : Pr I K d true 63 63 ∗ R ⊢ bwp d κ Q) :
    Pr I K d true 48 63 ∗ R ⊢ bwp d (s15 cc0_scratch15 d κ) Q := by
  unfold s15
  simp only [semSignalWord, Prog.bind_lift, Prog.bind_assoc, Prog.bind_ret, Prog.bind_op, Prog.pure_eq_ret]
  iterate 15
    refine plain_signal I (Fin.ext (by clear * - d; revert d; decide +kernel)) (by decide) (by decide) (by decide +kernel) rfl ?_
  exact hk

theorem half_sent (κ : Prog (TpuEff nD τ sig (Elt F) Λ₀ .tc) α)
    (hk : Pr I K d true 63 65 ∗ (Pay I d 47 ∗ Pay I d 95 ∗ R) ⊢ bwp d κ Q) :
    Pr I K d true 63 63 ∗ (crd d (wix 95) ∗ R) ⊢ bwp d (s16 cc0_scratch12 cc0_scratch13 (Memref.whole cc0_scratch14) (Memref.isWhole_whole _) d κ) Q := by
  unfold s16
  simp only [Prog.bind_lift, Prog.bind_assoc, Prog.bind_ret, Prog.bind_op, Prog.pure_eq_ret]
  refine wait_sent (fun X => wpE_waitDma2_eq 𝒱₀ (d : Thread nD τ) none Set.univ X) 95 (by decide) (by decide) rfl (by decide +kernel) (by exact credits.2.2.2) (by decide +kernel) ?_
  refine wait_landed (fun X => wpE_waitDma2_eq 𝒱₀ (d : Thread nD τ) none Set.univ X) 47 (by decide) (by decide) rfl (by decide +kernel) (by exact credits.2.2.2) (by decide +kernel) ?_
  exact hk

theorem leave {Q : PUnit → sProp (MM F)} (hk : Pr I K d true 64 66 ∗ R ⊢ |={Set.univ}=> Q ⟨⟩) :
    Pr I K d true 63 65 ∗ R ⊢ bwp d (s17.tail cc0_scratch15 d) Q := by
  unfold s17.tail
  simp only [semSignalWord, semWaitWord, Prog.bind_lift, Prog.bind_assoc, Prog.bind_ret, Prog.bind_op, Prog.pure_eq_ret]
  refine plain_signal I (Fin.ext (by clear * - d; revert d; decide +kernel)) (by decide) (by decide) (by decide +kernel) rfl ?_
  refine BIBase.Entails.trans ?_ (wait_step (I := I) (K := K) (d := d) (b := true) (n := 64) (w := 65) (Q := Q) (R := R)
    (s := exitS) (m := 16) (fun X => wpE_semWait_eq (k := 16) 𝒱₀ (d : Thread nD τ) none Set.univ X) rfl rfl (by decide) (by decide +kernel) ?_)
  · iintro ⟨HP, HR⟩
    isplitl [HP]; · iexact HP
    isplitr; · exact (show _ ⊢ iprop(emp) from by iintro -; iempintro)
    iexact HR
  rw [show bwp d (Prog.ret PUnit.unit) Q = iprop(|={Set.univ}=> Q ⟨⟩) from wp_ret ..]
  refine BIBase.Entails.trans ?_ hk
  iintro ⟨HP, -, HR⟩
  isplitl [HP]; · iexact HP
  iexact HR

end Cert.KernelIdeal.Talk
-- ==== Proof.K.Values.lean ====
/- The stretches in which a device works on what it received: the sum with the partner's half, the sum over the devices
   of its parity, and the division by the row sums. -/
module

public import proofs.«01_k».proof.Proof.K.Meet

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)
variable {α : Type} {d : Dev nD} {R : sProp (MM F)} {Q : α → sProp (MM F)}

theorem idx_is {s : Shape} {off off' size : Fin s.rank → ℕ} {inb} (ho : off = off') (j : (Rect.unit (s := s) off size inb).shape.Idx) (a : Fin s.rank) :
    ((Rect.unit (s := s) off size inb).toLoadRect.idx j a).val = off' a + (j a).val := unit_is ho j a

theorem idx_in {s : Shape} {off size : Fin s.rank → ℕ} {inb} {S : Finset s.Idx} (h : (Rect.unit (s := s) off size inb).set = S)
    (j : (Rect.unit (s := s) off size inb).shape.Idx) : (Rect.unit (s := s) off size inb).toLoadRect.idx j ∈ S := by
  subst h; exact LoadRect.idx_mem _ j

/-- Contents forgotten, to be written again. -/
theorem renew {b : Ref sig .tc} {S : Finset b.ty.Idx} {num num' : b.ty.Idx → ℕ} {n : ℕ} {T : b.ty.Contents (Elt F)} (T' : b.ty.Contents (Elt F)) :
    upto d b S fullShare num n T ⊢ upto d b S fullShare num' 0 T' := upto_any.trans (any_upto (fun _ _ => Nat.zero_le _) T')

/-- The kept half becomes the sum with the partner's. -/
theorem fold_half (κ : Prog (TpuEff nD τ sig (Elt F) Λ₀ .tc) α)
    (hk : upto d cc0_scratch0 (hlf 640 (d.val % 2)) fullShare ok3 1 (c3 (X1 I d)) ∗ (upto d cc0_scratch4 Finset.univ fullShare ok3 1 (orxT I d) ∗ R) ⊢ bwp d κ Q) :
    upto d cc0_scratch0 (hlf 640 (d.val % 2)) fullShare ok3 1 (c3 (OA I d)) ∗ (upto d cc0_scratch4 Finset.univ fullShare ok3 1 (orxT I d) ∗ R)
      ⊢ bwp d (s7 (Memref.whole cc0_scratch0) (Memref.isWhole_whole _) (Memref.whole cc0_scratch4) d κ) Q := by
  unfold s7
  simp only [Prog.bind_lift, Prog.bind_assoc, Prog.bind_ret, Prog.bind_op, Prog.pure_eq_ret]
  have hS : (Rect.unit (s := S2x512x640) (k0_off74 d) S2x256x640.size (k0_off74_inb d)).set = hlf 640 (d.val % 2) := hlf_set (off_eq d).2.1 rfl rfl rfl
  iintro ⟨H0, H4, HR⟩
  iapply (load_any (d := d) (bi := 6) (bh := rfl) (idx_in hS)) $$ H0
  iintro %v %hv H0
  iapply (load_any (d := d) (bi := 10) (bh := rfl) (fun _ => Finset.mem_univ _)) $$ H4
  iintro %w %hw H4
  iapply (load_any (d := d) (bi := 6) (bh := rfl) (idx_in hS)) $$ H0
  iintro %v' - H0
  ihave H0 := (renew (d := d) (b := cc0_scratch0) (num' := ok3) (c3 (X1 I d))) $$ H0
  iapply (store_next (d := d) (bi := 6) (bh := rfl) (n := 0) rfl (idx_in hS) (fun j hj => ?_) (fun i hi _ => hS ▸ hi)) $$ H0
  · have e := idx_is (s := S2x512x640) (inb := k0_off74_inb d) (size := S2x256x640.size) (off_eq d).2.1 j
    have e0 := (e 0).trans (Nat.zero_add _)
    have e1 := e 1
    have e2 := (e 2).trans (Nat.zero_add _)
    have g := idx_is (inb := inb_S2x256x640_S2x256x640_0_0_0) (s := S2x256x640) (size := S2x256x640.size) (off := ![0, 0, 0]) rfl j
    have g0 := (g 0).trans (Nat.zero_add _)
    have g1 := (g 1).trans (Nat.zero_add _)
    have g2 := (g 2).trans (Nat.zero_add _)
    rw [pay297_at, hv j hj, hw j (by unfold ok3 at hj ⊢; rw [g2]; rw [e2] at hj; exact hj)]
    show add2 (OA I d _ _ _) (OA I (xp d) _ _ _) = add2 (OA I d _ _ _) (OA I (xp d) _ _ _)
    rw [g0, g1, g2, e0, e1, e2]
    rfl
  · iintro H0
    iapply hk
    iframe

/-- A slot read. -/
theorem slot_step {s : ℕ} {off : Fin 4 → ℕ} {inb} {hl} {k : Vec F S1x2x16x640 .bf16 → Prog (TpuEff nD τ sig (Elt F) Λ₀ .tc) α} (ho : off = ![s, 0, 0, 0])
    (hk : ∀ v : Vec F S1x2x16x640 .bf16, (∀ j : S2x16x640.Idx, (j 2).val < 520 → v (up4 j) = X1 I (nb d s) (j 0).val (16 * bn d + (j 1).val) (j 2).val) →
      upto d cc0_scratch5 Finset.univ fullShare ok4 1 (oryT I d) ∗ R ⊢ bwp d (k v) Q) :
    upto d cc0_scratch5 Finset.univ fullShare ok4 1 (oryT I d) ∗ R
      ⊢ bwp d (.op (.load (Memref.whole cc0_scratch5) (Rect.unit (s := S15x2x16x640) off S1x2x16x640.size inb).toLoadRect hl) k) Q := by
  iintro ⟨H5, HR⟩
  iapply (load_any (d := d) (bi := 11) (bh := rfl) (fun _ => Finset.mem_univ _)) $$ H5
  iintro %v %hv H5
  iapply (hk v (fun j hj => ?_))
  · have g := idx_is (inb := inb) ho (up4 j)
    have g0 := (g 0).trans (Nat.add_zero _)
    have g1 := (g 1).trans (Nat.zero_add _)
    have g2 := (g 2).trans (Nat.zero_add _)
    have g3 := (g 3).trans (Nat.zero_add _)
    refine (hv (up4 j) (by unfold ok4; rw [g3]; exact (if_pos hj).trans_lt Nat.one_pos)).trans ?_
    show X1 I (nb d _) _ (16 * bn d + _) _ = _
    rw [g0, g1, g2, g3]
    rfl
  · iframe

theorem tot_congr {f g : ℕ → F .bf16} (o : F .bf16) (h : ∀ s < 15, f s = g s) : tot f o = tot g o := by
  unfold tot
  rw [h 0 (by decide), h 1 (by decide), h 2 (by decide), h 3 (by decide), h 4 (by decide), h 5 (by decide), h 6 (by decide), h 7 (by decide), h 8 (by decide),
    h 9 (by decide), h 10 (by decide), h 11 (by decide), h 12 (by decide), h 13 (by decide), h 14 (by decide)]

theorem own_set (d : Dev nD) {inb} : (Rect.unit (s := S2x512x640) (k0_off76 d) S2x16x640.size inb).set = blk 640 d := blk_set (off_eq d).2.2.1 rfl rfl rfl

/-- The own rows read. -/
theorem own_step {A : sProp (MM F)} {inb} {hl} {k : Vec F S2x16x640 .bf16 → Prog (TpuEff nD τ sig (Elt F) Λ₀ .tc) α}
    (hk : ∀ v : Vec F S2x16x640 .bf16, (∀ j : S2x16x640.Idx, (j 2).val < 520 → v j = X1 I d (j 0).val (16 * bn d + (j 1).val) (j 2).val) →
      A ∗ (upto d cc0_scratch0 (blk 640 d) fullShare ok3 1 (c3 (X1 I d)) ∗ R) ⊢ bwp d (k v) Q) :
    A ∗ (upto d cc0_scratch0 (blk 640 d) fullShare ok3 1 (c3 (X1 I d)) ∗ R)
      ⊢ bwp d (.op (.load (Memref.whole cc0_scratch0) (Rect.unit (s := S2x512x640) (k0_off76 d) S2x16x640.size inb).toLoadRect hl) k) Q := by
  iintro ⟨HA, H0, HR⟩
  iapply (load_any (d := d) (bi := 6) (bh := rfl) (idx_in (own_set d))) $$ H0
  iintro %v %hv H0
  iapply (hk v (fun j hj => ?_))
  · have g := idx_is (s := S2x512x640) (inb := inb) (size := S2x16x640.size) (off_eq d).2.2.1 j
    have g0 := (g 0).trans (Nat.zero_add _)
    have g1 := g 1
    have g2 := (g 2).trans (Nat.zero_add _)
    refine (hv j (by unfold ok3; rw [g2]; exact (if_pos hj).trans_lt Nat.one_pos)).trans ?_
    show X1 I d _ _ _ = _
    rw [g0, g1, g2]
    refine congrArg (fun r => X1 I d _ r _) ?_
    show 256 * (d.val % 2) + 16 * (d.val / 2) + (j 1).val = 16 * bn d + (j 1).val
    unfold bn
    omega
  · iframe

/-- The sum written. -/
theorem sum_store {A : sProp (MM F)} {inb} {hx} {hm} {w : Vec F S2x16x640 .bf16} {k : PUnit → Prog (TpuEff nD τ sig (Elt F) Λ₀ .tc) α}
    (hw : ∀ j : S2x16x640.Idx, (j 2).val < 520 → w j = SS I d (j 0).val (16 * bn d + (j 1).val) (j 2).val)
    (hk : A ∗ (upto d cc0_scratch0 (blk 640 d) fullShare ok3 1 (c3 (SS I d)) ∗ R) ⊢ bwp d (k ⟨⟩) Q) :
    A ∗ (upto d cc0_scratch0 (blk 640 d) fullShare ok3 1 (c3 (X1 I d)) ∗ R)
      ⊢ bwp d (.op (.store (Memref.whole cc0_scratch0) (Rect.unit (s := S2x512x640) (k0_off76 d) S2x16x640.size inb) w Finset.univ hx hm) k) Q := by
  iintro ⟨HA, H0, HR⟩
  ihave H0 := (renew (d := d) (b := cc0_scratch0) (num' := ok3) (c3 (SS I d))) $$ H0
  iapply (store_next (d := d) (bi := 6) (bh := rfl) (n := 0) rfl (idx_in (own_set d)) (fun j hj => ?_) (fun i hi _ => own_set d ▸ hi)) $$ H0
  · have g := idx_is (s := S2x512x640) (inb := inb) (size := S2x16x640.size) (off_eq d).2.2.1 j
    have g0 := (g 0).trans (Nat.zero_add _)
    have g1 := g 1
    have g2 := (g 2).trans (Nat.zero_add _)
    have hlt : (j 2).val < 520 := by
      by_contra hc
      unfold ok3 at hj
      rw [g2, if_neg hc] at hj
      exact absurd hj (by decide)
    rw [hw j hlt]
    show _ = SS I d _ _ _
    rw [g0, g1, g2]
    refine congrArg (fun r => SS I d _ r _) ?_
    show 16 * bn d + (j 1).val = 256 * (d.val % 2) + 16 * (d.val / 2) + (j 1).val
    unfold bn
    omega
  · iintro H0
    iapply hk
    iframe

theorem devOf_own (d : Dev nD) {r : ℕ} (h : r < 16) : devOf (16 * bn d + r) = d := by
  apply Fin.ext
  show ((16 * bn d + r) / 256 + 2 * ((16 * bn d + r) % 256 / 16)) % 32 = d.val
  have := d.isLt
  change d.val < 32 at this
  have e : 16 * bn d + r = 256 * (d.val % 2) + (16 * (d.val / 2) + r) := by unfold bn; omega
  have e1 : (16 * bn d + r) / 256 = d.val % 2 := by omega
  have e2 : (16 * bn d + r) % 256 / 16 = d.val / 2 := by omega
  rw [e1, e2]
  omega

theorem off_norm (d : Dev nD) : k0_off77 d = ![0, 256 * (d.val % 2) + 16 * (d.val / 2), 512] ∧ k0_off78 d = ![0, 256 * (d.val % 2) + 16 * (d.val / 2), 0]
    ∧ k0_off79 d = ![0, 256 * (d.val % 2) + 16 * (d.val / 2), 0] ∧ k0_off80 d = ![1, 256 * (d.val % 2) + 16 * (d.val / 2), 512]
    ∧ k0_off81 d = ![1, 256 * (d.val % 2) + 16 * (d.val / 2), 0] ∧ k0_off82 d = ![1, 256 * (d.val % 2) + 16 * (d.val / 2), 0] := by
  revert d; decide +kernel

/-- One batch element's own rows divided. -/
theorem norm_step {n n' : ℕ} {off₁ off₂ off₃ : Fin 3 → ℕ} {inb₁ : ∀ a, off₁ a + S1x16x8.size a ≤ S2x512x640.size a}
    {inb₂ : ∀ a, off₂ a + S1x16x512.size a ≤ S2x512x640.size a} {inb₃ : ∀ a, off₃ a + S1x16x512.size a ≤ S2x512x512.size a} {h₁ h₂ h₃ hx hm}
    {k : PUnit → Prog (TpuEff nD τ sig (Elt F) Λ₀ .tc) α}
    (ho₁ : off₁ = ![n, 256 * (d.val % 2) + 16 * (d.val / 2), 512]) (ho₂ : off₂ = ![n, 256 * (d.val % 2) + 16 * (d.val / 2), 0])
    (ho₃ : off₃ = ![n, 256 * (d.val % 2) + 16 * (d.val / 2), 0]) (hn' : n' = n + 1)
    (hk : upto d cc0_scratch14 (blk 512 d) fullShare (fun i => (i 0).val) n' (c3 (FIN I)) ∗ (upto d cc0_scratch0 (blk 640 d) fullShare ok3 1 (c3 (SS I d)) ∗ R) ⊢ bwp d (k ⟨⟩) Q) :
    upto d cc0_scratch14 (blk 512 d) fullShare (fun i => (i 0).val) n (c3 (FIN I)) ∗ (upto d cc0_scratch0 (blk 640 d) fullShare ok3 1 (c3 (SS I d)) ∗ R)
      ⊢ bwp d (.op (.load (Memref.whole cc0_scratch0) (Rect.unit (s := S2x512x640) off₁ S1x16x8.size inb₁).toLoadRect h₁) fun v =>
        .op (.load (Memref.whole cc0_scratch0) (Rect.unit (s := S2x512x640) off₂ S1x16x512.size inb₂).toLoadRect h₂) fun w =>
        .op (.load (Memref.whole cc0_scratch14) (Rect.unit (s := S2x512x512) off₃ S1x16x512.size inb₃).toLoadRect h₃) fun _ =>
        .op (.store (Memref.whole cc0_scratch14) (Rect.unit (s := S2x512x512) off₃ S1x16x512.size inb₃) (k0_pay301 v w) Finset.univ hx hm) k) Q := by
  have hb : ∀ {r : ℕ}, r < 16 → (256 * (d.val % 2) + 16 * (d.val / 2) + r) / 16 = bn d := by intro r hr; unfold bn; omega
  have m₁ : ∀ j, (Rect.unit (s := S2x512x640) off₁ S1x16x8.size inb₁).toLoadRect.idx j ∈ blk 640 d := fun j =>
    Finset.mem_filter.mpr ⟨Finset.mem_univ _, by rw [idx_is ho₁ j 1]; exact hb (j 1).isLt⟩
  have m₂ : ∀ j, (Rect.unit (s := S2x512x640) off₂ S1x16x512.size inb₂).toLoadRect.idx j ∈ blk 640 d := fun j =>
    Finset.mem_filter.mpr ⟨Finset.mem_univ _, by rw [idx_is ho₂ j 1]; exact hb (j 1).isLt⟩
  have m₃ : ∀ j, (Rect.unit (s := S2x512x512) off₃ S1x16x512.size inb₃).toLoadRect.idx j ∈ blk 512 d := fun j =>
    Finset.mem_filter.mpr ⟨Finset.mem_univ _, by rw [idx_is ho₃ j 1]; exact hb (j 1).isLt⟩
  iintro ⟨H14, H0, HR⟩
  iapply (load_any (d := d) (bi := 6) (bh := rfl) m₁) $$ H0
  iintro %v %hv H0
  iapply (load_any (d := d) (bi := 6) (bh := rfl) m₂) $$ H0
  iintro %w %hw H0
  iapply (load_any (d := d) (bi := 12) (bh := rfl) m₃) $$ H14
  iintro %z - H14
  iapply (store_next (d := d) (bi := 12) (bh := rfl) hn' m₃ (fun j hj => ?_) (fun i hi h => ?_)) $$ H14
  · have e0 := (idx_is (s := S2x512x512) (inb := inb₃) ho₃ j 0)
    have e1 := (idx_is (s := S2x512x512) (inb := inb₃) ho₃ j 1)
    have e2 := (idx_is (s := S2x512x512) (inb := inb₃) ho₃ j 2).trans (Nat.zero_add _)
    have z0 : (j 0).val = 0 := Nat.lt_one_iff.mp (j 0).isLt
    have j1 : (j 1).val < 16 := (j 1).isLt
    have j2 : (j 2).val < 512 := (j 2).isLt
    have g0 := (idx_is (s := S2x512x640) (inb := inb₂) ho₂ j 0)
    have g1 := (idx_is (s := S2x512x640) (inb := inb₂) ho₂ j 1)
    have g2 := (idx_is (s := S2x512x640) (inb := inb₂) ho₂ j 2).trans (Nat.zero_add _)
    have hq : (j 2).val / 64 < 8 := by omega
    have f0 := (idx_is (s := S2x512x640) (inb := inb₁) ho₁ (mk3 1 16 8 0 (j 1).val ((j 2).val / 64)) 0)
    have f1 := (idx_is (s := S2x512x640) (inb := inb₁) ho₁ (mk3 1 16 8 0 (j 1).val ((j 2).val / 64)) 1).trans
      (congrArg (_ + ·) (Nat.mod_eq_of_lt j1))
    have f2 := (idx_is (s := S2x512x640) (inb := inb₁) ho₁ (mk3 1 16 8 0 (j 1).val ((j 2).val / 64)) 2).trans
      (congrArg (_ + ·) (Nat.mod_eq_of_lt hq))
    rw [pay301_at, hv _ (by unfold ok3; rw [f2]; exact (if_pos (show 512 + (j 2).val / 64 < 520 by omega)).trans_lt Nat.one_pos),
      hw j (by unfold ok3; rw [g2]; exact (if_pos (show (j 2).val < 520 by omega)).trans_lt Nat.one_pos)]
    show nrm (SS I d _ _ _) (SS I d _ _ _) = nrm (SS I (devOf _) _ _ _) (SS I (devOf _) _ _ _)
    have er : 256 * (d.val % 2) + 16 * (d.val / 2) + (j 1).val = 16 * bn d + (j 1).val := by unfold bn; omega
    have h0 : n + (j 0).val = n := by omega
    rw [f0, f1, f2, g0, g1, g2, e0, e1, e2]
    show nrm (SS I d (n + 0) (256 * (d.val % 2) + 16 * (d.val / 2) + (j 1).val) _) (SS I d (n + (j 0).val) (256 * (d.val % 2) + 16 * (d.val / 2) + (j 1).val) _)
      = nrm (SS I (devOf (256 * (d.val % 2) + 16 * (d.val / 2) + (j 1).val)) (n + (j 0).val) (256 * (d.val % 2) + 16 * (d.val / 2) + (j 1).val) _)
         (SS I (devOf (256 * (d.val % 2) + 16 * (d.val / 2) + (j 1).val)) (n + (j 0).val) (256 * (d.val % 2) + 16 * (d.val / 2) + (j 1).val) _)
    rw [h0, er, devOf_own d j1]
    rfl
  · subst ho₃
    have hi' := (Finset.mem_filter.mp hi).2
    have h2 : (i 2).val < 512 := (i 2).isLt
    have h1 : (i 1).val < 512 := (i 1).isLt
    change (i 0).val = n at h
    refine mem_unit3 (A := 2) (B := 512) (C := 512) i ⟨by omega, by show _ < n + 1; omega⟩ ?_ ⟨Nat.zero_le _, by show _ < 0 + 512; omega⟩
    show 256 * (d.val % 2) + 16 * (d.val / 2) ≤ (i 1).val ∧ (i 1).val < 256 * (d.val % 2) + 16 * (d.val / 2) + 16
    unfold bn at hi'
    omega
  · iintro H14
    iapply hk
    iframe

/-- Reading all slots, adding, and dividing. -/
theorem reduce (v3 v9 : BitVec 32) (κ : Prog (TpuEff nD τ sig (Elt F) Λ₀ .tc) α)
    (hk : upto d cc0_scratch14 (blk 512 d) fullShare (fun i => (i 0).val) 2 (c3 (FIN I)) ∗ (upto d cc0_scratch0 (blk 640 d) fullShare ok3 1 (c3 (SS I d)) ∗
        (upto d cc0_scratch5 Finset.univ fullShare ok4 1 (oryT I d) ∗ R)) ⊢ bwp d κ Q) :
    upto d cc0_scratch5 Finset.univ fullShare ok4 1 (oryT I d) ∗ (upto d cc0_scratch0 (blk 640 d) fullShare ok3 1 (c3 (X1 I d)) ∗
        (any d cc0_scratch14 (blk 512 d) ∗ R)) ⊢ bwp d (s10 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 v9 κ) Q := by
  unfold s10
  simp only [k0_part70_eq_skeleton, k0_part70_skel, k0_part71_eq_skeleton, k0_part71_skel, k0_part72_eq_skeleton, k0_part72_skel, k0_part73_eq_skeleton, k0_part73_skel, k0_part74_eq_skeleton, k0_part74_skel, Prog.bind_lift, Prog.bind_assoc, Prog.bind_ret, Prog.bind_op, Prog.pure_eq_ret, pay302_eq]
  refine slot_step I (s := 0) rfl fun v0 h0 => ?_
  refine slot_step I (s := 1) rfl fun v1 h1 => ?_
  refine slot_step I (s := 2) rfl fun v2 h2 => ?_
  refine slot_step I (s := 3) rfl fun v3 h3 => ?_
  refine slot_step I (s := 4) rfl fun v4 h4 => ?_
  refine slot_step I (s := 5) rfl fun v5 h5 => ?_
  refine slot_step I (s := 6) rfl fun v6 h6 => ?_
  refine slot_step I (s := 7) rfl fun v7 h7 => ?_
  refine slot_step I (s := 8) rfl fun v8 h8 => ?_
  refine slot_step I (s := 9) rfl fun v9 h9 => ?_
  refine slot_step I (s := 10) rfl fun v10 h10 => ?_
  refine slot_step I (s := 11) rfl fun v11 h11 => ?_
  refine slot_step I (s := 12) rfl fun v12 h12 => ?_
  refine slot_step I (s := 13) rfl fun v13 h13 => ?_
  refine slot_step I (s := 14) rfl fun v14 h14 => ?_
  refine own_step I fun own ho => ?_
  refine own_step I fun _ _ => ?_
  refine sum_store I (fun j hj => ?_) ?_
  · refine (sum_at (fun s => match s with | 0 => v0 | 1 => v1 | 2 => v2 | 3 => v3 | 4 => v4 | 5 => v5 | 6 => v6 | 7 => v7 | 8 => v8 | 9 => v9 | 10 => v10 | 11 => v11 | 12 => v12 | 13 => v13 | _ => v14) own j).trans ?_
    rw [ho j hj]
    exact tot_congr _ fun
      | 0, _ => h0 j hj
      | 1, _ => h1 j hj
      | 2, _ => h2 j hj
      | 3, _ => h3 j hj
      | 4, _ => h4 j hj
      | 5, _ => h5 j hj
      | 6, _ => h6 j hj
      | 7, _ => h7 j hj
      | 8, _ => h8 j hj
      | 9, _ => h9 j hj
      | 10, _ => h10 j hj
      | 11, _ => h11 j hj
      | 12, _ => h12 j hj
      | 13, _ => h13 j hj
      | 14, _ => h14 j hj
      | _ + 15, h => absurd h (by omega)
  iintro ⟨H5, H0, H14, HR⟩
  ihave H14 := (any_upto (d := d) (b := cc0_scratch14) (S := blk 512 d) (n := 0) (num := fun i => (i 0).val) (fun _ _ => Nat.zero_le _) (c3 (FIN I))) $$ H14
  iapply (norm_step I (off_norm d).1 (off_norm d).2.1 (off_norm d).2.2.1 rfl (norm_step I (off_norm d).2.2.2.1 (off_norm d).2.2.2.2.1 (off_norm d).2.2.2.2.2 rfl hk))
  iframe

end Cert.KernelIdeal.Talk
-- ==== Proof.K.Project.lean ====
/- The stretches in which a device multiplies the assembled rows by the output weights and writes them in the order of
   the result. -/
module

public import proofs.«01_k».proof.Proof.K.Values

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)
variable {α : Type} {d : Dev nD} {R : sProp (MM F)} {Q : α → sProp (MM F)}

/-- The assembled rows of one half of one batch element. -/
def rowsOf (b hf : ℕ) : FVec F S1x256x512 .bf16 := fun j => FIN I b (256 * hf + (j 1).val) (j 2).val

/-- Their product with the output weights. -/
def PB (d : Dev nD) (b hf : ℕ) : FVec F S256x768 .f32 := k0_pay309 (k0_pay303 (I.wo d)) (rowsOf I b hf)

/-- The result: row `r` of it lies in block `r / 64`, whose half and place in the half follow the kernel's grouping. -/
def OUT (d : Dev nD) (b r c : ℕ) : F .f32 := PB I d b (r / 64 % 4 / 2) (mk2 256 768 (64 * (2 * (r / 64 % 2) + r / 64 / 4) + r % 64) c)

/-- When a row of the result is written. -/
def numO (d : Dev nD) (i : S2x512x768.Idx) : ℕ :=
  8 * (if (i 1).val / 64 % 4 / 2 = d.val % 2 then 0 else 1) + 4 * (i 0).val + (2 * ((i 1).val / 64 % 2) + (i 1).val / 64 / 4)

theorem chunk (m : ℕ) (hm : m < 4) (P : FVec F S256x768 .f32) {h₁ h₂} (j : S1x64x768.Idx) :
    shapeCast S1x64x768 (extractStridedSlice S64x768 ![64 * m, 0] P h₁) h₂ j = P (mk2 256 768 (64 * m + (j 1).val) (j 2).val) := by
  have h1 : (j 1).val < 64 := (j 1).isLt
  have h2 : (j 2).val < 768 := (j 2).isLt
  have h0 : (j 0).val = 0 := Nat.lt_one_iff.mp (j 0).isLt
  refine (shapeCast_apply _ _ j (mk2 64 768 (j 1).val (j 2).val) (by
    rw [Shape.rowMajor_val_two, Shape.rowMajor_val_three]
    show ((j 1).val % 64) * 768 + (j 2).val % 768 = ((j 0).val * 64 + (j 1).val) * 768 + (j 2).val
    omega)).trans ?_
  refine extractStridedSlice_apply _ _ _ _ _ (fun a => ?_)
  match a with
  | 0 => show (64 * m + (j 1).val) % 256 = 64 * m + (j 1).val % 64; omega
  | 1 => show (j 2).val % 768 = 0 + (j 2).val % 768; omega

theorem pay305_at (P : FVec F S256x768 .f32) (j : S1x64x768.Idx) : k0_pay305 P j = P (mk2 256 768 (64 * 0 + (j 1).val) (j 2).val) := chunk 0 (by decide) P j

theorem pay306_at (P : FVec F S256x768 .f32) (j : S1x64x768.Idx) : k0_pay306 P j = P (mk2 256 768 (64 * 1 + (j 1).val) (j 2).val) := chunk 1 (by decide) P j

theorem pay307_at (P : FVec F S256x768 .f32) (j : S1x64x768.Idx) : k0_pay307 P j = P (mk2 256 768 (64 * 2 + (j 1).val) (j 2).val) := chunk 2 (by decide) P j

theorem pay308_at (P : FVec F S256x768 .f32) (j : S1x64x768.Idx) : k0_pay308 P j = P (mk2 256 768 (64 * 3 + (j 1).val) (j 2).val) := chunk 3 (by decide) P j

/-- The later payloads are the same four chunks of the later products. -/
theorem pay_later : (∀ (a : FVec F S512x768 .bf16) (v : Vec F S1x256x512 .bf16), k0_pay310 a v = k0_pay305 (k0_pay309 a v) ∧ k0_pay311 a v = k0_pay306 (k0_pay309 a v)
      ∧ k0_pay312 a v = k0_pay307 (k0_pay309 a v) ∧ k0_pay314 (k0_pay313 a v) = k0_pay308 (k0_pay309 a v)
      ∧ k0_pay316 a v = k0_pay305 (k0_pay309 a v) ∧ k0_pay317 a v = k0_pay306 (k0_pay309 a v) ∧ k0_pay318 a v = k0_pay307 (k0_pay309 a v)
      ∧ k0_pay321 a v = k0_pay305 (k0_pay309 a v) ∧ k0_pay322 a v = k0_pay306 (k0_pay309 a v) ∧ k0_pay315 a v = k0_pay309 a v ∧ k0_pay320 a v = k0_pay309 a v)
    ∧ (∀ (a : Vec F S512x768 .bf16) (v : Vec F S1x256x512 .bf16), k0_pay304 a v = k0_pay309 (k0_pay303 a) v)
    ∧ (k0_pay319 (F := F) = k0_pay308) ∧ (k0_pay323 (F := F) = k0_pay307)
    ∧ (∀ P : FVec F S256x768 .f32, shapeCast S1x64x768 (k0_pay324 P) shapeCasts_S64x768_S1x64x768 = k0_pay308 P) :=
  ⟨fun _ _ => ⟨rfl, rfl, rfl, rfl, rfl, rfl, rfl, rfl, rfl, rfl, rfl⟩, fun _ _ => rfl, rfl, rfl, fun _ => rfl⟩

theorem grp : ∀ (hf : Fin 2) (m : Fin 4), (2 * hf.val + m.val / 2 + 4 * (m.val % 2)) % 4 / 2 = hf.val
    ∧ 2 * ((2 * hf.val + m.val / 2 + 4 * (m.val % 2)) % 2) + (2 * hf.val + m.val / 2 + 4 * (m.val % 2)) / 4 = m.val := by decide

theorem grp' : ∀ (e : Fin 8) (m : Fin 4), 2 * (e.val % 2) + e.val / 4 = m.val → e.val = 2 * (e.val % 4 / 2) + m.val / 2 + 4 * (m.val % 2) := by decide

/-- Where chunk `m` of a half begins in the result. -/
def place (hf m : ℕ) : ℕ := 64 * (2 * hf + m / 2 + 4 * (m % 2))

/-- One chunk of sixty-four rows written. -/
theorem out_step {b hf m n n' : ℕ} {off : Fin 3 → ℕ} {inb : ∀ a, off a + S1x64x768.size a ≤ S2x512x768.size a} {hl hx hm'} {w : FVec F S1x64x768 .f32}
    {k : PUnit → Prog (TpuEff nD τ sig (Elt F) Λ₀ .tc) α} (ho : off = ![b, place hf m, 0]) (hb : b < 2) (hh : hf < 2) (hm : m < 4)
    {P : FVec F S256x768 .f32} (hw : ∀ j, w j = P (mk2 256 768 (64 * m + (j 1).val) (j 2).val)) (hP : P = PB I d b hf) (hn : n = 8 * (if hf = d.val % 2 then 0 else 1) + 4 * b + m) (hn' : n' = n + 1)
    (hk : upto d cc0_stg5_0 Finset.univ fullShare (numO d) n' (c3 (OUT I d)) ∗ R ⊢ bwp d (k ⟨⟩) Q) :
    upto d cc0_stg5_0 Finset.univ fullShare (numO d) n (c3 (OUT I d)) ∗ R
      ⊢ bwp d (.op (.load (Memref.whole cc0_stg5_0) (Rect.unit (s := S2x512x768) off S1x64x768.size inb).toLoadRect hl) fun _ =>
          .op (.store (Memref.whole cc0_stg5_0) (Rect.unit (s := S2x512x768) off S1x64x768.size inb) w Finset.univ hx hm') k) Q := by
  iintro ⟨H5, HR⟩
  iapply (load_any (d := d) (bi := 5) (bh := rfl) (fun _ => Finset.mem_univ _)) $$ H5
  iintro %z - H5
  iapply (store_next (d := d) (bi := 5) (bh := rfl) hn' (fun _ => Finset.mem_univ _) (fun j hj => ?_) (fun i hi h => ?_)) $$ H5
  · unfold place at ho
    have e0 := idx_is (s := S2x512x768) (inb := inb) ho j 0
    have e1 := idx_is (s := S2x512x768) (inb := inb) ho j 1
    have e2 := (idx_is (s := S2x512x768) (inb := inb) ho j 2).trans (Nat.zero_add _)
    have z0 : (j 0).val = 0 := Nat.lt_one_iff.mp (j 0).isLt
    have j1 : (j 1).val < 64 := (j 1).isLt
    rw [hw, hP]
    show _ = PB I d _ _ (mk2 256 768 _ _)
    rw [e0, e1, e2]
    show _ = PB I d (b + (j 0).val) ((64 * (2 * hf + m / 2 + 4 * (m % 2)) + (j 1).val) / 64 % 4 / 2)
      (mk2 256 768 (64 * (2 * ((64 * (2 * hf + m / 2 + 4 * (m % 2)) + (j 1).val) / 64 % 2) + (64 * (2 * hf + m / 2 + 4 * (m % 2)) + (j 1).val) / 64 / 4)
        + (64 * (2 * hf + m / 2 + 4 * (m % 2)) + (j 1).val) % 64) (j 2).val)
    have q : (64 * (2 * hf + m / 2 + 4 * (m % 2)) + (j 1).val) / 64 = 2 * hf + m / 2 + 4 * (m % 2) := by omega
    have q' : (64 * (2 * hf + m / 2 + 4 * (m % 2)) + (j 1).val) % 64 = (j 1).val := by omega
    have q1 := (grp ⟨hf, hh⟩ ⟨m, hm⟩).1
    have q2 := (grp ⟨hf, hh⟩ ⟨m, hm⟩).2
    simp only [] at q1 q2
    have q3 : b + (j 0).val = b := by omega
    rw [q, q', q1, q2, q3]
  · unfold place at ho
    subst ho
    have i0 : (i 0).val < 2 := (i 0).isLt
    have i1 : (i 1).val < 512 := (i 1).isLt
    have i2 : (i 2).val < 768 := (i 2).isLt
    change 8 * (if (i 1).val / 64 % 4 / 2 = d.val % 2 then 0 else 1) + 4 * (i 0).val + (2 * ((i 1).val / 64 % 2) + (i 1).val / 64 / 4) = n at h
    have key : (i 0).val = b ∧ (i 1).val / 64 = 2 * hf + m / 2 + 4 * (m % 2) := by
      have := Nat.mod_lt d.val (show 0 < 2 by decide)
      have e8 : (i 1).val / 64 < 8 := by omega
      have gg := fun hh => grp' ⟨_, e8⟩ ⟨m, hm⟩ hh
      simp only [] at gg
      generalize (i 1).val / 64 = e at h e8 gg ⊢
      have hm' : 2 * (e % 2) + e / 4 = m ∧ (i 0).val = b ∧ e % 4 / 2 = hf := by
        split at h <;> split at hn <;> omega
      have := gg hm'.1
      rw [hm'.2.2] at this
      exact ⟨hm'.2.1, this⟩
    refine mem_unit3 (A := 2) (B := 512) (C := 768) i ⟨by omega, by show _ < b + 1; omega⟩ ?_ ⟨Nat.zero_le _, by show _ < 0 + 768; omega⟩
    show 64 * (2 * hf + m / 2 + 4 * (m % 2)) ≤ (i 1).val ∧ (i 1).val < 64 * (2 * hf + m / 2 + 4 * (m % 2)) + 64
    omega
  · iintro H5
    iapply hk
    iframe

/-- The assembled rows read. -/
theorem fin_step {A : sProp (MM F)} {b hf : ℕ} {q : PosShare TreeShare} {off : Fin 3 → ℕ} {inb : ∀ a, off a + S1x256x512.size a ≤ S2x512x512.size a} {hl}
    {k : Vec F S1x256x512 .bf16 → Prog (TpuEff nD τ sig (Elt F) Λ₀ .tc) α} (ho : off = ![b, 256 * hf, 0])
    (hk : A ∗ (upto d cc0_scratch14 (hlf 512 hf) q (fun _ => 0) 1 (c3 (FIN I)) ∗ R) ⊢ bwp d (k (rowsOf I b hf)) Q) :
    A ∗ (upto d cc0_scratch14 (hlf 512 hf) q (fun _ => 0) 1 (c3 (FIN I)) ∗ R)
      ⊢ bwp d (.op (.load (Memref.whole cc0_scratch14) (Rect.unit (s := S2x512x512) off S1x256x512.size inb).toLoadRect hl) k) Q := by
  have g := fun j => idx_is (s := S2x512x512) (inb := inb) ho j
  iintro ⟨HA, H14, HR⟩
  iapply (load_known (d := d) (bi := 12) (bh := rfl) (rowsOf I b hf) (fun j => ?_) (fun _ => Nat.one_pos) (fun j => ?_)) $$ H14
  · refine Finset.mem_filter.mpr ⟨Finset.mem_univ _, ?_⟩
    rw [g j 1]
    have j1 : (j 1).val < 256 := (j 1).isLt
    show (256 * hf + (j 1).val) / 256 = hf
    omega
  · have g2 := (g j 2).trans (Nat.zero_add _)
    have z0 : (j 0).val = 0 := Nat.lt_one_iff.mp (j 0).isLt
    show FIN I _ _ _ = FIN I _ _ _
    rw [g j 0, g j 1, g2]
    show FIN I (b + (j 0).val) _ _ = _
    rw [z0]
    rfl
  · iintro H14
    iapply hk
    iframe

/-- The output weights read. -/
theorem wo_step {A B : sProp (MM F)} {inb} {hl} {k : Vec F S512x768 .bf16 → Prog (TpuEff nD τ sig (Elt F) Λ₀ .tc) α}
    (hk : A ∗ (B ∗ (holds d cc0_stg4_0 (I.wo d) ∗ R)) ⊢ bwp d (k (I.wo d)) Q) :
    A ∗ (B ∗ (holds d cc0_stg4_0 (I.wo d) ∗ R))
      ⊢ bwp d (.op (.load (Memref.whole cc0_stg4_0) (Rect.unit (s := S512x768) ![0, 0] S512x768.size inb).toLoadRect hl) k) Q := by
  iintro ⟨HA, HB, H4, HR⟩
  iapply (load_known (d := d) (bi := 4) (bh := rfl) (I.wo d) (fun _ => Finset.mem_univ _) (fun _ => Nat.one_pos)
    (fun j => congrArg (I.wo d) (funext fun a => Fin.ext (by
      match a with
      | 0 => simp [LoadRect.idx, Rect.unit]
      | 1 => simp [LoadRect.idx, Rect.unit])))) $$ H4
  iintro H4
  iapply hk
  iframe

theorem off_fin : ∀ d : Dev nD, k0_off85 d = ![0, 256 * (d.val % 2), 0] ∧ k0_off87 d = ![1, 256 * (d.val % 2), 0]
      ∧ k0_off89 d = ![0, 256 * (1 - d.val % 2), 0] ∧ k0_off91 d = ![1, 256 * (1 - d.val % 2), 0] := by
  decide +kernel

theorem off86_eq : ∀ d : Dev nD, k0_off86 d 0#32 0#32 = ![0, place (d.val % 2) 0, 0]
    ∧ k0_off86 d 64#32 256#32 = ![0, place (d.val % 2) 1, 0]
    ∧ k0_off86 d 128#32 0#32 = ![0, place (d.val % 2) 2, 0]
    ∧ k0_off86 d 192#32 256#32 = ![0, place (d.val % 2) 3, 0] := by
  decide +kernel

theorem off88_eq : ∀ d : Dev nD, k0_off88 d 0#32 0#32 = ![1, place (d.val % 2) 0, 0]
    ∧ k0_off88 d 64#32 256#32 = ![1, place (d.val % 2) 1, 0]
    ∧ k0_off88 d 128#32 0#32 = ![1, place (d.val % 2) 2, 0]
    ∧ k0_off88 d 192#32 256#32 = ![1, place (d.val % 2) 3, 0] := by
  decide +kernel

theorem off90_eq : ∀ d : Dev nD, k0_off90 d 0#32 0#32 = ![0, place (1 - d.val % 2) 0, 0]
    ∧ k0_off90 d 64#32 256#32 = ![0, place (1 - d.val % 2) 1, 0]
    ∧ k0_off90 d 128#32 0#32 = ![0, place (1 - d.val % 2) 2, 0]
    ∧ k0_off90 d 192#32 256#32 = ![0, place (1 - d.val % 2) 3, 0] := by
  decide +kernel

theorem off92_eq : ∀ d : Dev nD, k0_off92 d 0#32 0#32 = ![1, place (1 - d.val % 2) 0, 0]
    ∧ k0_off92 d 64#32 256#32 = ![1, place (1 - d.val % 2) 1, 0]
    ∧ k0_off92 d 128#32 0#32 = ![1, place (1 - d.val % 2) 2, 0]
    ∧ k0_off92 d 192#32 256#32 = ![1, place (1 - d.val % 2) 3, 0] := by
  decide +kernel

set_option maxRecDepth 65536 in
set_option maxHeartbeats 4000000 in
/-- The half kept, in both batch elements. -/
theorem project0 (v3 v9 : BitVec 32) (κ : Vec F S512x768 .bf16 → Prog (TpuEff nD τ sig (Elt F) Λ₀ .tc) α) {q : PosShare TreeShare}
    (hk : upto d cc0_stg5_0 Finset.univ fullShare (numO d) 8 (c3 (OUT I d)) ∗ (upto d cc0_scratch14 (hlf 512 (d.val % 2)) q (fun _ => 0) 1 (c3 (FIN I)) ∗
      (holds d cc0_stg4_0 (I.wo d) ∗ R)) ⊢ bwp d (κ (I.wo d)) Q) :
    upto d cc0_stg5_0 Finset.univ fullShare (numO d) 0 (c3 (OUT I d)) ∗ (upto d cc0_scratch14 (hlf 512 (d.val % 2)) q (fun _ => 0) 1 (c3 (FIN I)) ∗
      (holds d cc0_stg4_0 (I.wo d) ∗ R)) ⊢ bwp d (s14 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 v9 κ) Q := by
  have h2 : d.val % 2 < 2 := Nat.mod_lt _ (by decide)
  unfold s14
  simp only [k0_part88_eq_skeleton, k0_part88_skel, k0_part89_eq_skeleton, k0_part89_skel, k0_part90_eq_skeleton, k0_part90_skel, k0_part91_eq_skeleton, k0_part91_skel, pay_later.1, pay_later.2.1, Prog.bind_lift, Prog.bind_assoc, Prog.bind_ret, Prog.bind_op, Prog.pure_eq_ret]
  refine wo_step I ?_
  refine fin_step I (off_fin d).1 ?_
  refine out_step I (m := 0) (off86_eq d).1 (by decide) h2 (by decide) (fun j => pay305_at _ j) rfl (by rw [if_pos rfl]) rfl ?_
  refine out_step I (m := 1) (off86_eq d).2.1 (by decide) h2 (by decide) (fun j => pay306_at _ j) rfl (by rw [if_pos rfl]) rfl ?_
  refine out_step I (m := 2) (off86_eq d).2.2.1 (by decide) h2 (by decide) (fun j => pay307_at _ j) rfl (by rw [if_pos rfl]) rfl ?_
  refine out_step I (m := 3) (off86_eq d).2.2.2 (by decide) h2 (by decide) (fun j => pay308_at _ j) rfl (by rw [if_pos rfl]) rfl ?_
  refine fin_step I (off_fin d).2.1 ?_
  refine out_step I (m := 0) (off88_eq d).1 (by decide) h2 (by decide) (fun j => pay305_at _ j) rfl (by rw [if_pos rfl]) rfl ?_
  refine out_step I (m := 1) (off88_eq d).2.1 (by decide) h2 (by decide) (fun j => pay306_at _ j) rfl (by rw [if_pos rfl]) rfl ?_
  refine out_step I (m := 2) (off88_eq d).2.2.1 (by decide) h2 (by decide) (fun j => pay307_at _ j) rfl (by rw [if_pos rfl]) rfl ?_
  refine out_step I (m := 3) (off88_eq d).2.2.2 (by decide) h2 (by decide) (fun j => pay308_at _ j) rfl (by rw [if_pos rfl]) rfl ?_
  exact hk

set_option maxRecDepth 65536 in
set_option maxHeartbeats 4000000 in
/-- The other half. -/
theorem project1 (v3 v9 : BitVec 32) (κ : Prog (TpuEff nD τ sig (Elt F) Λ₀ .tc) α) {q : PosShare TreeShare}
    (hk : upto d cc0_stg5_0 Finset.univ fullShare (numO d) 16 (c3 (OUT I d)) ∗ (upto d cc0_scratch14 (hlf 512 (1 - d.val % 2)) q (fun _ => 0) 1 (c3 (FIN I)) ∗ R)
      ⊢ bwp d κ Q) :
    upto d cc0_stg5_0 Finset.univ fullShare (numO d) 8 (c3 (OUT I d)) ∗ (upto d cc0_scratch14 (hlf 512 (1 - d.val % 2)) q (fun _ => 0) 1 (c3 (FIN I)) ∗ R)
      ⊢ bwp d (s17 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 v9 (I.wo d) κ) Q := by
  have h2 : 1 - d.val % 2 < 2 := by omega
  have hne : ¬ (1 - d.val % 2 = d.val % 2) := by omega
  unfold s17
  simp only [k0_part93_eq_skeleton, k0_part93_skel, k0_part94_eq_skeleton, k0_part94_skel, k0_part95_eq_skeleton, k0_part95_skel, pay_later.1, pay_later.2.1, pay_later.2.2.1, pay_later.2.2.2.1, Prog.bind_lift, Prog.bind_assoc, Prog.bind_ret, Prog.bind_op, Prog.pure_eq_ret]
  refine fin_step I (off_fin d).2.2.1 ?_
  refine out_step I (m := 0) (off90_eq d).1 (by decide) h2 (by decide) (fun j => pay305_at _ j) rfl (by rw [if_neg hne]) rfl ?_
  refine out_step I (m := 1) (off90_eq d).2.1 (by decide) h2 (by decide) (fun j => pay306_at _ j) rfl (by rw [if_neg hne]) rfl ?_
  refine out_step I (m := 2) (off90_eq d).2.2.1 (by decide) h2 (by decide) (fun j => pay307_at _ j) rfl (by rw [if_neg hne]) rfl ?_
  refine out_step I (m := 3) (off90_eq d).2.2.2 (by decide) h2 (by decide) (fun j => pay308_at _ j) rfl (by rw [if_neg hne]) rfl ?_
  refine fin_step I (off_fin d).2.2.2 ?_
  refine out_step I (m := 0) (off92_eq d).1 (by decide) h2 (by decide) (fun j => pay305_at _ j) rfl (by rw [if_neg hne]) rfl ?_
  refine out_step I (m := 1) (off92_eq d).2.1 (by decide) h2 (by decide) (fun j => pay306_at _ j) rfl (by rw [if_neg hne]) rfl ?_
  refine out_step I (m := 2) (off92_eq d).2.2.1 (by decide) h2 (by decide) (fun j => pay307_at _ j) rfl (by rw [if_neg hne]) rfl ?_
  refine out_step I (m := 3) (off92_eq d).2.2.2 (by decide) h2 (by decide) (fun j => pay308_at _ j) rfl (by rw [if_neg hne]) rfl ?_
  exact hk

end Cert.KernelIdeal.Talk
-- ==== Proof.K.Sweep.lean ====
/- The two attention sweeps run. -/
module

public import proofs.«01_k».proof.Proof.K.Attn

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)

/-- The projection weights, loaded whole during a sweep. -/
theorem att_wq {α : Type} {d : Dev nD} {R : sProp (MM F)} {Q : α → sProp (MM F)} {p n : ℕ} {inb} {hl}
    {k : Vec F S768x512 .bf16 → Prog (TpuEff nD τ sig (Elt F) Λ₀ .tc) α}
    (hk : Att I d p n ∗ (holds d cc0_stg1_0 (I.wq d) ∗ R) ⊢ bwp d (k (I.wq d)) Q) :
    Att I d p n ∗ (holds d cc0_stg1_0 (I.wq d) ∗ R)
      ⊢ bwp d (.op (.load (Memref.whole cc0_stg1_0) (Rect.unit (s := S768x512) ![0, 0] S768x512.size inb).toLoadRect hl) k) Q := by
  iintro ⟨H0, H1, HR⟩
  iapply (load_known (d := d) (bi := 1) (bh := rfl) (I.wq d) (fun _ => Finset.mem_univ _) (fun _ => Nat.one_pos)
    (fun j => congrArg (I.wq d) (funext fun a => Fin.ext (by
      match a with
      | 0 => simp [LoadRect.idx, Rect.unit]
      | 1 => simp [LoadRect.idx, Rect.unit])))) $$ H1
  iintro H1
  iapply hk
  iframe

set_option maxRecDepth 65536 in
set_option maxHeartbeats 4000000 in
theorem sweep0 {α : Type} (d : Dev nD) (v3 : BitVec 32) {R : sProp (MM F)} {Q : α → sProp (MM F)}
    (κ : Vec F S768x512 .bf16 → Prog (TpuEff nD τ sig (Elt F) Λ₀ .tc) α)
    (hk : Att I d 0 36 ∗ (holds d cc0_stg1_0 (I.wq d) ∗ R) ⊢ bwp d (κ (I.wq d)) Q) :
    Att I d 0 0 ∗ (holds d cc0_stg1_0 (I.wq d) ∗ R)
      ⊢ bwp d (s3 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 κ) Q := by
  unfold s3
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel,
    Prog.bind_lift, Prog.bind_assoc, Prog.bind_ret, Prog.pure_eq_ret]
  refine att_wq I ?_
  iterate 2
    refine att_x I _ (by clear * - d; revert d; decide +kernel) ?_
    iterate 2
      iterate 8
        refine att_k I _ (by clear * - d; revert d; decide +kernel) ?_
        refine att_v I _ (by clear * - d; revert d; decide +kernel) ?_
        refine att_any I _ (by clear * - d; revert d; decide +kernel) (by clear * - d; revert d; decide +kernel) (fun _ => ?_)
        refine att_o I _ _ (by clear * - d; revert d; decide +kernel) (by decide) (by decide) rfl rfl ?_
      refine att_any I _ (by clear * - d; revert d; decide +kernel) (by clear * - d; revert d; decide +kernel) (fun _ => ?_)
      refine att_l I _ _ (by clear * - d; revert d; decide +kernel) (by decide) (by decide) rfl rfl ?_
  exact hk

set_option maxRecDepth 65536 in
set_option maxHeartbeats 4000000 in
theorem sweep1 {α : Type} (d : Dev nD) (v3 : BitVec 32) {R : sProp (MM F)} {Q : α → sProp (MM F)}
    (κ : Prog (TpuEff nD τ sig (Elt F) Λ₀ .tc) α)
    (hk : Att I d 1 36 ∗ R ⊢ bwp d κ Q) :
    Att I d 1 0 ∗ R
      ⊢ bwp d (s5 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 (I.wq d) κ) Q := by
  unfold s5
  simp only [k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel,
    Prog.bind_lift, Prog.bind_assoc, Prog.bind_ret, Prog.pure_eq_ret]
  iterate 2
    refine att_x I _ (by clear * - d; revert d; decide +kernel) ?_
    iterate 2
      iterate 8
        refine att_k I _ (by clear * - d; revert d; decide +kernel) ?_
        refine att_v I _ (by clear * - d; revert d; decide +kernel) ?_
        refine att_any I _ (by clear * - d; revert d; decide +kernel) (by clear * - d; revert d; decide +kernel) (fun _ => ?_)
        refine att_o I _ _ (by clear * - d; revert d; decide +kernel) (by decide) (by decide) rfl rfl ?_
      refine att_any I _ (by clear * - d; revert d; decide +kernel) (by clear * - d; revert d; decide +kernel) (fun _ => ?_)
      refine att_l I _ _ (by clear * - d; revert d; decide +kernel) (by decide) (by decide) rfl rfl ?_
  exact hk

end Cert.KernelIdeal.Talk
-- ==== Proof.K.Copy.lean ====
/- The copies of the token rows, the keys and the values into permuted row order, run. -/
module

public import proofs.«01_k».proof.Proof.K.Attn
public import Idealize.ShloMosaic.Lib.Pipeline.Value

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)

/-- Which of a buffer's sixteen copies writes an element. -/
def numC {C : ℕ} (i : (⟨3, ![2, 512, C]⟩ : Shape).Idx) : ℕ :=
  8 * (i 0).val + ((i 1).val / 64 / 2 + 4 * ((i 1).val / 64 % 2))

theorem unit_idx {s : Shape} {off size : Fin s.rank → ℕ} (inb) (j : (Rect.unit off size inb).toLoadRect.shape.Idx) (a : Fin s.rank) :
    ((Rect.unit off size inb).toLoadRect.idx j a).val = off a + (j a).val := by
  simp [LoadRect.idx, Rect.unit]

/-- One copy from a known buffer into another: the load, the load of the old contents, the store. -/
theorem copy_step {α : Type} {d : Dev nD} {Q : α → sProp (MM F)} {si : Fin (sig.nNear .tc .vmem)} {sh : sig.names .tc .vmem si = true}
    {bi : Fin (sig.nNear .tc .vmem)} {bh : sig.names .tc .vmem bi = true}
    {T : (vb si sh).ty.Contents (Elt F)} {D : (vb bi bh).ty.Contents (Elt F)} {num : (vb bi bh).ty.Idx → ℕ} {n n' : ℕ} (hn' : n' = n + 1)
    {r : LoadRect (vb si sh).ty.shape} {hl : (wm si sh).view.LoadsAt r} {r' : Rect (vb bi bh).ty.shape} {hl' : (wm bi bh).view.LoadsAt r'.toLoadRect}
    {w : (r.shape.Idx → Elt F (vb si sh).ty.elt) → r'.shape.Idx → Elt F (vb bi bh).ty.elt} {hx : ((wm bi bh).access r').Stores Finset.univ}
    {hm : (Finset.univ : Finset r'.shape.Idx) = Finset.univ ∨ ∀ a, r'.stride a = 1}
    {k : PUnit → Prog (TpuEff nD τ sig (Elt F) Λ₀ .tc) α}
    (hw : ∀ j, w (fun j => T (r.idx j)) j = D (r'.idx j)) (hn : ∀ i, num i = n → i ∈ r'.set) :
    upto d (vb bi bh) Finset.univ fullShare num n D
      ⊢ holds d (vb si sh) T
        -∗ (upto d (vb bi bh) Finset.univ fullShare num n' D -∗ holds d (vb si sh) T -∗ bwp d (k ⟨⟩) Q)
        -∗ bwp d (.op (.load (wm si sh) r hl) fun v => .op (.load (wm bi bh) r'.toLoadRect hl') fun _ =>
            .op (.store (wm bi bh) r' (w v) Finset.univ hx hm) k) Q := by
  iintro HD HT Hk
  iapply (load_known (d := d) (bi := si) (bh := sh) (fun j => T (r.idx j)) (fun _ => Finset.mem_univ _) (fun _ => Nat.one_pos) (fun j => rfl)) $$ HT
  iintro HT
  iapply (load_any (d := d) (bi := bi) (bh := bh) (fun _ => Finset.mem_univ _)) $$ HD
  iintro %v _ HD
  iapply (store_next (d := d) (bi := bi) (bh := bh) (n := n) (n' := n') hn' (fun _ => Finset.mem_univ _) (fun j _ => hw j) (fun i _ h => hn i h)) $$ HD
  iintro HD
  iapply Hk $$ HD HT

/-- The state of the copies: how many of each buffer's sixteen are done. -/
def Cp (d : Dev nD) (n n2 n3 : ℕ) : sProp (MM F) :=
  iprop(upto d cc0_scratch1 Finset.univ fullShare numC n (c3 (XP I d)) ∗ upto d cc0_scratch2 Finset.univ fullShare numC n2 (c3 (KP I d))
    ∗ upto d cc0_scratch3 Finset.univ fullShare numC n3 (c3 (VP I d))
    ∗ holds d cc0_stg0_0 (I.x d) ∗ holds d cc0_stg2_0 (I.k d) ∗ holds d cc0_stg3_0 (I.v d))

section Steps

variable {α : Type} {d : Dev nD} {R : sProp (MM F)} {Q : α → sProp (MM F)}

theorem mem_copy {C n : ℕ} {size : Fin 3 → ℕ}
    {inb : ∀ a, (![n / 8, 128 * (n % 4) + 64 * (n % 8 / 4), 0] : Fin 3 → ℕ) a + size a ≤ (⟨3, ![2, 512, C]⟩ : Shape).size a} (h0 : size 0 = 1) (h1 : size 1 = 64) (h2 : size 2 = C)
    (i : (⟨3, ![2, 512, C]⟩ : Shape).Idx) (h : numC i = n) :
    i ∈ (Rect.unit (s := ⟨3, ![2, 512, C]⟩) ![n / 8, 128 * (n % 4) + 64 * (n % 8 / 4), 0] size inb).toLoadRect.set := by
  have a0 : (i 0).val < 2 := (i 0).isLt
  have a1 : (i 1).val < 512 := (i 1).isLt
  have a2 : (i 2).val < C := (i 2).isLt
  unfold numC at h
  have b1 : (i 1).val / 64 < 8 := by omega
  generalize hu : (i 1).val / 64 = u at h b1
  have c0 : n / 8 = (i 0).val := by omega
  have c1 : n % 4 = u / 2 := by omega
  have c2 : n % 8 / 4 = u % 2 := by omega
  exact mem_unit3 i (by omega) (by omega) (by omega)

theorem perm_copy {n b : ℕ} (hb : b < 64) : perm (128 * (n % 4) + 64 * (n % 8 / 4) + b) = 64 * (n % 8) + b := by
  unfold perm
  have e1 : (128 * (n % 4) + 64 * (n % 8 / 4) + b) / 64 = 2 * (n % 4) + n % 8 / 4 := by omega
  have e2 : (2 * (n % 4) + n % 8 / 4) / 2 = n % 4 := by omega
  have e3 : (2 * (n % 4) + n % 8 / 4) % 2 = n % 8 / 4 := by omega
  have e4 : (128 * (n % 4) + 64 * (n % 8 / 4) + b) % 64 = b := by omega
  have e5 : n % 4 + 4 * (n % 8 / 4) = n % 8 := by omega
  rw [e1, e2, e3, e4, e5]

theorem idx_copy {C n : ℕ} [NeZero C] {size : Fin 3 → ℕ} (h0 : size 0 = 1) (h1 : size 1 = 64) (hn : n < 16)
    {inb : ∀ a, (![n / 8, 64 * (n % 8), 0] : Fin 3 → ℕ) a + size a ≤ (⟨3, ![2, 512, C]⟩ : Shape).size a}
    {inb' : ∀ a, (![n / 8, 128 * (n % 4) + 64 * (n % 8 / 4), 0] : Fin 3 → ℕ) a + size a ≤ (⟨3, ![2, 512, C]⟩ : Shape).size a} (j) :
    (Rect.unit (s := ⟨3, ![2, 512, C]⟩) ![n / 8, 64 * (n % 8), 0] size inb).toLoadRect.idx j
      = mk3 2 512 C ((Rect.unit (s := ⟨3, ![2, 512, C]⟩) ![n / 8, 128 * (n % 4) + 64 * (n % 8 / 4), 0] size inb').toLoadRect.idx j 0).val
          (perm ((Rect.unit (s := ⟨3, ![2, 512, C]⟩) ![n / 8, 128 * (n % 4) + 64 * (n % 8 / 4), 0] size inb').toLoadRect.idx j 1).val)
          ((Rect.unit (s := ⟨3, ![2, 512, C]⟩) ![n / 8, 128 * (n % 4) + 64 * (n % 8 / 4), 0] size inb').toLoadRect.idx j 2).val := by
  have j0 : (j 0).val < size 0 := (j 0).isLt
  have j1 : (j 1).val < size 1 := (j 1).isLt
  have e1 : perm (128 * (n % 4) + 64 * (n % 8 / 4) + (j 1).val) = _ := perm_copy (by omega)
  rw [unit_idx, unit_idx, unit_idx]
  funext a
  apply Fin.ext
  rw [unit_idx]
  match a with
  | 0 => show n / 8 + (j 0).val = (n / 8 + (j 0).val) % 2; omega
  | 1 => show 64 * (n % 8) + (j 1).val = perm (128 * (n % 4) + 64 * (n % 8 / 4) + (j 1).val) % 512; omega
  | 2 =>
    show 0 + (j 2).val = (0 + (j 2).val) % C
    exact (Nat.mod_eq_of_lt (Nat.lt_of_lt_of_le (Nat.add_lt_add_left (j 2).isLt 0) (inb 2))).symm

theorem copy_x {n n2 n3 : ℕ} (n' : ℕ) {offs offd : Fin 3 → ℕ} {inb} {inb' : ∀ a, offd a + S1x64x768.size a ≤ S2x512x768.size a} {hl hl'}
    {w : Vec F S1x64x768 .bf16 → Vec F S1x64x768 .bf16} {hx} {hm} {k : PUnit → Prog (TpuEff nD τ sig (Elt F) Λ₀ .tc) α}
    (hs : offs = ![n / 8, 64 * (n % 8), 0]) (hd : offd = ![n / 8, 128 * (n % 4) + 64 * (n % 8 / 4), 0])
    (hn : n < 16) (hn' : n' = n + 1) (hw : ∀ v, w v = v) (hk : Cp I d n' n2 n3 ∗ R ⊢ bwp d (k ⟨⟩) Q) :
    Cp I d n n2 n3 ∗ R ⊢ bwp d (.op (.load (Memref.whole cc0_stg0_0) (Rect.unit (s := S2x512x768) offs S1x64x768.size inb).toLoadRect hl) fun v =>
      .op (.load (Memref.whole cc0_scratch1) (Rect.unit (s := S2x512x768) offd S1x64x768.size inb').toLoadRect hl') fun _ =>
      .op (.store (Memref.whole cc0_scratch1) (Rect.unit (s := S2x512x768) offd S1x64x768.size inb') (w v) Finset.univ hx hm) k) Q := by
  subst hs hd
  unfold Cp at hk ⊢
  iintro ⟨⟨H1, H2, H3, H4, H5, H6⟩, HR⟩
  iapply (copy_step (d := d) (si := 0) (sh := rfl) (bi := 7) (bh := rfl) hn' (fun j => ?_) (mem_copy rfl rfl rfl)) $$ H1 H4
  · rw [hw]
    exact congrArg (I.x d) (idx_copy rfl rfl hn j)
  · iintro H1 H4
    iapply hk
    iframe

theorem copy_k {n n2 n3 : ℕ} (n' : ℕ) {offs offd : Fin 3 → ℕ} {inb} {inb' : ∀ a, offd a + S1x64x512.size a ≤ S2x512x512.size a} {hl hl'}
    {w : Vec F S1x64x512 .bf16 → Vec F S1x64x512 .bf16} {hx} {hm} {k : PUnit → Prog (TpuEff nD τ sig (Elt F) Λ₀ .tc) α}
    (hs : offs = ![n2 / 8, 64 * (n2 % 8), 0]) (hd : offd = ![n2 / 8, 128 * (n2 % 4) + 64 * (n2 % 8 / 4), 0])
    (hn : n2 < 16) (hn' : n' = n2 + 1) (hw : ∀ v, w v = v) (hk : Cp I d n n' n3 ∗ R ⊢ bwp d (k ⟨⟩) Q) :
    Cp I d n n2 n3 ∗ R ⊢ bwp d (.op (.load (Memref.whole cc0_stg2_0) (Rect.unit (s := S2x512x512) offs S1x64x512.size inb).toLoadRect hl) fun v =>
      .op (.load (Memref.whole cc0_scratch2) (Rect.unit (s := S2x512x512) offd S1x64x512.size inb').toLoadRect hl') fun _ =>
      .op (.store (Memref.whole cc0_scratch2) (Rect.unit (s := S2x512x512) offd S1x64x512.size inb') (w v) Finset.univ hx hm) k) Q := by
  subst hs hd
  unfold Cp at hk ⊢
  iintro ⟨⟨H1, H2, H3, H4, H5, H6⟩, HR⟩
  iapply (copy_step (d := d) (si := 2) (sh := rfl) (bi := 8) (bh := rfl) hn' (fun j => ?_) (mem_copy rfl rfl rfl)) $$ H2 H5
  · rw [hw]
    exact congrArg (I.k d) (idx_copy rfl rfl hn j)
  · iintro H2 H5
    iapply hk
    iframe

theorem copy_v {n n2 n3 : ℕ} (n' : ℕ) {offs offd : Fin 3 → ℕ} {inb} {inb' : ∀ a, offd a + S1x64x512.size a ≤ S2x512x512.size a} {hl hl'}
    {w : Vec F S1x64x512 .bf16 → Vec F S1x64x512 .bf16} {hx} {hm} {k : PUnit → Prog (TpuEff nD τ sig (Elt F) Λ₀ .tc) α}
    (hs : offs = ![n3 / 8, 64 * (n3 % 8), 0]) (hd : offd = ![n3 / 8, 128 * (n3 % 4) + 64 * (n3 % 8 / 4), 0])
    (hn : n3 < 16) (hn' : n' = n3 + 1) (hw : ∀ v, w v = v) (hk : Cp I d n n2 n' ∗ R ⊢ bwp d (k ⟨⟩) Q) :
    Cp I d n n2 n3 ∗ R ⊢ bwp d (.op (.load (Memref.whole cc0_stg3_0) (Rect.unit (s := S2x512x512) offs S1x64x512.size inb).toLoadRect hl) fun v =>
      .op (.load (Memref.whole cc0_scratch3) (Rect.unit (s := S2x512x512) offd S1x64x512.size inb').toLoadRect hl') fun _ =>
      .op (.store (Memref.whole cc0_scratch3) (Rect.unit (s := S2x512x512) offd S1x64x512.size inb') (w v) Finset.univ hx hm) k) Q := by
  subst hs hd
  unfold Cp at hk ⊢
  iintro ⟨⟨H1, H2, H3, H4, H5, H6⟩, HR⟩
  iapply (copy_step (d := d) (si := 3) (sh := rfl) (bi := 9) (bh := rfl) hn' (fun j => ?_) (mem_copy rfl rfl rfl)) $$ H3 H6
  · rw [hw]
    exact congrArg (I.v d) (idx_copy rfl rfl hn j)
  · iintro H3 H6
    iapply hk
    iframe

end Steps

set_option maxRecDepth 65536 in
set_option maxHeartbeats 4000000 in
theorem copies {α : Type} (d : Dev nD) {R : sProp (MM F)} {Q : α → sProp (MM F)}
    (κ : Prog (TpuEff nD τ sig (Elt F) Λ₀ .tc) α) (hk : Cp I d 16 16 16 ∗ R ⊢ bwp d κ Q) :
    Cp I d 0 0 0 ∗ R
      ⊢ bwp d (s2 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 κ) Q := by
  unfold s2
  simp only [k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel,
    Prog.bind_lift, Prog.bind_assoc, Prog.bind_ret, Prog.pure_eq_ret]
  iterate 16
    refine copy_x I _ (by decide) (by decide) (by decide) rfl (fun v => shapeCast_shapeCast v _ _) ?_
    refine copy_k I _ (by decide) (by decide) (by decide) rfl (fun v => shapeCast_shapeCast v _ _) ?_
    refine copy_v I _ (by decide) (by decide) (by decide) rfl (fun v => shapeCast_shapeCast v _ _) ?_
  exact hk

end Cert.KernelIdeal.Talk
-- ==== Proof.K.Body.lean ====
/- The kernel on one device, from the entry to the exit. -/
module

public import proofs.«01_k».proof.Proof.K.Split
public import proofs.«01_k».proof.Proof.K.Gather
public import proofs.«01_k».proof.Proof.K.Project
public import proofs.«01_k».proof.Proof.K.Sweep
public import proofs.«01_k».proof.Proof.K.Copy

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (I : Ins F)
variable {K : GSem nD τ sig → ℕ} {d : Dev nD} {R : sProp (MM F)} {Q : PUnit → sProp (MM F)}

/-- A stretch's continuation kept as a frame. -/
theorem then1 {A W : sProp (MM F)} : iprop(A ∗ (A -∗ W)) ⊢ W := by
  iintro ⟨HA, H⟩; iapply H; iexact HA
theorem then2 {A B W : sProp (MM F)} : iprop(A ∗ (B ∗ (A -∗ B -∗ W))) ⊢ W := by
  iintro ⟨HA, HB, H⟩; iapply H $$ HA HB
theorem then3 {A B C W : sProp (MM F)} : iprop(A ∗ (B ∗ (C ∗ (A -∗ B -∗ C -∗ W)))) ⊢ W := by
  iintro ⟨HA, HB, HC, H⟩; iapply H $$ HA HB HC
theorem then4 {A B C D W : sProp (MM F)} : iprop(A ∗ (B ∗ (C ∗ (D ∗ (A -∗ B -∗ C -∗ D -∗ W))))) ⊢ W := by
  iintro ⟨HA, HB, HC, HD, H⟩; iapply H $$ HA HB HC HD

theorem then5 {A B C D E W : sProp (MM F)} : iprop(A ∗ (B ∗ (C ∗ (D ∗ (E ∗ (A -∗ B -∗ C -∗ D -∗ E -∗ W)))))) ⊢ W := by
  iintro ⟨HA, HB, HC, HD, HE, H⟩; iapply H $$ HA HB HC HD HE

/-- From the copy of the assembled half on. -/
theorem run4 (v3 v9 : BitVec 32)
    (hk : iprop(Pr I K d true 64 66 ∗ (any d cc0_scratch14 Finset.univ ∗ holds d cc0_stg5_0 (c3 (OUT I d)) ∗ holds d cc0_stg4_0 (I.wo d) ∗ R))
      ⊢ iprop(|={Set.univ}=> Q ⟨⟩)) :
    iprop(Pr I K d true 47 63 ∗ (upto d cc0_scratch14 (hlf 512 (d.val % 2)) fullShare (fun _ => 0) 1 (c3 (FIN I)) ∗ any (xp d) cc0_scratch14 (hlf 512 (d.val % 2))
      ∗ any d cc0_stg5_0 Finset.univ ∗ holds d cc0_stg4_0 (I.wo d) ∗ R))
      ⊢ bwp d (s12.tail (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v3 v9) Q := by
  simp only [s13.eq, s14.eq, s15.eq, s16.eq, s17.eq]
  iintro ⟨HP, H14, Hx, H5, H4, HR⟩
  ihave H14 := share_two $$ H14
  icases H14 with ⟨H14, Hr⟩
  ihave H5 := (any_upto (F := F) (d := d) (b := cc0_stg5_0) (S := Finset.univ) (n := 0) (num := numO d) (fun _ _ => Nat.zero_le _) (c3 (OUT I d))) $$ H5
  iapply (half_send I _ then2)
  isplitl [HP]; · iexact HP
  isplitl [H14]; · iexact H14
  isplitl [Hx]; · iexact Hx
  iintro HP Hc
  iapply (project0 I v3 v9 _ then3)
  isplitl [H5]; · iexact H5
  isplitl [Hr]; · iexact Hr
  isplitl [H4]; · iexact H4
  iintro H5 Hr H4
  iapply (farewell I _ then1)
  isplitl [HP]; · iexact HP
  iintro HP
  iapply (half_sent I _ then3)
  isplitl [HP]; · iexact HP
  isplitl [Hc]; · iexact Hc
  iintro HP Hn Hl
  ihave Hn := (Entails.of_eq (Pay_agxr I d)) $$ Hn
  ihave Hl := (Entails.of_eq (Pay_agxs I d)) $$ Hl
  iapply (project1 I v3 v9 _ then2)
  isplitl [H5]; · iexact H5
  isplitl [Hn]; · iexact Hn
  iintro H5 Hn
  iapply (leave I hk)
  isplitl [HP]; · iexact HP
  isplitl [Hl Hr Hn]
  · iapply (halves_out I)
    isplitl [Hl Hr]
    · iapply (upto_any (num := fun _ => 0) (n := 1) (T := c3 (FIN I)))
      iapply two_share
      isplitl [Hl]; · iexact Hl
      iexact Hr
    · iapply (upto_any (num := fun _ => 0) (n := 1) (T := c3 (FIN I)))
      iexact Hn
  isplitl [H5]
  · iapply (upto_weaken (b := cc0_stg5_0) (num := numO d) (n := 16) (fun i _ _ => ⟨?_, rfl⟩)) $$ H5
    have h0 : (i 0).val < 2 := (i 0).isLt
    have h1 : (i 1).val < 512 := (i 1).isLt
    unfold numO
    split <;> omega
  iframe

/-- From the sums over the devices on. -/
theorem run3 (v2 v3 v9 : BitVec 32)
    (hk : iprop(Pr I K d true 64 66 ∗ (any d cc0_scratch14 Finset.univ ∗ holds d cc0_stg5_0 (c3 (OUT I d)) ∗ holds d cc0_stg4_0 (I.wo d)
        ∗ any d cc0_scratch5 Finset.univ ∗ any d cc0_scratch0 (blk 640 d) ∗ R))
      ⊢ iprop(|={Set.univ}=> Q ⟨⟩)) :
    iprop(Pr I K d true 32 33 ∗ (upto d cc0_scratch5 Finset.univ fullShare ok4 1 (oryT I d) ∗ upto d cc0_scratch0 (blk 640 d) fullShare ok3 1 (c3 (X1 I d))
      ∗ any d cc0_scratch14 (blk 512 d) ∗ (Done 15 fun k => any (nb d k) cc0_scratch14 (blk 512 d)) ∗ any (xp d) cc0_scratch14 (hlf 512 (d.val % 2))
      ∗ any d cc0_stg5_0 Finset.univ ∗ holds d cc0_stg4_0 (I.wo d) ∗ R))
      ⊢ bwp d (s9.tail (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v2 v3 v9) Q := by
  simp only [s10.eq, s11.eq, s12.eq]
  iintro ⟨HP, H5, H0, H14, Hn, Hx, Ho, Hw, HR⟩
  iapply (reduce I v3 v9 _ then3)
  isplitl [H5]; · iexact H5
  isplitl [H0]; · iexact H0
  isplitl [H14]; · iexact H14
  iintro H14 H0 H5
  ihave H14 := (upto_weaken (b := cc0_scratch14) (num' := fun _ => 0) (n' := 1) (n := 2) (T' := c3 (FIN I)) (fun i _ _ => ⟨(i 0).isLt, rfl⟩)) $$ H14
  ihave H14 := (share_many 15) $$ H14
  icases H14 with ⟨Hd, Ht⟩
  ihave Ht := (Entails.of_eq (Done_Rest 15 _)) $$ Ht
  ihave Hn := (Entails.of_eq (Done_Rest 15 _)) $$ Hn
  iapply (share_rows I v3 v9 _ then4)
  isplitl [HP]; · iexact HP
  isplitl [Ht]; · iexact Ht
  isplitl [Hn]; · iexact Hn
  isplitl []; · rw [Done_zero]; iempintro
  iintro HP - - Hc
  ihave Hc := (Entails.of_eq (Done_Rest 15 _)) $$ Hc
  iapply (shared_rows I v2 _ then4)
  isplitl [HP]; · iexact HP
  isplitl [Hc]; · iexact Hc
  isplitl []; · rw [Done_zero]; iempintro
  isplitl []; · rw [Done_zero]; iempintro
  iintro HP - Ht Hb
  ihave Ht := (Entails.of_eq (Done_congr fun k hk => Pay_ags I d hk)) $$ Ht
  have hb : ∀ k < 15, Pay I d (46 - k) = upto d cc0_scratch14 (blk 512 (nb d k)) fullShare (fun _ => 0) 1 (c3 (FIN I)) := fun k hk => by
    rw [show 46 - k = 32 + (14 - k) by omega, Pay_agr I d (by omega), show 14 - (14 - k) = k by omega]
  ihave Hb := (Entails.of_eq (Done_congr hb)) $$ Hb
  iapply (run4 I v3 v9 hk)
  isplitl [HP]; · iexact HP
  isplitl [Hd Ht Hb]
  · iapply blocks_out
    isplitl [Hd Ht]
    · iapply (many_share 15)
      isplitl [Hd]; · iexact Hd
      iexact Ht
    · iexact Hb
  isplitl [Hx]; · iexact Hx
  isplitl [Ho]; · iexact Ho
  isplitl [Hw]; · iexact Hw
  isplitl [H5]; · iapply (upto_any (b := cc0_scratch5) (num := ok4) (n := 1) (T := oryT I d)); iexact H5
  isplitl [H0]; · iapply (upto_any (b := cc0_scratch0) (num := ok3) (n := 1) (T := c3 (SS I d))); iexact H0
  iexact HR

/-- From the sum with the partner on. -/
theorem run2 (v2 v3 v9 : BitVec 32)
    (hk : iprop(Pr I K d true 64 66 ∗ (any d cc0_scratch14 Finset.univ ∗ holds d cc0_stg5_0 (c3 (OUT I d)) ∗ holds d cc0_stg4_0 (I.wo d)
        ∗ any d cc0_scratch5 Finset.univ ∗ any d cc0_scratch0 (hlf 640 (d.val % 2)) ∗ any d cc0_scratch4 Finset.univ ∗ R))
      ⊢ iprop(|={Set.univ}=> Q ⟨⟩)) :
    iprop(Pr I K d true 17 3 ∗ (upto d cc0_scratch0 (hlf 640 (d.val % 2)) fullShare ok3 1 (c3 (OA I d)) ∗ upto d cc0_scratch4 Finset.univ fullShare ok3 1 (orxT I d)
      ∗ (Done 15 fun k => any (nb d k) cc0_scratch5 (slot (14 - k)))
      ∗ any d cc0_scratch14 (blk 512 d) ∗ (Done 15 fun k => any (nb d k) cc0_scratch14 (blk 512 d)) ∗ any (xp d) cc0_scratch14 (hlf 512 (d.val % 2))
      ∗ any d cc0_stg5_0 Finset.univ ∗ holds d cc0_stg4_0 (I.wo d) ∗ R))
      ⊢ bwp d (s6.tail (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15 d v2 v3 v9) Q := by
  simp only [s7.eq, s8.eq, s9.eq]
  iintro ⟨HP, H0, H4, Hs, H14, Hn, Hx, Ho, Hw, HR⟩
  iapply (fold_half I _ then2)
  isplitl [H0]; · iexact H0
  isplitl [H4]; · iexact H4
  iintro H0 H4
  ihave H0 := acc_blocks $$ H0
  icases H0 with ⟨H0, Hb⟩
  ihave Hb := (Entails.of_eq (Done_Rest 15 _)) $$ Hb
  ihave Hs := (Entails.of_eq (Done_Rest 15 _)) $$ Hs
  iapply (scatter I v3 v9 _ fun a₁ a₂ a₃ a₄ a₅ a₆ a₇ a₈ a₉ a₁₀ a₁₁ a₁₂ a₁₃ => ?_)
  rotate_left
  · isplitl [HP]; · iexact HP
    isplitl [Hb]; · iexact Hb
    isplitl [Hs]; · iexact Hs
    isplitl []; · rw [Done_zero]; iempintro
    icombine H4 H0 H14 Hn Hx Ho Hw HR as H
    iexact H
  iintro ⟨HP, -, -, Hc, H4, H0, H14, Hn, Hx, Ho, Hw, HR⟩
  ihave Hc := (Entails.of_eq (Done_Rest 15 _)) $$ Hc
  iapply (scattered I a₁ a₂ a₃ a₄ a₅ a₆ a₇ a₈ a₉ a₁₀ a₁₁ a₁₂ a₁₃ _ then4)
  isplitl [HP]; · iexact HP
  isplitl [Hc]; · iexact Hc
  isplitl []; · rw [Done_zero]; iempintro
  isplitl []; · rw [Done_zero]; iempintro
  iintro HP - Hb Hs
  ihave Hb := (Entails.of_eq (Done_congr fun k hk => Pay_yzs I d hk)) $$ Hb
  ihave Hs := (Entails.of_eq (Done_congr fun k hk => Pay_yzr I d hk)) $$ Hs
  ihave Hs := (Entails.of_eq (Done_flip 15 fun k => upto d cc0_scratch5 (slot (14 - k)) fullShare ok4 1 (oryT I d))) $$ Hs
  have hs : ∀ k < 15, upto d cc0_scratch5 (slot (14 - (15 - 1 - k))) fullShare ok4 1 (oryT I d) = upto d cc0_scratch5 (slot k) fullShare ok4 1 (oryT I d) := fun k hk => by
    rw [show 14 - (15 - 1 - k) = k by omega]
  ihave Hs := (Entails.of_eq (Done_congr hs)) $$ Hs
  ihave Hs := close_slots $$ Hs
  iapply (run3 I (R := iprop((Done 15 fun k => any d cc0_scratch0 (blk 640 (nb d k))) ∗ any d cc0_scratch4 Finset.univ ∗ R)) v2 v3 v9 (by
    iintro ⟨HP, H14, Ho, Hw, H5, H0, Hb, H4, HR⟩
    iapply hk
    isplitl [HP]; · iexact HP
    isplitl [H14]; · iexact H14
    isplitl [Ho]; · iexact Ho
    isplitl [Hw]; · iexact Hw
    isplitl [H5]; · iexact H5
    isplitl [H0 Hb]
    · iapply (blocks_acc I)
      isplitl [H0]; · iexact H0
      iexact Hb
    isplitl [H4]; · iexact H4
    iexact HR))
  isplitl [HP]; · iexact HP
  isplitl [Hs]; · iexact Hs
  isplitl [H0]; · iexact H0
  isplitl [H14]; · iexact H14
  isplitl [Hn]; · iexact Hn
  isplitl [Hx]; · iexact Hx
  isplitl [Ho]; · iexact Ho
  isplitl [Hw]; · iexact Hw
  isplitl [Hb]; · iexact Hb
  isplitl [H4]; · iapply (upto_any (b := cc0_scratch4) (num := ok3) (n := 1) (T := orxT I d)); iexact H4
  iexact HR

/-- The scratch buffers, whatever they hold. -/
def Scr (d : Dev nD) : sProp (MM F) :=
  iprop(any d cc0_scratch0 Finset.univ ∗ any d cc0_scratch1 Finset.univ ∗ any d cc0_scratch2 Finset.univ ∗ any d cc0_scratch3 Finset.univ
    ∗ any d cc0_scratch4 Finset.univ ∗ any d cc0_scratch5 Finset.univ ∗ any d cc0_scratch14 Finset.univ)

/-- The inputs in their staging buffers. -/
def Inp (d : Dev nD) : sProp (MM F) :=
  iprop(holds d cc0_stg0_0 (I.x d) ∗ holds d cc0_stg1_0 (I.wq d) ∗ holds d cc0_stg2_0 (I.k d) ∗ holds d cc0_stg3_0 (I.v d) ∗ holds d cc0_stg4_0 (I.wo d))

theorem Pr_own {b : Bool} {n w : ℕ} : Pr I K d b n w ⊢ iprop(Own d ∗ Pr I K d b n w) := by
  unfold Pr
  iintro ⟨#HF, H⟩
  isplitr
  · iapply own_get; iexact HF
  · iframe; iexact HF

theorem numA_end {i : S2x512x640.Idx} (h : ok3 i < 1) : numA i < 36 := by
  have h0 : (i 0).val < 2 := (i 0).isLt
  have h2 : (i 2).val < 640 := (i 2).isLt
  unfold ok3 at h
  split at h
  · unfold numA
    split
    · omega
    · omega
  · omega

theorem numC_end {C : ℕ} (i : (⟨3, ![2, 512, C]⟩ : Shape).Idx) : numC i < 16 := by
  have h0 : (i 0).val < 2 := (i 0).isLt
  have h1 : (i 1).val < 512 := (i 1).isLt
  unfold numC
  omega

set_option maxHeartbeats 1000000 in
/-- The whole kernel. -/
theorem run1 (hk : iprop(Pr I K d true 64 66 ∗ (Inp I d ∗ holds d cc0_stg5_0 (c3 (OUT I d)) ∗ Scr d ∗ R)) ⊢ iprop(|={Set.univ}=> Q ⟨⟩)) :
    iprop(Pr I K d false 0 0 ∗ (Inp I d ∗ any d cc0_stg5_0 Finset.univ ∗ Scr d ∗ R)) ⊢ bwp d (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15) Q := by
  rw [cc0_body_eq_skeleton, whole.eq]
  simp only [s1.eq, s2.eq, s3.eq, s4.eq, s5.eq, s6.eq]
  unfold Inp Scr
  iintro ⟨HP, ⟨Gx, Gq, Gk, Gv, Gw⟩, Ho, ⟨B0, B1, B2, B3, B4, B5, B14⟩, HR⟩
  ihave HP := (Pr_own I) $$ HP
  icases HP with ⟨HO, HP⟩
  ihave B14 := (out_halves I) $$ B14
  icases B14 with ⟨B14, Bn⟩
  ihave B14 := (out_blocks I) $$ B14
  icases B14 with ⟨B14, Bb⟩
  ihave B5 := (open_slots I) $$ B5
  ihave B0 := (acc_halves I) $$ B0
  icases B0 with ⟨B0, B0'⟩
  iapply (enter I _ fun v2 v3 v9 => ?_)
  rotate_left
  · isplitl [HP]; · iexact HP
    isplitl [B4 Bn B5 Bb HO]
    · iapply (give I)
      isplitl [B4]; · iexact B4
      isplitl [Bn]; · iexact Bn
      isplitl [B5]; · iexact B5
      isplitl [Bb]; · iexact Bb
      iexact HO
    icombine Gx Gq Gk Gv Gw Ho B0 B0' B1 B2 B3 B14 HR as H
    iexact H
  iintro ⟨HP, -, Gx, Gq, Gk, Gv, Gw, Ho, B0, B0', B1, B2, B3, B14, HR⟩
  iapply (copies I d _ then1)
  isplitl [Gx Gk Gv B1 B2 B3]
  · unfold Cp
    isplitl [B1]; · iapply (any_upto (b := cc0_scratch1) (num := numC) (fun _ _ => Nat.zero_le _) (c3 (XP I d))) $$ B1
    isplitl [B2]; · iapply (any_upto (b := cc0_scratch2) (num := numC) (fun _ _ => Nat.zero_le _) (c3 (KP I d))) $$ B2
    isplitl [B3]; · iapply (any_upto (b := cc0_scratch3) (num := numC) (fun _ _ => Nat.zero_le _) (c3 (VP I d))) $$ B3
    isplitl [Gx]; · iexact Gx
    isplitl [Gk]; · iexact Gk
    iexact Gv
  iintro HC
  unfold Cp
  icases HC with ⟨B1, B2, B3, Gx, Gk, Gv⟩
  ihave B1 := (upto_weaken (b := cc0_scratch1) (num := numC) (n := 16) (num' := fun _ => 0) (n' := 1) (T' := c3 (XP I d)) (fun i _ _ => ⟨numC_end i, rfl⟩)) $$ B1
  ihave B2 := (upto_weaken (b := cc0_scratch2) (num := numC) (n := 16) (num' := fun _ => 0) (n' := 1) (T' := c3 (KP I d)) (fun i _ _ => ⟨numC_end i, rfl⟩)) $$ B2
  ihave B3 := (upto_weaken (b := cc0_scratch3) (num := numC) (n := 16) (num' := fun _ => 0) (n' := 1) (T' := c3 (VP I d)) (fun i _ _ => ⟨numC_end i, rfl⟩)) $$ B3
  have e0 : half (hd d 0) = hlf 640 (1 - d.val % 2) := by
    show hlf 640 ((d.val + 1 + 0) % 2) = _
    rw [show (d.val + 1 + 0) % 2 = 1 - d.val % 2 by omega]
  have e1 : half (hd d 1) = hlf 640 (d.val % 2) := by
    show hlf 640 ((d.val + 1 + 1) % 2) = _
    rw [show (d.val + 1 + 1) % 2 = d.val % 2 by omega]
  iapply (sweep0 I d v3 _ then2)
  isplitl [B0' B1 B2 B3]
  · unfold Att
    isplitl [B0']
    · rw [e0]
      iapply (any_upto (b := cc0_scratch0) (num := numA) (fun _ _ => Nat.zero_le _) (c3 (OA I d))) $$ B0'
    isplitl [B1]; · iexact B1
    isplitl [B2]; · iexact B2
    iexact B3
  isplitl [Gq]; · iexact Gq
  iintro HA Gq
  unfold Att
  icases HA with ⟨B0', HA⟩
  ihave B0' := (upto_weaken (b := cc0_scratch0) (num := numA) (n := 36) (num' := ok3) (n' := 1) (T' := c3 (OA I d)) (fun i _ h => ⟨numA_end h, rfl⟩)) $$ B0'
  rw [e0]
  iapply (meet I _ then5)
  isplitl [HP]; · iexact HP
  isplitl [B0']; · iexact B0'
  iintro HP Hc Hx Hs Hn
  icases HA with ⟨B1, B2, B3⟩
  iapply (sweep1 I d v3 _ then1)
  isplitl [B0 B1 B2 B3]
  · unfold Att
    isplitl [B0]
    · rw [e1]
      iapply (any_upto (b := cc0_scratch0) (num := numA) (fun _ _ => Nat.zero_le _) (c3 (OA I d))) $$ B0
    isplitl [B1]; · iexact B1
    isplitl [B2]; · iexact B2
    iexact B3
  iintro HA
  unfold Att
  icases HA with ⟨B0, B1, B2, B3⟩
  ihave B0 := (upto_weaken (b := cc0_scratch0) (num := numA) (n := 36) (num' := ok3) (n' := 1) (T' := c3 (OA I d)) (fun i _ h => ⟨numA_end h, rfl⟩)) $$ B0
  iapply (met I _ then3)
  isplitl [HP]; · iexact HP
  isplitl [Hc]; · iexact Hc
  iintro HP B4 B0'
  ihave B4 := (Entails.of_eq (Pay_rx I d)) $$ B4
  ihave B0' := (Entails.of_eq (Pay_sx I d)) $$ B0'
  iapply (run2 I (R := iprop(any d cc0_scratch0 (hlf 640 (1 - d.val % 2)) ∗ any d cc0_scratch1 Finset.univ ∗ any d cc0_scratch2 Finset.univ ∗ any d cc0_scratch3 Finset.univ
    ∗ holds d cc0_stg0_0 (I.x d) ∗ holds d cc0_stg1_0 (I.wq d) ∗ holds d cc0_stg2_0 (I.k d) ∗ holds d cc0_stg3_0 (I.v d) ∗ R)) v2 v3 v9 (by
    iintro ⟨HP, B14, Ho, Gw, B5, B0, B4, B0', B1, B2, B3, Gx, Gq, Gk, Gv, HR⟩
    iapply hk
    unfold Inp Scr
    isplitl [HP]; · iexact HP
    isplitl [Gx Gq Gk Gv Gw]
    · isplitl [Gx]; · iexact Gx
      isplitl [Gq]; · iexact Gq
      isplitl [Gk]; · iexact Gk
      isplitl [Gv]; · iexact Gv
      iexact Gw
    isplitl [Ho]; · iexact Ho
    isplitr [HR]
    · isplitl [B0 B0']
      · iapply (halves_acc I)
        isplitl [B0]; · iexact B0
        iexact B0'
      isplitl [B1]; · iexact B1
      isplitl [B2]; · iexact B2
      isplitl [B3]; · iexact B3
      isplitl [B4]; · iexact B4
      isplitl [B5]; · iexact B5
      iexact B14
    iexact HR))
  isplitl [HP]; · iexact HP
  isplitl [B0]; · rw [← e1]; iexact B0
  isplitl [B4]; · iexact B4
  isplitl [Hs]; · iexact Hs
  isplitl [B14]; · iexact B14
  isplitl [Hn]; · iexact Hn
  isplitl [Hx]; · iexact Hx
  isplitl [Ho]; · iexact Ho
  isplitl [Gw]; · iexact Gw
  isplitl [B0']; · iexact B0'
  isplitl [B1]; · iapply (upto_any (b := cc0_scratch1) (num := fun _ => 0) (n := 1) (T := c3 (XP I d))); iexact B1
  isplitl [B2]; · iapply (upto_any (b := cc0_scratch2) (num := fun _ => 0) (n := 1) (T := c3 (KP I d))); iexact B2
  isplitl [B3]; · iapply (upto_any (b := cc0_scratch3) (num := fun _ => 0) (n := 1) (T := c3 (VP I d))); iexact B3
  iframe

end Cert.KernelIdeal.Talk
-- ==== Proof.K.Deal.lean ====
/- What every device is given at the start, and what it gives back: the kernel's own semaphores are opened when the
   kernel is entered and closed when it returns, and the launch deals out positions, rights, duties and credit. -/
module

public import proofs.«01_k».proof.Proof.K.Body

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] (I : Ins F)

/-- The kernel's own semaphores, in the order of the waits. -/
abbrev osem (k : Fin 65) : SemLoc sig := ws (k.val + 1)

theorem osem_inj : Function.Injective osem := fun k k' h => by
  have := ws_inj ⟨k.val + 1, by omega⟩ ⟨k'.val + 1, by omega⟩ h
  have := congrArg Fin.val this
  exact Fin.ext (by dsimp only at this; omega)

theorem osem_ne_bar (k : Fin 65) : osem k ≠ barS := fun h => by
  have := ws_inj ⟨k.val + 1, by omega⟩ ⟨0, by decide⟩ h
  exact absurd (congrArg Fin.val this) (by simp)

theorem pairs {A : Type} {S : Finset A} {Φ Ψ : A → sProp (MM F)} : iprop(bigSep S Φ ∗ bigSep S Ψ) ⊢ bigSep S fun a => iprop(Φ a ∗ Ψ a) :=
  Entails.of_eq (bigSep_sep _ _ _).symm
theorem unpairs {A : Type} {S : Finset A} {Φ Ψ : A → sProp (MM F)} : (bigSep S fun a => iprop(Φ a ∗ Ψ a)) ⊢ iprop(bigSep S Φ ∗ bigSep S Ψ) :=
  Entails.of_eq (bigSep_sep _ _ _)

/-- The first of sixty-six and the rest. -/
theorem first_rest (Φ : ℕ → sProp (MM F)) : bigSep (Finset.range 66) Φ = iprop(Φ 0 ∗ bigSep Finset.univ fun k : Fin 65 => Φ (k.val + 1)) := by
  rw [show Finset.range 66 = insert 0 ((Finset.univ : Finset (Fin 65)).image fun k => k.val + 1) from by decide +kernel,
    bigSep_insert (by decide +kernel), img (fun a _ b _ h => Fin.ext (Nat.succ_injective h))]
  rfl

/-- Every invariant of every device. -/
def Invs (K : GSem nD τ sig → ℕ) : sProp (MM F) :=
  bigSep Finset.univ fun c : Dev nD => bigSep (Finset.range 66) fun i => cellInv ER (Rd I) (K (cell c (ws i))) (cell c (ws i))

instance (K : GSem nD τ sig → ℕ) : BI.Persistent (Invs I K) := by unfold Invs; infer_instance

/-- Every entry semaphore stands open. -/
def Bars : sProp (MM F) := bigSep Finset.univ fun c : Dev nD => reached ER (cell c barS) 0

instance : BI.Persistent (Bars (F := F)) := by unfold Bars; infer_instance

theorem Invs_eq (K : GSem nD τ sig → ℕ) : (bigSep Finset.univ fun c : Dev nD => bigSep (Finset.range 66) fun i => cellInv ER (Rd I) (K (cell c (ws i))) (cell c (ws i)))
    = Invs I K := rfl
theorem Bars_eq : (bigSep Finset.univ fun c : Dev nD => reached ER (cell c barS) 0) = Bars (F := F) := rfl
theorem own_sems (d : Dev nD) : (Pipeline.ownSems0 osem d : sProp (MM F)) = bigSep Finset.univ fun k : Fin 65 => semVal (cell d (osem k)) 0 := rfl

variable {I} in
theorem inv_of {K : GSem nD τ sig → ℕ} (c : Dev nD) {i : ℕ} (hi : i < 66) : Invs I K ⊢ cellInv ER (Rd I) (K (cell c (ws i))) (cell c (ws i)) := by
  unfold Invs
  exact (el (Finset.mem_univ c)).trans (el (Finset.mem_range.mpr hi))

/-- What a device holds of the protocol before its own semaphores are opened. -/
def Ghost (K : GSem nD τ sig → ℕ) (d : Dev nD) : sProp (MM F) :=
  iprop(Invs I K ∗ Bars ∗ atPos ER (cell d barS) 0 ∅ 0 ∗ (bigSep Finset.univ fun k : Fin 65 => openTok ER (cell d (osem k))) ∗ Rest 64 0 (tok d))

def Credit (d : Dev nD) : sProp (MM F) := bigSep (Finset.range 66) fun i => if isSend i then iprop(emp) else crd d i

def Tk (d : Dev nD) : sProp (MM F) := iprop((∃ K, Ghost I K d) ∗ Credit d)

/-- and after. -/
def Xk (d : Dev nD) : sProp (MM F) := iprop(∃ K, Facts I K d false ∗ Rest 64 0 (tok d) ∗ Rest 66 0 (pos d))

theorem open_own (K : GSem nD τ sig → ℕ) (d : Dev nD) :
    iprop(Invs I K ∗ (bigSep Finset.univ fun k : Fin 65 => iprop(openTok ER (cell d (osem k)) ∗ semVal (cell d (osem k)) 0)))
      ⊢ iprop(|={Set.univ}=> bigSep Finset.univ fun k : Fin 65 => iprop(atPos ER (cell d (osem k)) 0 ∅ 0 ∗ reached ER (cell d (osem k)) 0)) := by
  refine BIBase.Entails.trans (bigSep_with_persistent (R := Invs I K) (Ψ := fun k : Fin 65 =>
    iprop(|={Set.univ}=> (atPos ER (cell d (osem k)) 0 ∅ 0 ∗ reached ER (cell d (osem k)) 0))) fun k _ => ?_) (bigSep_fupd _ _)
  iintro ⟨#HI, Ho, Hs⟩
  iapply (Rounds.cell_open ER (Rd I) (g := cell d (osem k)) (Set.mem_univ (K (cell d (osem k)))))
  isplitr
  · iapply (inv_of d (i := k.val + 1) (by omega)); iexact HI
  · isplitl [Ho] <;> iassumption

theorem close_own (K : GSem nD τ sig → ℕ) (d : Dev nD) :
    iprop(Invs I K ∗ Done 66 (fin d)) ⊢ iprop(|={Set.univ}=> bigSep (Finset.range 66) fun i => semVal (cell d (ws i)) 0) := by
  unfold Done
  refine BIBase.Entails.trans (bigSep_with_persistent (R := Invs I K) (Ψ := fun i =>
    iprop(|={Set.univ}=> semVal (cell d (ws i)) 0)) fun i hi => ?_) (bigSep_fupd _ _)
  rw [fin_eq]
  iintro ⟨#HI, Ha⟩
  iapply (Rounds.cell_close ER (Rd I) (g := cell d (ws i)) (Set.mem_univ (K (cell d (ws i)))) id (R := 0 + 1) (fun r hr => duties_later I _ r (by omega)))
  isplitr
  · iapply (inv_of d (Finset.mem_range.mp hi)); iexact HI
  · iexact Ha

theorem hopen (d : Dev nD) : iprop(Tk I d ∗ Pipeline.ownSems0 osem d ∗ levAts L lv) ⊢ iprop(|={Set.univ}=> Xk I d) := by
  unfold Tk Ghost Credit
  rw [own_sems]
  iintro ⟨⟨⟨%K, ⟨#HI, #HB, Ha, Ho, Ht⟩⟩, Hc⟩, Hs, #HL⟩
  imod (open_own I K d) $$ [Ho Hs] with H
  · isplitr
    · iexact HI
    · iapply pairs
      isplitl [Ho]
      · iexact Ho
      · iexact Hs
  imodintro
  ihave H := unpairs $$ H
  icases H with ⟨Hp, #Hr⟩
  unfold Xk
  iexists K
  isplitr
  · unfold Facts
    rw [Invs_eq, Bars_eq]
    isplitr
    · iexact HI
    isplitr
    · iexact HL
    isplitr
    · iexact HB
    isplitr
    · unfold Own
      rw [first_rest]
      isplitr
      · unfold Bars
        ihave H := (el (Finset.mem_univ d)) $$ HB
        iexact H
      · iexact Hr
    · unfold More; iempintro
  isplitl [Ht]
  · iexact Ht
  · rw [← Done_Rest]
    unfold Done
    have e : bigSep (Finset.range 66) (pos (F := F) d)
        = bigSep (Finset.range 66) fun i => iprop(atPos ER (cell d (ws i)) 0 ∅ 0 ∗ (if isSend i then iprop(emp) else crd d i)) := rfl
    rw [e]
    iapply pairs
    isplitr [Hc]
    · rw [first_rest]
      isplitl [Ha]
      · iexact Ha
      · iexact Hp
    · iexact Hc

/-- At the end every counter is at zero and in hand. -/
theorem hclose (K : GSem nD τ sig → ℕ) (d : Dev nD) {b : Bool} :
    iprop(Facts I K d b ∗ Done 66 (fin d)) ⊢ iprop(|={Set.univ}=> (semVal (cell d barS) 0 ∗ Pipeline.ownSems0 osem d)) := by
  iintro ⟨#HF, HD⟩
  imod (close_own I K d) $$ [HD] with H
  · isplitr
    · unfold Facts
      rw [Invs_eq]
      icases HF with ⟨HI, -⟩
      iexact HI
    · iexact HD
  imodintro
  ihave H := (Entails.of_eq (first_rest _)) $$ H
  iexact H

/-! ## Dealing at the launch -/

def barEmb : Dev nD ↪ GSem nD τ sig := ⟨fun c => cell c barS, fun _ _ h => congrArg (fun g : GSem nD τ sig => g.1.1) h⟩
def ownEmb : Dev nD × Fin 65 ↪ GSem nD τ sig :=
  ⟨fun x => cell x.1 (osem x.2), fun _ _ h => Prod.ext (congrArg (fun g : GSem nD τ sig => g.1.1) h) (osem_inj (congrArg Prod.snd h))⟩
def tokEmb : Dev nD × Fin 96 ↪ GSem nD τ sig × ℕ × ℕ :=
  ⟨fun x => (cell x.1 (sm x.2.val), 0, x.2.val), fun _ _ h =>
    Prod.ext (congrArg (fun t : GSem nD τ sig × ℕ × ℕ => t.1.1.1) h) (Fin.ext (congrArg (fun t : GSem nD τ sig × ℕ × ℕ => t.2.2) h))⟩

abbrev barCells : Finset (GSem nD τ sig) := Finset.univ.map barEmb
abbrev ownCells : Finset (GSem nD τ sig) := Finset.univ.map ownEmb
abbrev allToks : Finset (GSem nD τ sig × ℕ × ℕ) := Finset.univ.map tokEmb

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem all_invs (K : GSem nD τ sig → ℕ) : (bigSep (barCells ∪ ownCells) fun g => cellInv ER (Rd I) (K g) g) ⊢ Invs I K := by
  unfold Invs
  rw [bigSep_union disjoint_cells, bigSep_map, bigSep_map, bigSep_univ_prod]
  refine BIBase.Entails.trans (pairs (S := Finset.univ)) (Entails.of_eq ?_)
  exact bigSep_congr fun c _ => (first_rest (fun i => cellInv ER (Rd I) (K (cell c (ws i))) (cell c (ws i)))).symm

/-- All tokens, each with the device that pays it. -/
theorem deal_toks : (bigSep allToks fun x => dutyTok ER x.1 x.2.1 x.2.2)
    ⊢ (bigSep Finset.univ fun d : Dev nD => Rest 64 0 (tok d) : sProp (MM F)) := by
  have e1 : (bigSep allToks fun x => (dutyTok ER x.1 x.2.1 x.2.2 : sProp (MM F)))
      = bigSep Finset.univ fun d : Dev nD => bigSep Finset.univ fun j : Fin 96 => dutyTok ER (cell (peer j.val d) (sm j.val)) 0 j.val := by
    rw [bigSep_map, bigSep_univ_prod, bigSep_univ_comm]
    conv_rhs => rw [bigSep_univ_comm]
    refine bigSep_congr fun j _ => ?_
    exact bigSep_univ_equiv ⟨peer j.val, payer j.val, payer_peer j, peer_payer j⟩ (fun c : Dev nD => (dutyTok ER (cell c (sm j.val)) 0 j.val : sProp (MM F)))
  rw [e1]
  refine bigSep_mono fun d _ => ?_
  have e2 : (bigSep Finset.univ fun j : Fin 96 => (dutyTok ER (cell (peer j.val d) (sm j.val)) 0 j.val : sProp (MM F)))
      = iprop((bigSep (Finset.range 64) fun j => dutyTok ER (cell (peer j d) (sm j)) 0 j)
        ∗ bigSep (Finset.range 64) fun j => if 16 ≤ j ∧ j < 48 then dutyTok ER (cell d (sm (j + 48))) 0 (j + 48) else iprop(emp)) := by
    have e0 := bigSep_filter (Finset.range 64) (fun j => 16 ≤ j ∧ j < 48) (fun j => (dutyTok ER (cell d (sm (j + 48))) 0 (j + 48) : sProp (MM F)))
    refine Eq.trans ?_ (congrArg (fun X => iprop((bigSep (Finset.range 64) fun j => dutyTok ER (cell (peer j d) (sm j)) 0 j) ∗ X)) e0)
    rw [← img (S := Finset.univ) (f := fun j : Fin 96 => j.val) (fun a _ b _ h => Fin.ext h)
        (fun j => (dutyTok ER (cell (peer j d) (sm j)) 0 j : sProp (MM F))),
      show (Finset.univ : Finset (Fin 96)).image (fun j => j.val)
        = Finset.range 64 ∪ ((Finset.range 64).filter fun j => 16 ≤ j ∧ j < 48).image (fun j => j + 48) from by decide +kernel,
      bigSep_union (by decide +kernel), img (fun a _ b _ h => Nat.add_right_cancel h)]
    have e3 : (bigSep ((Finset.range 64).filter fun j => 16 ≤ j ∧ j < 48) fun j => (dutyTok ER (cell (peer (j + 48) d) (sm (j + 48))) 0 (j + 48) : sProp (MM F)))
        = bigSep ((Finset.range 64).filter fun j => 16 ≤ j ∧ j < 48) fun j => dutyTok ER (cell d (sm (j + 48))) 0 (j + 48) :=
      bigSep_congr fun j hj => by
        have h := (Finset.mem_filter.mp hj).2
        rw [show peer (j + 48) d = d from by unfold peer; (repeat' split) <;> first | rfl | omega]
    rw [e3]
    rfl
  rw [e2, ← Done_Rest]
  unfold Done
  exact pairs

/-- What is owed to a cell altogether. -/
theorem owed_all (c : Dev nD) (i : Fin 66) (h : ¬ isSend i.val) : ∑ d : Dev nD, owing d 0 (cell c (ws i)) () = wamt i := by
  have e (d : Dev nD) : owing d 0 (cell c (ws i)) () = ∑ j ∈ Finset.Ico 0 64, if payer j c = d ∧ sm j = ws i then amt j else 0 := by
    unfold owing
    rw [Finset.sum_apply, Finsupp.finset_sum_apply]
    refine Finset.sum_congr rfl fun j hj => ?_
    have hj' : j < 96 := by have := (Finset.mem_Ico.mp hj).2; omega
    rw [tallyAt_apply]
    refine if_congr ⟨fun ⟨h1, _⟩ => ⟨?_, (congrArg Prod.snd h1).symm⟩, fun ⟨h1, h2⟩ => ⟨?_, rfl⟩⟩ rfl rfl
    · have h2 : c = peer j d := congrArg (fun g : GSem nD τ sig => g.1.1) h1
      rw [h2]; exact payer_peer ⟨j, hj'⟩ d
    · rw [← h1, h2]; rw [show peer j (payer j c) = c from peer_payer ⟨j, hj'⟩ c]
  rw [Finset.sum_congr rfl fun d _ => e d, Finset.sum_comm]
  have e' (j : ℕ) : (∑ d : Dev nD, if payer j c = d ∧ sm j = ws i then amt j else 0) = if sm j = ws i then amt j else 0 := by
    by_cases hs : sm j = ws i
    · simp only [hs, and_true]; rw [Finset.sum_ite_eq, if_pos (Finset.mem_univ _), if_pos trivial]
    · simp only [hs, and_false]; simp
  rw [Finset.sum_congr rfl fun j _ => e' j]
  clear e e'
  revert i; decide +kernel

theorem launch_credit (c : Dev nD) (i : Fin 66) (h : ¬ isSend i.val) :
    tallyOn (cell c (ws i)) (launchCredit (Pipeline.owing fun d => owing d 0) 0 (cell c (ws i))) = (tallyAt (cell c (ws i)) () (wamt i) : CellTallies nD τ sig Unit) := by
  unfold tallyAt
  refine congrArg _ (Finsupp.ext fun u => ?_)
  cases u
  rw [Pipeline.launchCredit_owing, Finsupp.single_eq_same]
  exact owed_all c i h

theorem deal_credit (d : Dev nD) : (Pipeline.launchCred (fun d => owing d 0) d : sProp (MM F)) ⊢ Credit d := by
  unfold Pipeline.launchCred Credit
  refine BIBase.Entails.trans (bigSep_subset (Finset.subset_univ ((Finset.range 66).image ws))) ?_
  rw [img (fun a ha b hb h => by
    have := ws_inj ⟨a, Finset.mem_range.mp ha⟩ ⟨b, Finset.mem_range.mp hb⟩ h
    exact congrArg Fin.val this)]
  refine bigSep_mono fun i hi => ?_
  by_cases h : isSend i
  · rw [if_pos h]; exact (show (_ : sProp (MM F)) ⊢ iprop(emp) from by iintro -; iempintro)
  · rw [if_neg h, crd_eq, ← launch_credit d ⟨i, Finset.mem_range.mp hi⟩ h]
    exact BI.Entails.refl _

end Cert.KernelIdeal.Talk
-- ==== Proof.K.Launch.lean ====
/- The launch: what the region finds in memory, what its kernel leaves, and the run of `main` on thirty-two devices. -/
module

public import proofs.«01_k».proof.Proof.K.Deal
public import proofs.«01_k».proof.Proof.Gen.KernelIdeal.Frame

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] (m : (ℓ : Loc nD τ sig) → Buf (Elt F) ℓ) (ρ : Dev nD → PrngReg)

/-- What the region finds in its arrays. -/
def insOf : Ins F where
  x c := V m c main_arg0
  wq c := V m c main_arg1
  k c := V m c main_v1
  v c := V m c main_v2
  wo c := V m c main_arg4

theorem index_zero : ∀ (w : Fin 6) (a : Fin (cfg0.win w).shape.rank), (cfg0.win w).index t0_0 a = 0 := by decide +kernel

theorem emb_id (w : Fin 6) (i : ((cfg0.win w).xblock (cfg0.grid.coords t0_0)).Idx) (a : Fin (cfg0.win w).shape.rank) :
    (((cfg0.win w).rect t0_0).emb i a).val = (i a).val :=
  Pipeline.Window.rect_emb_val_of_index_zero _ _ _ (index_zero w a) i

theorem blk_0 (c : Dev nD) : iblk m c 0 t0_0 = V m c main_arg0 := funext fun i => congrArg (V m c main_arg0) (funext fun a => Fin.ext (emb_id 0 i a))
theorem blk_1 (c : Dev nD) : iblk m c 1 t0_0 = V m c main_arg1 := funext fun i => congrArg (V m c main_arg1) (funext fun a => Fin.ext (emb_id 1 i a))
theorem blk_2 (c : Dev nD) : iblk m c 2 t0_0 = V m c main_v1 := funext fun i => congrArg (V m c main_v1) (funext fun a => Fin.ext (emb_id 2 i a))
theorem blk_3 (c : Dev nD) : iblk m c 3 t0_0 = V m c main_v2 := funext fun i => congrArg (V m c main_v2) (funext fun a => Fin.ext (emb_id 3 i a))
theorem blk_4 (c : Dev nD) : iblk m c 4 t0_0 = V m c main_arg4 := funext fun i => congrArg (V m c main_arg4) (funext fun a => Fin.ext (emb_id 4 i a))

/-! ## The region's invariant -/

/-- Before the one point, what the device holds of the protocol; after it, every counter back at zero. -/
def dat0 (c : Dev nD) : Dat τ (Elt F) Unit ℕ UU ℕ cfg0 c where
  A w := V m c (Pipeline.arrRef spec0 w)
  after := fun
    | 0 => fun _ => V m c main_arg0
    | 1 => fun _ => V m c main_arg1
    | 2 => fun _ => V m c main_v1
    | 3 => fun _ => V m c main_v2
    | 4 => fun _ => V m c main_arg4
    | 5 => fun _ => c3 (OUT (insOf m) c)
    | ⟨_ + 6, h⟩ => absurd h (Nat.not_lt.2 (Nat.le_add_left _ _))
  Φ t := if t.val = 0 then iprop(Xk (insOf m) c ∗ Scr c ∗ ∃ r, prngReg c r)
    else iprop((semVal (cell c barS) 0 ∗ Pipeline.ownSems0 osem c) ∗ Scr c ∗ ∃ r, prngReg c r)
  q _ := fullShare
  owed t := if t.val = 0 then owing c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem scoped_eq (c : Dev nD) : (Pipeline.scopedRest (Ix := Unit) (Name := ℕ) (U := UU) (Lvl := ℕ) (Val := Elt F) spec0 c : sProp (MM F)) = Scr c :=
  scopedRest0_eq c

theorem owed_first (c : Dev nD) : (dat0 m c).owed t0_0.castSucc = owing c 0 := by
  show (if (t0_0.castSucc : Fin (cfg0.N + 1)).val = 0 then owing c 0 else 0) = _
  exact if_pos rfl
theorem owed_zero (c : Dev nD) : (pdats m 0 c).owed 0 = owing c 0 := by
  show (if (0 : Fin (cfg0.N + 1)).val = 0 then owing c 0 else 0) = _
  exact if_pos rfl
theorem owed_last (c : Dev nD) : (pdats m 0 c).owed (Fin.last _) = 0 := by
  show (if (Fin.last cfg0.N).val = 0 then owing c 0 else 0) = 0
  exact if_neg (by decide)
theorem owed_succ (c : Dev nD) : (dat0 m c).owed t0_0.succ = 0 := by
  show (if (t0_0.succ : Fin (cfg0.N + 1)).val = 0 then owing c 0 else 0) = 0
  exact if_neg (by decide)

theorem owes_in (c : Dev nD) (W : Waits sig Unit) : (owes (c : Thread nD τ) 0 W : sProp (MM F)) ⊢ (dat0 m c).owesAt () t0_0.succ := by
  unfold Dat.owesAt Pipeline.owesWithin Dat.bound
  rw [owed_succ, show (dat0 m c).recorded t0_0.succ = Set.univ from rfl]
  iintro H
  iexists W
  isplitr
  · ipureintro; exact fun _ _ => Or.inl trivial
  · iexact H

theorem owes_out (c : Dev nD) : ((dat0 m c).owesAt () t0_0.castSucc : sProp (MM F)) ⊢ iprop(∃ W, owes (c : Thread nD τ) (owing c 0) W) := by
  unfold Dat.owesAt Pipeline.owesWithin
  rw [owed_first]
  iintro ⟨%W, -, H⟩
  iexists W
  iexact H

theorem holds_owns (c : Dev nD) (b : Ref sig .tc) (X : b.ty.Contents (Elt F)) : holds c b X = owns (c : Thread nD τ) (Memref.whole b) fullShare X := by
  rw [owns_whole]
  have h₁ : holds c b X ⊢ (((c : Thread nD τ).loc b) ↦{fullShare} X : sProp (MM F)) := by
    unfold holds upto
    iintro ⟨%f, %hf, H⟩
    obtain rfl : f = X := funext fun i => hf i (Finset.mem_univ i) Nat.zero_lt_one
    iexact H
  have h₂ : (((c : Thread nD τ).loc b) ↦{fullShare} X : sProp (MM F)) ⊢ holds c b X := by
    unfold holds upto
    iintro H
    iexists X
    isplitr
    · ipureintro; exact fun _ _ _ => rfl
    · iexact H
  exact BI.equiv_iff.mp ⟨h₁, h₂⟩

theorem Φ_first (c : Dev nD) : (dat0 m c).Φ t0_0.castSucc = iprop(Xk (insOf m) c ∗ Scr c ∗ ∃ r, prngReg c r) := by
  show (if (t0_0.castSucc : Fin (cfg0.N + 1)).val = 0 then iprop(Xk (insOf m) c ∗ Scr c ∗ ∃ r, prngReg c r) else iprop((semVal (cell c barS) 0 ∗ Pipeline.ownSems0 osem c) ∗ Scr c ∗ ∃ r, prngReg c r)) = _
  exact if_pos rfl
theorem Φ_succ (c : Dev nD) : (dat0 m c).Φ t0_0.succ
    = iprop((semVal (cell c barS) 0 ∗ Pipeline.ownSems0 osem c) ∗ Scr c ∗ ∃ r, prngReg c r) := by
  show (if (t0_0.succ : Fin (cfg0.N + 1)).val = 0 then iprop(Xk (insOf m) c ∗ Scr c ∗ ∃ r, prngReg c r) else iprop((semVal (cell c barS) 0 ∗ Pipeline.ownSems0 osem c) ∗ Scr c ∗ ∃ r, prngReg c r)) = _
  exact if_neg (by decide)

/-- What the kernel's return hands back. -/
def Back (c : Dev nD) : sProp (MM F) :=
  iprop(((semVal (cell c barS) 0 ∗ Pipeline.ownSems0 osem c) ∗ Scr c ∗ ∃ r, prngReg c r) ∗ (dat0 m c).owesAt () t0_0.succ
    ∗ owns (c : Thread nD τ) (Memref.whole cc0_stg0_0) fullShare (V m c main_arg0) ∗ owns (c : Thread nD τ) (Memref.whole cc0_stg1_0) fullShare (V m c main_arg1)
    ∗ owns (c : Thread nD τ) (Memref.whole cc0_stg2_0) fullShare (V m c main_v1) ∗ owns (c : Thread nD τ) (Memref.whole cc0_stg3_0) fullShare (V m c main_v2)
    ∗ owns (c : Thread nD τ) (Memref.whole cc0_stg4_0) fullShare (V m c main_arg4)
    ∗ owns (c : Thread nD τ) (Memref.whole cc0_stg5_0) fullShare (c3 (OUT (insOf m) c)))

theorem back (K : GSem nD τ sig → ℕ) (c : Dev nD) :
    iprop(Pr (insOf m) K c true 64 66 ∗ (Inp (insOf m) c ∗ holds c cc0_stg5_0 (c3 (OUT (insOf m) c)) ∗ Scr c ∗ (∃ r, prngReg c r)))
      ⊢ iprop(|={Set.univ}=> Back m c) := by
  unfold Pr Inp Back
  rw [owing_end, holds_owns, holds_owns, holds_owns, holds_owns, holds_owns, holds_owns]
  iintro ⟨⟨HF, ⟨%W, HO⟩, -, -, HD⟩, ⟨H0, H1, H2, H3, H4⟩, H5, HS, HR⟩
  imod (hclose (insOf m) K c) $$ [HF HD] with HC
  · isplitl [HF] <;> iassumption
  imodintro
  isplitl [HC HS HR]
  · isplitl [HC]
    · iexact HC
    isplitl [HS] <;> iassumption
  isplitl [HO]
  · iapply (owes_in m c W); iexact HO
  isplitl [H0]
  · iexact H0
  isplitl [H1]
  · iexact H1
  isplitl [H2]
  · iexact H2
  isplitl [H3]
  · iexact H3
  isplitl [H4]
  · iexact H4
  iexact H5

theorem any_of (c : Dev nD) (b : Ref sig .tc) (X : b.ty.Contents (Elt F)) : owns (c : Thread nD τ) (Memref.whole b) fullShare X ⊢ any c b Finset.univ := by
  rw [owns_whole]
  unfold any
  iintro H
  iexists X
  iexact H

set_option maxRecDepth 65536 in
theorem body_ok (c : Dev nD) : BodyObligation (dat0 m c) defs₀ 𝒱₀ () Set.univ := fun t => by
  obtain rfl := fin_N0 t
  rw [bigSep_W0, bigSep_W0, Φ_first, Φ_succ]
  have e0 (d) : (dat0 m c).before 0 t0_0 d = V m c main_arg0 := ((dat0 m c).before_fetched 0 t0_0 (fetch0_0 t0_0) d).trans (blk_0 m c)
  have e1 (d) : (dat0 m c).before 1 t0_0 d = V m c main_arg1 := ((dat0 m c).before_fetched 1 t0_0 (fetch0_1 t0_0) d).trans (blk_1 m c)
  have e2 (d) : (dat0 m c).before 2 t0_0 d = V m c main_v1 := ((dat0 m c).before_fetched 2 t0_0 (fetch0_2 t0_0) d).trans (blk_2 m c)
  have e3 (d) : (dat0 m c).before 3 t0_0 d = V m c main_v2 := ((dat0 m c).before_fetched 3 t0_0 (fetch0_3 t0_0) d).trans (blk_3 m c)
  have e4 (d) : (dat0 m c).before 4 t0_0 d = V m c main_arg4 := ((dat0 m c).before_fetched 4 t0_0 (fetch0_4 t0_0) d).trans (blk_4 m c)
  show iprop((Xk (insOf m) c ∗ Scr c ∗ ∃ r, prngReg c r) ∗ (dat0 m c).owesAt () t0_0.castSucc
    ∗ (∃ d, owns (c : Thread nD τ) (Memref.whole cc0_stg0_0) fullShare ((dat0 m c).before 0 t0_0 d))
    ∗ (∃ d, owns (c : Thread nD τ) (Memref.whole cc0_stg1_0) fullShare ((dat0 m c).before 1 t0_0 d))
    ∗ (∃ d, owns (c : Thread nD τ) (Memref.whole cc0_stg2_0) fullShare ((dat0 m c).before 2 t0_0 d))
    ∗ (∃ d, owns (c : Thread nD τ) (Memref.whole cc0_stg3_0) fullShare ((dat0 m c).before 3 t0_0 d))
    ∗ (∃ d, owns (c : Thread nD τ) (Memref.whole cc0_stg4_0) fullShare ((dat0 m c).before 4 t0_0 d))
    ∗ (∃ d, owns (c : Thread nD τ) (Memref.whole cc0_stg5_0) fullShare ((dat0 m c).before 5 t0_0 d)))
    ⊢ bwp c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13
          (Memref.whole cc0_scratch14) (Memref.isWhole_whole _) cc0_scratch15) fun _ => Back m c
  simp only [e0, e1, e2, e3, e4]
  iintro ⟨⟨HX, HS, HR⟩, HO, ⟨%_, H0⟩, ⟨%_, H1⟩, ⟨%_, H2⟩, ⟨%_, H3⟩, ⟨%_, H4⟩, ⟨%_, H5⟩⟩
  ihave HO := (owes_out m c) $$ HO
  ihave H5 := (any_of c cc0_stg5_0 _) $$ H5
  unfold Xk
  icases HX with ⟨%K, HF, HT, HP⟩
  iapply (run1 (insOf m) (K := K) (d := c) (R := iprop(∃ r, prngReg c r)) (Q := fun _ => Back m c) (back m K c))
  isplitl [HF HO HT HP]
  · unfold Pr
    isplitl [HF]
    · iexact HF
    isplitl [HO]
    · iexact HO
    isplitl [HT]
    · iexact HT
    isplitl [HP]
    · iexact HP
    rw [Done_zero]
    iempintro
  unfold Inp
  rw [holds_owns, holds_owns, holds_owns, holds_owns, holds_owns]
  isplitl [H0 H1 H2 H3 H4]
  · isplitl [H0]
    · iexact H0
    isplitl [H1]
    · iexact H1
    isplitl [H2]
    · iexact H2
    isplitl [H3]
    · iexact H3
    iexact H4
  isplitl [H5]
  · iexact H5
  isplitl [HS]
  · iexact HS
  iexact HR

end Cert.KernelIdeal.Talk
-- ==== Proof.K.Run.lean ====
/- The run of `main` on thirty-two devices: the host's two reshapes, then the region. -/
module

public import proofs.«01_k».proof.Proof.K.Launch
public import Idealize.ShloMosaic.Lib.Pipeline.ValueKit.Geometry

@[expose] public section

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] (m : (ℓ : Loc nD τ sig) → Buf (Elt F) ℓ) (ρ : Dev nD → PrngReg)

/-! ## Memory before, at and after the region -/

/-- The arrays of the host program. -/
def bufs : Finset (DevRef τ sig) := (StableHlo.tcRefs τ sig).filter fun b => ¬ b.isScoped

/-- The two that the region does not touch. -/
def away : Finset (DevRef τ sig) := {Proc.devRef .tc main_arg2, Proc.devRef .tc main_arg3}

theorem arr_sub : Pipeline.arrRefs (τ := τ) spec0 ⊆ bufs := by decide
theorem away_eq : bufs \ Pipeline.arrRefs (τ := τ) spec0 = away := by decide

abbrev W₀ (c : Dev nD) : Valuation τ sig (Elt F) := fun b => m (c, b)
abbrev W₁ (c : Dev nD) : Valuation τ sig (Elt F) := StableHlo.after hostOps0 (W₀ m c)

/-- The result array's contents. -/
def outOf (c : Dev nD) : Buf (Elt F) ((c : Thread nD τ).loc main_v3) := c3 (OUT (insOf m) c)

def W₂ (c : Dev nD) : Valuation τ sig (Elt F) := Function.update (W₁ m c) (Proc.devRef .tc main_v3) (outOf m c)

theorem W₂_out (c : Dev nD) : W₂ m c (Proc.devRef .tc main_v3) = outOf m c := Function.update_self _ _ _
theorem W₂_of (c : Dev nD) {b : DevRef τ sig} (h : b ≠ Proc.devRef .tc main_v3) : W₂ m c b = W₁ m c b := Function.update_of_ne h _ _

theorem unscopedBufs_held (c : Dev nD) (W : Valuation τ sig (Elt F)) :
    (unscopedBufs c (fun b => W b) : sProp (MM F)) = StableHlo.held (c : Thread nD τ) bufs W := by
  unfold unscopedBufs StableHlo.held bufs StableHlo.tcRefs
  rw [Finset.filter_map, BI.bigSep_map]
  rfl

theorem held_parts (c : Dev nD) (W : Valuation τ sig (Elt F)) : (StableHlo.held (c : Thread nD τ) bufs W : sProp (MM F))
    = iprop(StableHlo.held (c : Thread nD τ) (Pipeline.arrRefs (τ := τ) spec0) W ∗ StableHlo.held (c : Thread nD τ) away W) := by
  rw [StableHlo.held_sub_split _ arr_sub, away_eq]

theorem unscoped_sem (c : Dev nD) : (unscopedSems0 c : sProp (MM F)) = semVal (cell c barS) 0 := by
  unfold unscopedSems0
  rw [show (Finset.univ.filter fun sm : SemLoc sig => ¬ sm.isScoped .tc) = {barS} from by decide, BI.bigSep_singleton]

theorem arr_first (c : Dev nD) : ∀ w : Fin 6, (pdats m 0 c).arrAt w 0 = W₁ m c (Proc.devRef .tc (Pipeline.arrRef spec0 w)) := fun w => rfl

theorem arr_last (c : Dev nD) : ∀ w : Fin 6, (pdats m 0 c).arrAt w cfg0.N = W₂ m c (Proc.devRef .tc (Pipeline.arrRef spec0 w)) := fun
  | 0 => ((dat0 m c).arrAt_in 0 rfl _).trans (W₂_of m c (b := Proc.devRef .tc main_arg0) (by decide)).symm
  | 1 => ((dat0 m c).arrAt_in 1 rfl _).trans (W₂_of m c (b := Proc.devRef .tc main_arg1) (by decide)).symm
  | 2 => ((dat0 m c).arrAt_in 2 rfl _).trans (W₂_of m c (b := Proc.devRef .tc main_v1) (by decide)).symm
  | 3 => ((dat0 m c).arrAt_in 3 rfl _).trans (W₂_of m c (b := Proc.devRef .tc main_v2) (by decide)).symm
  | 4 => ((dat0 m c).arrAt_in 4 rfl _).trans (W₂_of m c (b := Proc.devRef .tc main_arg4) (by decide)).symm
  | 5 => ((dat0 m c).arrAt_eq_of_after_last 5 t0_0 (by decide +kernel) (outOf m c) (fun j => rfl) (Memref.isWhole_whole _)).trans (W₂_out m c).symm

theorem full (c : Dev nD) (w : Fin 6) : (pdats m 0 c).share w = fullShare := by
  show (dat0 m c).share w = fullShare
  unfold Dat.share
  split <;> rfl

/-! ## The region -/

theorem hin (c : Dev nD) : iprop(Pipeline.scopedRest (Pipeline.pin (pcfgs (F := F)) adm 0).spec c ∗ (∃ r, prngReg c r)
      ∗ StableHlo.held (c.tc : Thread nD τ) ∅ (W₁ m c) ∗ Xk (insOf m) c)
    ⊢ (pdats m 0 c).Φ 0 := by
  rw [show (pdats m 0 c).Φ 0 = iprop(Xk (insOf m) c ∗ Scr c ∗ ∃ r, prngReg c r) from Φ_first m c,
    show (Pipeline.scopedRest (Pipeline.pin (pcfgs (F := F)) adm 0).spec c : sProp (MM F)) = Scr c from scoped_eq c]
  iintro ⟨HS, HR, -, HX⟩
  isplitl [HX]
  · iexact HX
  isplitl [HS] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₂ m c) ∗ Pipeline.ownSems0 osem c ∗ semVal (cell c barS) 0) := by
  rw [show (pdats m 0 c).Φ (Fin.last _) = iprop((semVal (cell c barS) 0 ∗ Pipeline.ownSems0 osem c) ∗ Scr c ∗ ∃ r, prngReg c r) from Φ_succ m c,
    show (Pipeline.scopedRest (Pipeline.pin (pcfgs (F := F)) adm 0).spec c : sProp (MM F)) = Scr c from scoped_eq c,
    show (StableHlo.held (c.tc : Thread nD τ) ∅ (W₂ m c) : sProp (MM F)) = iprop(emp) from bigSep_empty]
  iintro ⟨⟨HB, HO⟩, HS, HR⟩
  isplitl [HS]
  · iexact HS
  isplitl [HR]
  · iexact HR
  isplitr
  · iempintro
  isplitl [HO] <;> iassumption

theorem own_facts : Pipeline.OwnSemFacts spec0 osem := ⟨by decide +kernel, osem_inj, by decide +kernel⟩

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem high (j : Fin 64) : 0 < level (sm j.val) := by revert j; decide +kernel

set_option backward.isDefEq.respectTransparency.types false in
theorem cut : Pipeline.LevelCutOwed (pcfgs (F := F)) adm (pdats m) () L lv 0 (fun _ => 0) where
  hι c w s := by rw [show L _ = {()} from L_tc c _]; exact Finset.mem_singleton_self _
  hιb c w s := by
    have h : ∀ (w : Fin 6) (s : Fin (spec0 w).nbuf), level (.dma ((spec0 w).sem s)) ≤ 0 := by decide +kernel
    exact h w s
  hD c t g i h := by
    have e : (pdats m 0 c).owed t = if t.val = 0 then owing c 0 else 0 := rfl
    rw [e] at h
    split at h
    · obtain ⟨j, hj, rfl⟩ := owing_pos h
      refine ⟨by rw [show L _ = {()} from L_tc _ _]; exact Finset.mem_singleton_self _, ?_⟩
      exact high ⟨j, (Finset.mem_Ico.mp hj).2⟩
    · exact absurd h (Nat.lt_irrefl 0)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts ∅ away (Finset.empty_subset _) kit rfl
    (fun c => (body_ok m c).loose) (fun _ => 0) (fun c => owing c 0) (fun c => (owed_zero m c).trans (zero_add _).symm) (owed_last m)
    (fun _ => rfl) (fun c w => full m c w) (W₁ m) (W₂ m)
    (fun c b hb => W₂_of m c (by
      rintro rfl
      exact absurd (Finset.mem_sdiff.mp hb).1 (by decide)))
    (Tk (insOf m)) (fun c => semVal (cell c barS) 0) (Xk (insOf m)) (fun c => semVal (cell c barS) 0)
    (hopen (insOf m)) (hin m) (hout m) (fun c => by iintro H; imodintro; iexact H)
    (fun _ => 0) (cut m) (fun _ => iprop(emp)) (arr_first m) (arr_last m)

/-! ## `main` -/

/-- What rides beside the buffers up to the region. -/
def Beside (c : Dev nD) : sProp (MM F) :=
  iprop(Tk (insOf m) c ∗ (∃ r, prngReg c r) ∗ ∃ W, owes (c : Thread nD τ) (owing c 0) W)

theorem ops_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide

def host : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (W₀ m) (Beside m)

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

theorem reg_pre (c : Dev nD) : iprop(StableHlo.held (c.tc : Thread nD τ) bufs (W₁ m c) ∗ Beside m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) away (W₁ m c) ∗ emp) ∗ Tk (insOf m) c ∗ ∃ Wd, owes (c : Thread nD τ) (0 + owing c 0) Wd)
  rw [held_parts, zero_add]
  unfold Beside
  iintro ⟨⟨HA, HB⟩, HT, HR, HO⟩
  isplitl [HA]
  · iexact HA
  isplitl [HR]
  · iexact HR
  isplitl [HB]
  · isplitl [HB]
    · iexact HB
    · iempintro
  isplitl [HT] <;> iassumption

theorem reg_post (c : Dev nD) : (reg m).post c
    ⊢ iprop((StableHlo.held (c.tc : Thread nD τ) bufs (W₂ m c) ∗ semVal (cell c barS) 0) ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) away (W₂ m c) ∗ emp) ∗ semVal (cell c barS) 0 ∗ ∃ Wd, owes (c : Thread nD τ) (0 : CellTallies nD τ sig Unit) Wd) ⊢ _
  rw [held_parts]
  iintro ⟨HA, -, ⟨HB, -⟩, HS, HO⟩
  isplitr [HO]
  · isplitr [HS]
    · isplitl [HA] <;> iassumption
    · iexact HS
  · iexact HO

/-- A resource that lies with one device. -/
def onDev (c₀ : Dev nD) (X : sProp (MM F)) (c : Dev nD) : sProp (MM F) := if c = c₀ then X else iprop(emp)

theorem all_onDev (c₀ : Dev nD) (X : sProp (MM F)) : bigSep Finset.univ (onDev c₀ X) = X := by
  rw [bigSep_univ_at (onDev c₀ X) c₀, bigSep_congr (Φ := onDev c₀ X) (Ψ := fun _ => (BI.emp : sProp (MM F))) fun c hc => if_neg (Finset.ne_of_mem_erase hc),
    BI.bigSep_emp_const, show onDev c₀ X c₀ = X from if_pos rfl]
  exact BI.equiv_iff.mp sep_emp

/-- The ghost state the launch starts from. -/
def start : UU :=
  (initOf (Pipeline.cells (Pipeline.pin (pcfgs (F := F)) adm) cellOf_inj) (Pipeline.launchToks (Pipeline.pin (pcfgs (F := F)) adm) cellOf_inj),
    launchOf barCells ownCells allToks)

def Seed : Dev nD → sProp (MM F) := onDev 0 (BI.own (ER (launchOf barCells ownCells allToks)))

/-- A device's part of the deal. -/
def Part (c : Dev nD) : sProp (MM F) :=
  iprop(atPos ER (cell c barS) 0 ∅ 0 ∗ (bigSep Finset.univ fun k : Fin 65 => openTok ER (cell c (osem k))) ∗ Rest 64 0 (tok c))

/-- What of a device's holdings at the launch is not ghost state of the protocol. -/
def Plain (c : Dev nD) : sProp (MM F) :=
  iprop(StableHlo.held (c : Thread nD τ) bufs (W₀ m c) ∗ Credit c ∗ (∃ r, prngReg c r) ∗ owes (c : Thread nD τ) (owing c 0) ∅)

theorem part_in (K : GSem nD τ sig → ℕ) (c : Dev nD) :
    iprop((Invs (insOf m) K ∗ Bars) ∗ (Part c ∗ Plain m c)) ⊢ iprop(StableHlo.held (c : Thread nD τ) bufs (W₀ m c) ∗ Beside m c) := by
  unfold Part Plain Beside Tk Ghost
  iintro ⟨⟨#HI, #HB⟩, ⟨Ha, Ho, Ht⟩, Hh, Hc, HR, HO⟩
  isplitl [Hh]
  · iexact Hh
  isplitl [Ha Ho Ht Hc]
  · isplitr [Hc]
    · iexists K
      isplitr
      · iexact HI
      isplitr
      · iexact HB
      isplitl [Ha]
      · iexact Ha
      isplitl [Ho] <;> iassumption
    · iexact Hc
  isplitl [HR]
  · iexact HR
  iexists ∅
  iexact HO

theorem plain_in (c : Dev nD) : iprop(unscopedBufs c (fun b => m ((c : Thread nD τ).loc b)) ∗ unscopedSems0 c
      ∗ owes (c : Thread nD τ) (owing c 0) ∅ ∗ Pipeline.launchCred (fun d => owing d 0) c ∗ prngReg c (ρ c) ∗ Seed c)
    ⊢ (iprop(Plain m c ∗ (semVal (cell c barS) 0 ∗ Seed c)) : sProp (MM F)) := by
  rw [show unscopedBufs c (fun b => m ((c : Thread nD τ).loc b)) = StableHlo.held (c : Thread nD τ) bufs (W₀ m c) from unscopedBufs_held c (W₀ m c),
    unscoped_sem]
  unfold Plain
  iintro ⟨Hh, Hs, HO, Hc, HR, HG⟩
  ihave Hc := (deal_credit c) $$ Hc
  isplitr [Hs HG]
  · isplitl [Hh]
    · iexact Hh
    isplitl [Hc]
    · iexact Hc
    isplitl [HR]
    · iexists (ρ c); iexact HR
    · iexact HO
  isplitl [Hs] <;> iassumption

theorem deal : iprop((bigSep Finset.univ fun c : Dev nD => iprop(unscopedBufs c (fun b => m ((c : Thread nD τ).loc b)) ∗ unscopedSems0 c
      ∗ owes (c : Thread nD τ) (owing c 0) ∅ ∗ Pipeline.launchCred (fun d => owing d 0) c ∗ prngReg c (ρ c) ∗ Seed c)) ∗ levAts L lv)
    ⊢ (|={Set.univ}=> bigSep Finset.univ fun c : Dev nD => iprop(StableHlo.held (c : Thread nD τ) bufs (W₀ m c) ∗ Beside m c) : sProp (MM F)) := by
  have hp : (bigSep Finset.univ fun c : Dev nD => iprop(unscopedBufs c (fun b => m ((c : Thread nD τ).loc b)) ∗ unscopedSems0 c
      ∗ owes (c : Thread nD τ) (owing c 0) ∅ ∗ Pipeline.launchCred (fun d => owing d 0) c ∗ prngReg c (ρ c) ∗ Seed c))
      ⊢ (bigSep Finset.univ fun c : Dev nD => iprop(Plain m c ∗ (semVal (cell c barS) 0 ∗ Seed c)) : sProp (MM F)) :=
    bigSep_mono fun c _ => plain_in m ρ c
  have hs : (bigSep Finset.univ Seed) ⊢ (BI.own (ER (launchOf barCells ownCells allToks)) : sProp (MM F)) := Entails.of_eq (all_onDev 0 _)
  have hv : bigSep Finset.univ (fun c : Dev nD => (semVal (cell c barS) 0 : sProp (MM F))) ⊢ bigSep barCells fun g => semVal g 0 :=
    Entails.of_eq (bigSep_map (s := Finset.univ) barEmb (Φ := fun g : GSem nD τ sig => (semVal g 0 : sProp (MM F)))).symm
  have ha : (bigSep barCells fun g => atPos ER g 0 ∅ 0) ⊢ bigSep Finset.univ fun c : Dev nD => (atPos ER (cell c barS) 0 ∅ 0 : sProp (MM F)) :=
    Entails.of_eq (bigSep_map (s := Finset.univ) barEmb (Φ := fun g : GSem nD τ sig => (atPos ER g 0 ∅ 0 : sProp (MM F))))
  have hr : (bigSep barCells fun g => reached ER g 0) ⊢ (Bars : sProp (MM F)) :=
    Entails.of_eq (bigSep_map (s := Finset.univ) barEmb (Φ := fun g : GSem nD τ sig => (reached ER g 0 : sProp (MM F))))
  have ho : (bigSep ownCells fun g => openTok ER g) ⊢ bigSep Finset.univ fun c : Dev nD => bigSep Finset.univ fun k : Fin 65 => (openTok ER (cell c (osem k)) : sProp (MM F)) :=
    Entails.of_eq (by rw [bigSep_map, bigSep_univ_prod]; rfl)
  iintro ⟨H, -⟩
  ihave H := hp $$ H
  ihave H := unpairs $$ H
  icases H with ⟨HP, H⟩
  ihave H := unpairs $$ H
  icases H with ⟨Hv, HG⟩
  ihave Hv := hv $$ Hv
  ihave HG := hs $$ HG
  imod (Rounds.fund_launch ER (Rd (insOf m)) disjoint_cells (fun g _ h => h) allToks) $$ [Hv HG] with ⟨%K, -, #HI, #HR, Ha, Ho, Ht⟩
  · isplitl [Hv] <;> iassumption
  imodintro
  ihave Ha := ha $$ Ha
  ihave Ho := ho $$ Ho
  ihave Ht := (deal_toks (F := F)) $$ Ht
  iapply (bigSep_with_persistent (R := iprop(Invs (insOf m) K ∗ Bars)) (Φ := fun c => iprop(Part c ∗ Plain m c)) fun c _ => part_in m K c)
  isplitr
  · isplitr
    · iapply (all_invs (insOf m) K); iexact HI
    · iapply hr; iexact HR
  iapply pairs
  isplitr [HP]
  · unfold Part
    iapply pairs
    isplitl [Ha]
    · iexact Ha
    iapply pairs
    isplitl [Ho] <;> iassumption
  · iexact HP

theorem bufs_eq (c : Dev nD) (W : Valuation τ sig (Elt F)) : (StableHlo.held (c : Thread nD τ) bufs W : sProp (MM F))
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v1) ↦{fullShare} W (Proc.devRef .tc main_v1))
      ∗ (((c : Thread nD τ).loc main_v2) ↦{fullShare} W (Proc.devRef .tc main_v2)) ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

theorem unscoped_only : ∀ s : SemLoc sig, s.isScoped .tc = false → s = barS := by decide

set_option backward.isDefEq.respectTransparency.types false in
/-- From any memory with every counter at zero, every fair run of `main` on the thirty-two devices ends, with every
    counter at zero, the arguments as they were and the result array at what the sweep computes. -/
theorem run_main : θ_run defs (onTc (τ := τ) (main (F := F))) (s₀ m ρ)
    (fun r => (∀ c : Dev nD, r.2.mem ((c : Thread nD τ).loc main_v3) = outOf m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owing d 0) (hL := L_of_ne) (G := Seed) (u₀ := start (F := F))
    (hu₀ := by
      unfold start Seed
      iintro Hu
      ihave H := (ownU_pair _ _) $$ Hu
      icases H with ⟨HP, HX⟩
      imodintro
      isplitl [HP]
      · iexact HP
      rw [all_onDev]
      iexact HX)
    (T₀ := fun c => iprop(StableHlo.held (c : Thread nD τ) bufs (W₀ m c) ∗ Beside m c))
    (Tₙ := fun c => iprop(StableHlo.held (c : Thread nD τ) bufs (W₂ m c) ∗ semVal (cell c barS) 0))
    (hch := ⟨fun c => .rfl, fun c => reg_pre m c, fun c => reg_post m c⟩)
    (hinit := deal m ρ)
    (QY := fun c s => (s.mem ((c : Thread nD τ).loc main_v3) = W₂ m c (Proc.devRef .tc main_v3)
        ∧ s.mem ((c : Thread nD τ).loc main_arg0) = W₂ m c (Proc.devRef .tc main_arg0)
        ∧ s.mem ((c : Thread nD τ).loc main_arg1) = W₂ m c (Proc.devRef .tc main_arg1)
        ∧ s.mem ((c : Thread nD τ).loc main_arg2) = W₂ m c (Proc.devRef .tc main_arg2)
        ∧ s.mem ((c : Thread nD τ).loc main_arg3) = W₂ m c (Proc.devRef .tc main_arg3)
        ∧ s.mem ((c : Thread nD τ).loc main_arg4) = W₂ m c (Proc.devRef .tc main_arg4)) ∧ s.sem (cell c barS) = 0)
    (hfin := fun c s' => by
      rw [bufs_eq]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        refine ⟨h5.trans (W₂_out m c), h0.trans ?_, h1.trans ?_, h2.trans ?_, h3.trans ?_, h4.trans ?_⟩
        · exact (W₂_of m c (b := Proc.devRef .tc main_arg0) (by decide)).trans (V_main_arg0 m c)
        · exact (W₂_of m c (b := Proc.devRef .tc main_arg1) (by decide)).trans (V_main_arg1 m c)
        · exact (W₂_of m c (b := Proc.devRef .tc main_arg2) (by decide)).trans (V_main_arg2 m c)
        · exact (W₂_of m c (b := Proc.devRef .tc main_arg3) (by decide)).trans (V_main_arg3 m c)
        · exact (W₂_of m c (b := Proc.devRef .tc main_arg4) (by decide)).trans (V_main_arg4 m c),
      sem_eq_zero hs fun c sm hsm => by
        obtain rfl := unscoped_only sm hsm
        exact (h c).2⟩)

/-- What the run keeps: the arguments, and every counter at zero. -/
theorem run_kept : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_main m ρ)

end Cert.KernelIdeal.Talk
-- ==== Proof.V.Softmax.lean ====
/-
  Softmax over the extended reals: dividing by the sum of the exponentials after the weighted sum, with no maximum
  subtracted, is the weighted sum of the weights that the maximum was subtracted from and the sum divided out of. The
  scores are finite; the values are any extended reals; a masked score is −∞.
-/
module

public import Idealize.ShloMosaic.PureOps.Ideal

@[expose] public section

noncomputable section

namespace Cert.Softmax

open Idealize.ShloMosaic

/-- Multiplying by a nonnegative real distributes over a sum of any extended reals. -/
theorem sum_mul_coe {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

theorem exp_coe (r : ℝ) : Ideal.exp (r : EReal) = (Real.exp r : EReal) := rfl
theorem exp_bot : Ideal.exp ⊥ = 0 := rfl

theorem div_coe (x : EReal) {w : ℝ} (hw : w ≠ 0) : Ideal.div x (w : EReal) = x * ((w⁻¹ : ℝ) : EReal) := by
  unfold Ideal.div
  rw [if_neg (by exact_mod_cast hw), EReal.coe_inv]

variable {ι : Type*} [Fintype ι]

/-- A masked score. -/
def masked (P : ι → Prop) [DecidablePred P] (S : ι → EReal) (j : ι) : EReal := if P j then S j else ⊥

variable (P : ι → Prop) [DecidablePred P]

/-- The maximum of masked finite scores, one of which is kept, is finite. -/
theorem max_finite (S : ι → ℝ) (hP : ∃ j, P j) : ∃ μ : ℝ, Finset.univ.fold max ⊥ (masked P fun j => (S j : EReal)) = (μ : EReal) := by
  have hlt : Finset.univ.fold max ⊥ (masked P fun j => (S j : EReal)) < ⊤ := by
    rw [Finset.fold_max_lt]
    refine ⟨bot_lt_top, fun j _ => ?_⟩
    unfold masked
    split
    · exact EReal.coe_lt_top _
    · exact bot_lt_top
  have hgt : ⊥ < Finset.univ.fold max ⊥ (masked P fun j => (S j : EReal)) := by
    obtain ⟨j, hj⟩ := hP
    rw [Finset.lt_fold_max]
    exact .inr ⟨j, Finset.mem_univ j, by unfold masked; rw [if_pos hj]; exact EReal.bot_lt_coe _⟩
  exact ⟨_, (EReal.coe_toReal hlt.ne hgt.ne').symm⟩

/-- The two readings of a row of attention. -/
theorem row (S : ι → ℝ) (V : ι → EReal) (hP : ∃ j, P j) (M : EReal) (hM : M = Finset.univ.fold max ⊥ (masked P fun j => (S j : EReal))) :
    ∑ j, V j * Ideal.div (Ideal.exp (masked P (fun j => (S j : EReal)) j - M)) (∑ j, Ideal.exp (masked P (fun j => (S j : EReal)) j - M))
      = Ideal.div (∑ j with P j, Ideal.exp (S j) * V j) (∑ j with P j, Ideal.exp (S j)) := by
  obtain ⟨μ, hμ⟩ := max_finite P S hP
  rw [hμ] at hM
  subst hM
  have he : ∀ j, Ideal.exp (masked P (fun j => (S j : EReal)) j - (μ : EReal)) = ((if P j then Real.exp (S j) * Real.exp (-μ) else 0 : ℝ) : EReal) := by
    intro j
    unfold masked
    split
    · rw [← EReal.coe_sub, exp_coe, sub_eq_add_neg, Real.exp_add]
    · rw [EReal.bot_sub, exp_bot, EReal.coe_zero]
  simp only [he]
  have hW : (∑ j with P j, Ideal.exp (S j)) = ((∑ j with P j, Real.exp (S j) : ℝ) : EReal) := by
    rw [coe_sum]; rfl
  have hpos : 0 < ∑ j with P j, Real.exp (S j) := by
    obtain ⟨j, hj⟩ := hP
    exact Finset.sum_pos (fun i _ => Real.exp_pos _) ⟨j, by simpa using hj⟩
  have hW' : (∑ j, ((if P j then Real.exp (S j) * Real.exp (-μ) else 0 : ℝ) : EReal))
      = (((∑ j with P j, Real.exp (S j)) * Real.exp (-μ) : ℝ) : EReal) := by
    rw [← coe_sum, ← Finset.sum_filter, Finset.sum_mul]
  rw [hW, hW', div_coe _ hpos.ne', sum_mul_coe _ _ _ (inv_nonneg.mpr hpos.le)]
  refine (Finset.sum_congr rfl fun j _ => ?_).trans (Finset.sum_filter _ _).symm
  rw [div_coe _ (mul_pos hpos (Real.exp_pos _)).ne', ← EReal.coe_mul]
  by_cases hj : P j
  · rw [if_pos hj, if_pos hj, exp_coe, mul_comm ((Real.exp (S j) : ℝ) : EReal), mul_assoc (V j), ← EReal.coe_mul]
    congr 2
    have := (Real.exp_pos (-μ)).ne'
    field_simp
  · rw [if_neg hj, if_neg hj, zero_mul, EReal.coe_zero, mul_zero]

end Cert.Softmax
-- ==== Proof.V.Kernel.lean ====
/-
  What the kernel computes, over the extended reals: every payload read at an index.
-/
module

public import proofs.«01_k».proof.Proof.K.Project
public import proofs.«01_k».proof.Proof.V.Softmax
public import Idealize.ShloMosaic.Lib.Pointwise

@[expose] public section

noncomputable section

namespace Cert.KernelIdeal.Talk

open Cert.KernelIdeal Cert.KernelIdeal.Gen Idealize.ShloMosaic

variable (I : Ins Ideal)

/-- An element of the queries: a row of the input against a column of the query weights. -/
def qv (d : Dev nD) (b r e : ℕ) : EReal := ∑ c : Fin 768, XP I d b r c * I.wq d (mk2 768 512 c e)

/-- The scale of the scores. -/
def scale : EReal := Ideal.ofBits .f32 0x3E000000#32

/-- The score of query row `r` of head `h` against row `u` of the block of keys it attends to on one device. -/
def sc (d : Dev nD) (b r h u : ℕ) : EReal :=
  (∑ z : Fin 64, qv I d b r (64 * h + z) * KP I d b (128 * (r / 128) + u) (64 * h + z)) * scale

theorem qB_apply (d : Dev nD) (b hf : ℕ) (j : S256x512.Idx) :
    qB I d b hf j = qv I d b (256 * hf + (j 0).val) (j 1).val := by
  unfold qB qv
  pointwise [k0_pay61, k0_pay60]
  refine Finset.sum_congr rfl fun c _ => ?_
  congr 2
  funext a
  match a with
  | 0 => exact Fin.ext (Nat.mod_eq_of_lt c.isLt).symm
  | 1 => exact Fin.ext (Nat.mod_eq_of_lt (j 1).isLt).symm

theorem sB_apply (d : Dev nD) (b r h : ℕ) (hr : r < 512) (hh : h < 8) (j : S128x128.Idx) (hj : (j 0).val = r % 128) :
    sB I d b (r / 256) (r / 128 % 2) h j = Ideal.exp (sc I d b r h (j 1).val) := by
  unfold sB sc scale
  pointwise
  have h1 : (j 1).val < 128 := (j 1).isLt
  refine congrArg (fun x => Ideal.exp (x * _)) (Finset.sum_congr rfl fun z _ => ?_)
  rw [qB_apply]
  refine congrArg₂ (· * ·) ?_ ?_
  · show qv I d b (256 * (r / 256) + (128 * (r / 128 % 2 % 2) + (j 0).val)) (64 * (h % 8) + z.val) = _
    rw [hj, Nat.mod_eq_of_lt hh]
    congr 1
    omega
  · show KP I d b (256 * (r / 256) + 128 * (r / 128 % 2) + (j 1).val) (64 * h + z.val) = _
    congr 1
    omega

theorem OA_value (d : Dev nD) (b r c : ℕ) (hr : r < 512) (hc : c < 512) :
    OA I d b r c = ∑ u : Fin 128, Ideal.exp (sc I d b r (c / 64) u) * VP I d b (128 * (r / 128) + u) c := by
  unfold OA oB
  rw [if_pos hc]
  pointwise
  refine Finset.sum_congr rfl fun u _ => ?_
  refine congrArg₂ (· * ·) (sB_apply I d b r (c / 64) hr (by omega) _ ?_) ?_
  · exact Nat.mod_eq_of_lt (Nat.mod_lt _ (by decide))
  · show VP I d b (256 * (r / 256) + 128 * (r / 128 % 2) + u.val) (64 * (c / 64) + c % 64 % 64) = _
    congr 1 <;> omega

theorem lB_apply (d : Dev nD) (b r : ℕ) (hr : r < 512) (j : S1x128x8.Idx) (hj : (j 1).val = r % 128) :
    lB I d b (r / 256) (r / 128 % 2) j = ∑ u : Fin 128, Ideal.exp (sc I d b r (j 2).val u) := by
  have key : ∀ n : ℕ, n < 8 → (j 2).val = n → ∑ x : Fin 128, sB I d b (r / 256) (r / 128 % 2) n (ix2 (j 1) x)
      = ∑ u : Fin 128, Ideal.exp (sc I d b r (j 2).val u) := by
    intro n hn e
    subst e
    exact Finset.sum_congr rfl fun u _ => sB_apply I d b r (j 2).val hr hn _ hj
  have h2 : (j 2).val < 8 := (j 2).isLt
  unfold lB
  pointwise [lB1]
  split_ifs
  · exact key 0 (by omega) (by omega)
  · exact key 1 (by omega) (by omega)
  · exact key 2 (by omega) (by omega)
  · exact key 3 (by omega) (by omega)
  · exact key 4 (by omega) (by omega)
  · exact key 5 (by omega) (by omega)
  · exact key 6 (by omega) (by omega)
  · exact key 7 (by omega) (by omega)

theorem OA_sum (d : Dev nD) (b r h : ℕ) (hr : r < 512) (hh : h < 8) :
    OA I d b r (512 + h) = ∑ u : Fin 128, Ideal.exp (sc I d b r h u) := by
  unfold OA
  rw [if_neg (by omega), lB_apply I d b r hr _ (Nat.mod_eq_of_lt (Nat.mod_lt _ (by decide)))]
  have e2 : ((mk3 1 128 8 0 (r % 128) (512 + h - 512) : S1x128x8.Idx) 2).val = h := by
    show (512 + h - 512) % 8 = h
    omega
  rw [e2]

theorem add2_eq (a b : EReal) : add2 (F := Ideal) a b = a + b := by
  unfold add2
  pointwise [k0_pay297]

theorem tot_eq (f : ℕ → EReal) (own : EReal) : tot (F := Ideal) f own = (∑ s ∈ Finset.range 15, f s) + own := by
  unfold tot
  pointwise [k0_pay298, k0_pay299, k0_pay300]
  rw [Finset.sum_range_succ, Finset.sum_range_succ, Finset.sum_range_succ, Finset.sum_range_succ, Finset.sum_range_succ,
    Finset.sum_range_succ, Finset.sum_range_succ, Finset.sum_range_succ, Finset.sum_range_succ, Finset.sum_range_succ,
    Finset.sum_range_succ, Finset.sum_range_succ, Finset.sum_range_succ, Finset.sum_range_succ, Finset.sum_range_succ,
    Finset.sum_range_zero, zero_add]
  exact add_comm _ _

theorem nrm_eq (l o : EReal) : nrm (F := Ideal) l o = Ideal.div o l := by
  unfold nrm
  pointwise [k0_pay301]

theorem PB_apply (d : Dev nD) (b hf : ℕ) (j : S256x768.Idx) :
    PB I d b hf j = ∑ k : Fin 512, FIN I b (256 * hf + (j 0).val) k.val * I.wo d (ix2 k (j 1)) := by
  unfold PB
  pointwise [k0_pay303, k0_pay309]
  rfl

/-- The shares of all the devices, added. -/
def all (b r k : ℕ) : EReal := ∑ d : Dev nD, OA I d b r k

/-- The devices in the order one of them adds their shares: those of its own parity, itself last, each with its partner. -/
def inOrder (c : Dev nD) (p : Fin 16 × Fin 2) : Dev nD :=
  let d := if p.1.val < 15 then nb c p.1.val else c
  if p.2.val = 0 then d else xp d

theorem inOrder_inj : ∀ c : Dev nD, ∀ p q : Fin 16 × Fin 2, inOrder c p = inOrder c q → p = q := by decide +kernel

theorem inOrder_bij (c : Dev nD) : Function.Bijective (inOrder c) :=
  (Fintype.bijective_iff_injective_and_card _).mpr ⟨fun p q e => inOrder_inj c p q e, rfl⟩

theorem SS_eq (c : Dev nD) (b r k : ℕ) : SS I c b r k = all I b r k := by
  have h := (Equiv.ofBijective _ (inOrder_bij c)).sum_comp fun d => OA I d b r k
  unfold all SS X1
  rw [tot_eq, ← h, Fintype.sum_prod_type, Fin.sum_univ_castSucc, Finset.sum_range]
  refine congrArg₂ (· + ·) (Finset.sum_congr rfl fun s _ => ?_) ?_
  · rw [Fin.sum_univ_two, add2_eq]
    have e : (s.castSucc : Fin 16).val < 15 := s.isLt
    simp [inOrder]
  · rw [Fin.sum_univ_two, add2_eq]
    simp [inOrder]

theorem FIN_eq (b r k : ℕ) : FIN I b r k = Ideal.div (all I b r k) (all I b r (512 + k / 64)) := by
  unfold FIN NRM
  rw [nrm_eq, SS_eq, SS_eq]

/-- The row of the permuted buffers in which row `r` of the result is kept. -/
def keptAt (r : ℕ) : ℕ := 256 * (r / 64 % 4 / 2) + (64 * (2 * (r / 64 % 2) + r / 64 / 4) + r % 64)

theorem OUT_eq (d : Dev nD) (b r c : ℕ) (hr : r < 512) (hc : c < 768) :
    OUT I d b r c = ∑ k : Fin 512, FIN I b (keptAt r) k.val * I.wo d (ix2 k (⟨c, hc⟩ : Fin 768)) := by
  unfold OUT keptAt
  rw [PB_apply]
  refine Finset.sum_congr rfl fun k _ => ?_
  have e : ((mk2 256 768 (64 * (2 * (r / 64 % 2) + r / 64 / 4) + r % 64) c : S256x768.Idx) 0).val
      = 64 * (2 * (r / 64 % 2) + r / 64 / 4) + r % 64 := by
    show (64 * (2 * (r / 64 % 2) + r / 64 / 4) + r % 64) % 256 = _
    omega
  have e1 : ((mk2 256 768 (64 * (2 * (r / 64 % 2) + r / 64 / 4) + r % 64) c : S256x768.Idx) 1) = (⟨c, hc⟩ : Fin 768) :=
    Fin.ext (Nat.mod_eq_of_lt hc)
  rw [e]
  exact congrArg (fun x => _ * I.wo d (ix2 k x)) e1

end Cert.KernelIdeal.Talk
-- ==== Proof.V.Mask.lean ====
/-
  The reference's mask, read at an index: a query row sees a key when their blocks of 64 rows agree modulo 4.
-/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen Idealize.ShloMosaic Idealize.ShloMosaic.TcCoe

/-- The blocks of 64 the query rows and the keys lie in. -/
def qb : IVec S512 32 :=
  select (andi (cmpi .ne (signi (iotaInDim S512 32 0)) (broadcastInDim S512 ![] bcast_S_S512 (signi (id (constantI S_ 32 64#32))))) (cmpi .ne
  (Host.remsi (iotaInDim S512 32 0) (broadcastInDim S512 ![] bcast_S_S512 (id (constantI S_ 32 64#32)))) (broadcastInDim S512 ![]
  bcast_S_S512 (constantI S_ 32 0#32)))) (subi (Host.divsi (iotaInDim S512 32 0) (broadcastInDim S512 ![] bcast_S_S512 (id (constantI S_ 32
  64#32)))) (broadcastInDim S512 ![] bcast_S_S512 (constantI S_ 32 1#32))) (Host.divsi (iotaInDim S512 32 0) (broadcastInDim S512 ![]
  bcast_S_S512 (id (constantI S_ 32 64#32))))
def kb : IVec S16384 32 :=
  select (andi (cmpi .ne (signi (iotaInDim S16384 32 0)) (broadcastInDim S16384 ![] bcast_S_S16384 (signi (id (constantI S_ 32 64#32)))))
  (cmpi .ne (Host.remsi (iotaInDim S16384 32 0) (broadcastInDim S16384 ![] bcast_S_S16384 (id (constantI S_ 32 64#32)))) (broadcastInDim
  S16384 ![] bcast_S_S16384 (constantI S_ 32 0#32)))) (subi (Host.divsi (iotaInDim S16384 32 0) (broadcastInDim S16384 ![] bcast_S_S16384
  (id (constantI S_ 32 64#32)))) (broadcastInDim S16384 ![] bcast_S_S16384 (constantI S_ 32 1#32))) (Host.divsi (iotaInDim S16384 32 0)
  (broadcastInDim S16384 ![] bcast_S_S16384 (id (constantI S_ 32 64#32))))

/-- The divisor of the remainders. -/
def four : IVec S_ 32 :=
  select (cmpi .eq (id (constantI S_ 32 4#32)) (constantI S_ 32 0#32)) (constantI S_ 32 1#32) (id (constantI S_ 32 4#32))

/-- The blocks modulo 4. -/
def kr : IVec S1x16384 32 :=
  select (andi (cmpi .ne (cmpi .slt (Host.remsi (broadcastInDim S1x16384 ![1] bcast_S16384_S1x16384_1 kb) (broadcastInDim S1x16384 ![]
  bcast_S_S1x16384 four)) (broadcastInDim S1x16384 ![] bcast_S_S1x16384 (constantI S_ 32 0#32))) (broadcastInDim S1x16384 ![]
  bcast_S_S1x16384 (cmpi .slt four (constantI S_ 32 0#32)))) (cmpi .ne (Host.remsi (broadcastInDim S1x16384 ![1] bcast_S16384_S1x16384_1 kb)
  (broadcastInDim S1x16384 ![] bcast_S_S1x16384 four)) (broadcastInDim S1x16384 ![] bcast_S_S1x16384 (constantI S_ 32 0#32)))) (addi
  (Host.remsi (broadcastInDim S1x16384 ![1] bcast_S16384_S1x16384_1 kb) (broadcastInDim S1x16384 ![] bcast_S_S1x16384 four)) (broadcastInDim
  S1x16384 ![] bcast_S_S1x16384 four)) (Host.remsi (broadcastInDim S1x16384 ![1] bcast_S16384_S1x16384_1 kb) (broadcastInDim S1x16384 ![]
  bcast_S_S1x16384 four))
def qr : IVec S512x1 32 :=
  select (andi (cmpi .ne (cmpi .slt (Host.remsi (broadcastInDim S512x1 ![0] bcast_S512_S512x1_0 qb) (broadcastInDim S512x1 ![] bcast_S_S512x1
  four)) (broadcastInDim S512x1 ![] bcast_S_S512x1 (constantI S_ 32 0#32))) (broadcastInDim S512x1 ![] bcast_S_S512x1 (cmpi .slt four
  (constantI S_ 32 0#32)))) (cmpi .ne (Host.remsi (broadcastInDim S512x1 ![0] bcast_S512_S512x1_0 qb) (broadcastInDim S512x1 ![]
  bcast_S_S512x1 four)) (broadcastInDim S512x1 ![] bcast_S_S512x1 (constantI S_ 32 0#32)))) (addi (Host.remsi (broadcastInDim S512x1 ![0]
  bcast_S512_S512x1_0 qb) (broadcastInDim S512x1 ![] bcast_S_S512x1 four)) (broadcastInDim S512x1 ![] bcast_S_S512x1 four)) (Host.remsi
  (broadcastInDim S512x1 ![0] bcast_S512_S512x1_0 qb) (broadcastInDim S512x1 ![] bcast_S_S512x1 four))

/-- The mask. -/
def mask : IVec S512x16384 1 :=
  ori (cmpi .eq (broadcastInDim S512x16384 ![0, 1] bcast_S512x1_S512x16384_0_1 (broadcastInDim S512x1 ![0] bcast_S512_S512x1_0 qb))
  (broadcastInDim S512x16384 ![0, 1] bcast_S1x16384_S512x16384_0_1 (broadcastInDim S1x16384 ![1] bcast_S16384_S1x16384_1 kb))) (cmpi .eq
  (broadcastInDim S512x16384 ![0, 1] bcast_S1x16384_S512x16384_0_1 kr) (broadcastInDim S512x16384 ![0, 1] bcast_S512x1_S512x16384_0_1 qr))

/-- Floor division by 64 as the reference spells it on words. -/
def word64 (w : BitVec 32) : BitVec 32 :=
  Scalar.select (IntOp.andi
      (IntOp.cmpi (w := 32) .ne (if w = 0 then 0 else if w.msb = true then -1 else 1)
        (if (64#32) = 0 then 0 else if (64#32).msb = true then -1 else 1))
      (IntOp.cmpi .ne (IntOp.remsi .host w 64#32) 0#32))
    (IntOp.subi (IntOp.divsi .host w 64#32) 1#32) (IntOp.divsi .host w 64#32)

/-- The remainder by 4 as the reference spells it on words. -/
def word4 (w : BitVec 32) : BitVec 32 :=
  Scalar.select (IntOp.andi
      (IntOp.cmpi .ne (IntOp.cmpi .slt (IntOp.remsi .host w 4#32) 0#32) (IntOp.cmpi .slt 4#32 0#32))
      (IntOp.cmpi .ne (IntOp.remsi .host w 4#32) 0#32))
    (IntOp.addi (IntOp.remsi .host w 4#32) 4#32) (IntOp.remsi .host w 4#32)

theorem word64_eq (a b : Fin 128) : word64 (BitVec.ofNat 32 (128 * a.val + b.val)) = BitVec.ofNat 32 ((128 * a.val + b.val) / 64) := by
  revert a b
  decide +kernel

theorem word64_at (n : ℕ) (h : n < 16384) : word64 (BitVec.ofNat 32 n) = BitVec.ofNat 32 (n / 64) := by
  have e := word64_eq ⟨n / 128, by omega⟩ ⟨n % 128, by omega⟩
  have q : 128 * (n / 128) + n % 128 = n := by omega
  simpa only [q] using e

theorem word4_at : ∀ n : Fin 256, word4 (BitVec.ofNat 32 n.val) = BitVec.ofNat 32 (n.val % 4) := by decide +kernel

theorem qb_apply (j : S512.Idx) : qb j = BitVec.ofNat 32 ((j 0).val / 64) := by
  refine Eq.trans ?_ (word64_at (j 0).val (lt_trans (j 0).isLt (by decide)))
  unfold qb word64
  pointwise
  rfl

theorem kb_apply (j : S16384.Idx) : kb j = BitVec.ofNat 32 ((j 0).val / 64) := by
  refine Eq.trans ?_ (word64_at (j 0).val (j 0).isLt)
  unfold kb word64
  pointwise
  rfl

theorem four_apply (j : S_.Idx) : four j = 4#32 := by
  unfold four
  pointwise
  rfl

theorem qr_apply (j : S512x1.Idx) : qr j = BitVec.ofNat 32 ((j 0).val / 64 % 4) := by
  have h : (j 0).val < 512 := (j 0).isLt
  refine Eq.trans ?_ (word4_at ⟨(j 0).val / 64, by omega⟩)
  unfold qr word4
  pointwise [four_apply, qb_apply]

theorem kr_apply (j : S1x16384.Idx) : kr j = BitVec.ofNat 32 ((j 1).val / 64 % 4) := by
  have h : (j 1).val < 16384 := (j 1).isLt
  refine Eq.trans ?_ (word4_at ⟨(j 1).val / 64, by omega⟩)
  unfold kr word4
  pointwise [four_apply, kb_apply]

theorem mask_apply (j : S512x16384.Idx) :
    mask j = if (j 1).val / 64 % 4 = (j 0).val / 64 % 4 then 1#1 else 0#1 := by
  have h0 : (j 0).val < 512 := (j 0).isLt
  have h1 : (j 1).val < 16384 := (j 1).isLt
  unfold mask
  pointwise [qb_apply, kb_apply, kr_apply, qr_apply]
  have e : ∀ a b : ℕ, a < 256 → b < 256 → IntOp.cmpi .eq (BitVec.ofNat 32 a) (BitVec.ofNat 32 b) = if a = b then 1#1 else 0#1 := by
    intro a b ha hb
    by_cases q : a = b
    · subst q
      rw [if_pos rfl]
      simp [IntOp.cmpi]
    · have w : BitVec.ofNat 32 a ≠ BitVec.ofNat 32 b := fun x => q (by
        have y := congrArg BitVec.toNat x
        rw [BitVec.toNat_ofNat, BitVec.toNat_ofNat] at y
        omega)
      rw [if_neg q]
      show BitVec.ofBool (BitVec.ofNat 32 a == BitVec.ofNat 32 b) = 0#1
      rw [beq_eq_false_iff_ne.mpr w]
      rfl
  rw [e _ _ (by omega) (by omega), e _ _ (by omega) (by omega)]
  by_cases q : (j 1).val / 64 % 4 = (j 0).val / 64 % 4
  · rw [if_pos q]
    by_cases q' : (j 0).val / 64 = (j 1).val / 64
    · rw [if_pos q']; decide
    · rw [if_neg q']; decide
  · rw [if_neg q, if_neg fun q' => q (by rw [q'])]
    decide

theorem fold_or {ι : Type} [DecidableEq ι] (f : ι → BitVec 1) (i : ι) (hi : f i = 1#1) (s : Finset ι) (h : i ∈ s) :
    s.fold IntOp.ori 0#1 f = 1#1 := by
  rw [← Finset.insert_erase h, Finset.fold_insert (Finset.notMem_erase i s), hi]
  generalize Finset.fold IntOp.ori 0#1 f (s.erase i) = x
  revert x
  decide

/-- Every query row sees a key: that of its own number. -/
theorem seen_apply (j : S512.Idx) :
    Host.reduce IntOp.ori mask (constantI S_ 1 0#1) reducesTo_S512x16384_S512_d1 h_S_ j = 1#1 := by
  have h : (j 0).val < 512 := (j 0).isLt
  pointwise [mask_apply]
  exact fold_or _ (⟨(j 0).val, by omega⟩ : Fin 16384) (if_pos rfl) _ (Finset.mem_univ _)

end Cert.ReferenceIdeal.Value
-- ==== Proof.V.Reference.lean ====
/-
  What the reference computes, over the extended reals.
-/
module

public import proofs.«01_k».proof.Proof.V.Mask
public import proofs.«01_k».proof.Proof.V.Softmax

@[expose] public section

noncomputable section

namespace Cert.ReferenceIdeal.Value

open Cert.ReferenceIdeal Cert.ReferenceIdeal.Gen Idealize.ShloMosaic Idealize.ShloMosaic.TcCoe

variable (x : FVec Ideal S2x512x768 .bf16) (wq : FVec Ideal S768x512 .bf16) (K V : FVec Ideal S2x16384x8x64 .bf16)
  (wo : FVec Ideal S512x768 .bf16)

/-- The scores, with the keys a query row does not see at minus infinity. -/
def sm : FVec Ideal S2x8x512x16384 .f32 :=
  select (broadcastInDim S2x8x512x16384 ![0, 1, 2, 3] bcast_S1x1x512x16384_S2x8x512x16384_0_1_2_3 (broadcastInDim S1x1x512x16384 ![2, 3]
  bcast_S512x16384_S1x1x512x16384_2_3 mask)) (mulf (Host.dotGeneral dot_S2x512x8x64_S2x16384x8x64_S2x8x512x16384_3_3_1_1_02_02 none
  (shapeCast _ (Host.dotGeneral dot_S2x512x768_S768x512_S2x512x512_2_0_01_1_n_n none (extf .f32 x bitsLt_bf16_f32) (extf .f32 wq
  bitsLt_bf16_f32)) shapeCasts_S2x512x512_S2x512x8x64) (extf .f32 K bitsLt_bf16_f32)) (broadcastInDim S2x8x512x16384 ![]
  bcast_S_S2x8x512x16384 (constant S_ .f32 0x3E000000#32))) (broadcastInDim S2x8x512x16384 ![] bcast_S_S2x8x512x16384 (id (constant S_ .f32
  0xFF800000#32)))

/-- The largest score of each row, repeated along the keys. -/
def mx : FVec Ideal S2x8x512x16384 .f32 :=
  broadcastInDim S2x8x512x16384 ![0, 1, 2, 3] bcast_S2x8x512x1_S2x8x512x16384_0_1_2_3 (broadcastInDim S2x8x512x1 ![0, 1, 2]
  bcast_S2x8x512_S2x8x512x1_0_1_2 (Host.reduce FloatOps.maximumf (sm x wq K) (constant S_ .f32 0xFF800000#32)
  reducesTo_S2x8x512x16384_S2x8x512_d3 h_S_))

/-- The exponentials. -/
def ex : FVec Ideal S2x8x512x16384 .f32 := Host.exp (subf (sm x wq K) (mx x wq K))

/-- Whether a query row sees a key at all. -/
def seen : IVec S1x1x512x1 1 :=
  broadcastInDim S1x1x512x1 ![2] bcast_S512_S1x1x512x1_2 (Host.reduce IntOp.ori mask (constantI S_ 1 0#1) reducesTo_S512x16384_S512_d1 h_S_)

/-- The weights, of the exponentials. -/
def wtOf (seen : IVec S1x1x512x1 1) (e : FVec Ideal S2x8x512x16384 .f32) : FVec Ideal S2x8x512x16384 .f32 :=
  select (broadcastInDim S2x8x512x16384 ![0, 1, 2, 3] bcast_S1x1x512x1_S2x8x512x16384_0_1_2_3 seen) (Host.divf e (broadcastInDim
  S2x8x512x16384 ![0, 1, 2, 3] bcast_S2x8x512x1_S2x8x512x16384_0_1_2_3 (select (broadcastInDim S2x8x512x1 ![0, 1, 2, 3]
  bcast_S1x1x512x1_S2x8x512x1_0_1_2_3 seen) (broadcastInDim S2x8x512x1 ![0, 1, 2] bcast_S2x8x512_S2x8x512x1_0_1_2 (Host.reduceAdd e (constant S_ .f32 0x00000000#32) reducesTo_S2x8x512x16384_S2x8x512_d3 h_S_)) (broadcastInDim S2x8x512x1 ![] bcast_S_S2x8x512x1 (id
  (constant S_ .f32 0x3F800000#32)))))) (broadcastInDim S2x8x512x16384 ![] bcast_S_S2x8x512x16384 (id (constant S_ .f32 0x00000000#32)))

/-- The weights. -/
def wt : FVec Ideal S2x8x512x16384 .f32 := wtOf seen (ex x wq K)

/-- The result. -/
def res : FVec Ideal S2x512x768 .f32 :=
  Host.dotGeneral dot_S2x512x512_S512x768_S2x512x768_2_0_01_1_n_n none (shapeCast _ (transpose S2x512x8x64 [0, 3, 1, 2] (Host.dotGeneral
  dot_S2x16384x8x64_S2x8x512x16384_S2x8x64x512_1_3_3_2_02_01 none (extf .f32 V bitsLt_bf16_f32) (wt x wq K))
  transposes_S2x8x64x512_S2x512x8x64_0_3_1_2) shapeCasts_S2x512x8x64_S2x512x512) (extf .f32 wo bitsLt_bf16_f32)

theorem res_eq (m : (ℓ : Loc nD τ sig) → Buf (Elt Ideal) ℓ) (c : Dev nD) :
    res_main_v44 m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem ofBits_neg_inf : Ideal.ofBits .f32 0xFF800000#32 = ⊥ := by
  show Ideal.ieee 8 23 (0xFF800000#32) = ⊥
  unfold Ideal.ieee
  dsimp only
  rw [if_pos (by decide), if_pos (by decide), if_pos (by decide)]

/-- The scale of the scores is a real number. -/
theorem scale_real : ∃ s : ℝ, Ideal.ofBits .f32 0x3E000000#32 = (s : EReal) := by
  show ∃ s : ℝ, Ideal.ieee 8 23 (0x3E000000#32) = (s : EReal)
  unfold Ideal.ieee
  dsimp only
  rw [if_neg (by decide), if_neg (by decide)]
  exact ⟨_, rfl⟩

theorem mask_at (r : Fin 512) (k : Fin 16384) :
    mask (ix2 r k) = if k.val / 64 % 4 = r.val / 64 % 4 then 1#1 else 0#1 := mask_apply (ix2 r k)

/-- The score of query row `r` of head `h` against key `k`. -/
def score (b : Fin 2) (h : Fin 8) (r : Fin 512) (k : Fin 16384) : EReal :=
  (∑ z : Fin 64, (∑ c : Fin 768, x (ix3 b r c) * wq (ix2 c (⟨64 * h.val + z.val, by omega⟩ : Fin 512))) * K (ix4 b k h z))
    * Ideal.ofBits .f32 0x3E000000#32

theorem sm_apply (b : Fin 2) (h : Fin 8) (r : Fin 512) (k : Fin 16384) :
    sm x wq K (ix4 b h r k) = if k.val / 64 % 4 = r.val / 64 % 4 then score x wq K b h r k else ⊥ := by
  unfold sm
  pointwise [mask_at]
  have hb : id (constant (F := Ideal) S_ .f32 0xFF800000#32) ix0 = (⊥ : EReal) := ofBits_neg_inf
  rw [hb]
  by_cases q : k.val / 64 % 4 = r.val / 64 % 4
  · rw [if_pos q, if_pos q]
    unfold score
    refine (if_pos rfl).trans (congrArg (· * _) (Finset.sum_congr rfl fun z _ => congrArg (· * _) (Finset.sum_congr rfl fun c _ =>
      congrArg (fun y => _ * wq (ix2 c y)) (Fin.ext (by show h.val * 64 + z.val = 64 * h.val + z.val; omega)))))
  · rw [if_neg q, if_neg q]
    exact if_neg (by decide)

theorem mx_apply (b : Fin 2) (h : Fin 8) (r : Fin 512) (k : Fin 16384) :
    mx x wq K (ix4 b h r k) = Finset.univ.fold max ⊥ fun k' : Fin 16384 => sm x wq K (ix4 b h r k') := by
  unfold mx
  pointwise
  rw [ofBits_neg_inf]

theorem ex_apply (j : S2x8x512x16384.Idx) : ex x wq K j = Ideal.exp (sm x wq K j - mx x wq K j) := by
  unfold ex
  pointwise

theorem seen_eq (j : S1x1x512x1.Idx) : seen j = 1#1 := by
  unfold seen
  pointwise [seen_apply]

theorem wtOf_apply (s : IVec S1x1x512x1 1) (hs : ∀ j, s j = 1#1) (e : FVec Ideal S2x8x512x16384 .f32)
    (b : Fin 2) (h : Fin 8) (r : Fin 512) (k : Fin 16384) :
    wtOf s e (ix4 b h r k) = Ideal.div (e (ix4 b h r k)) (∑ k' : Fin 16384, e (ix4 b h r k')) := by
  unfold wtOf
  pointwise [hs]

theorem res_apply (b : Fin 2) (r : Fin 512) (c : Fin 768) :
    res x wq K V wo (ix3 b r c) = ∑ k : Fin 512, (∑ u : Fin 16384,
      V (ix4 b u (⟨k.val / 64, by omega⟩ : Fin 8) (⟨k.val % 64, by omega⟩ : Fin 64))
        * wt x wq K (ix4 b (⟨k.val / 64, by omega⟩ : Fin 8) r u)) * wo (ix2 k c) := by
  unfold res
  pointwise

end Cert.ReferenceIdeal.Value
-- ==== Proof.V.Equal.lean ====
/-
  The kernel's result and the reference's are the same function of the arguments.
-/
module

public import proofs.«01_k».proof.Proof.V.Kernel
public import proofs.«01_k».proof.Proof.V.Reference

@[expose] public section

noncomputable section

namespace Cert.Equal

open Idealize.ShloMosaic
open Cert.KernelIdeal.Talk
open Cert.ReferenceIdeal (S2x512x768 S768x512 S2x16384x8x64 S512x768)
open Cert.ReferenceIdeal.Value (score sm mx ex wt res)

/-- A value that is a real number. -/
def Real' (a : EReal) : Prop := ∃ r : ℝ, a = (r : EReal)

theorem Real'.mul {a b : EReal} (ha : Real' a) (hb : Real' b) : Real' (a * b) := by
  obtain ⟨r, rfl⟩ := ha
  obtain ⟨s, rfl⟩ := hb
  exact ⟨r * s, (EReal.coe_mul r s).symm⟩

theorem Real'.sum {ι : Type} [Fintype ι] {f : ι → EReal} (h : ∀ i, Real' (f i)) : Real' (∑ i, f i) := by
  choose g hg using h
  refine ⟨∑ i, g i, ?_⟩
  rw [Finset.sum_congr rfl fun i _ => hg i]
  exact (Cert.Softmax.coe_sum _ _).symm

/-- The key that row `u` of a device's block of class `g` is. -/
def key (g : Fin 4) (p : Dev Cert.KernelIdeal.nD × Fin 128) : Fin 16384 :=
  ⟨512 * p.1.val + (64 * (g.val + 4 * (p.2.val / 64)) + p.2.val % 64), by
    have h : p.1.val < 32 := p.1.isLt
    omega⟩

/-- A sum over the devices and their rows of one class is the sum over the keys of that class. -/
theorem sum_keys (g : Fin 4) (f : Fin 16384 → EReal) :
    ∑ d : Dev Cert.KernelIdeal.nD, ∑ u : Fin 128, f (key g (d, u)) = ∑ j with j.val / 64 % 4 = g.val, f j := by
  rw [← Fintype.sum_prod_type' fun d u => f (key g (d, u))]
  refine Finset.sum_nbij' (key g) (fun j => ((⟨j.val / 512, by have h : j.val < 16384 := j.isLt; show j.val / 512 < 32; omega⟩ : Dev Cert.KernelIdeal.nD),
    (⟨64 * (j.val % 512 / 256) + j.val % 64, by omega⟩ : Fin 128))) ?_ ?_ ?_ ?_ ?_
  · intro p _
    rw [Finset.mem_filter]
    refine ⟨Finset.mem_univ _, ?_⟩
    have h : p.1.val < 32 := p.1.isLt
    have h2 := p.2.isLt
    show (512 * p.1.val + (64 * (g.val + 4 * (p.2.val / 64)) + p.2.val % 64)) / 64 % 4 = g.val
    omega
  · intro j _
    exact Finset.mem_univ _
  · intro p _
    have h : p.1.val < 32 := p.1.isLt
    have h2 := p.2.isLt
    refine Prod.ext (Fin.ext ?_) (Fin.ext ?_)
    · show (512 * p.1.val + (64 * (g.val + 4 * (p.2.val / 64)) + p.2.val % 64)) / 512 = p.1.val
      omega
    · show 64 * ((512 * p.1.val + (64 * (g.val + 4 * (p.2.val / 64)) + p.2.val % 64)) % 512 / 256)
        + (512 * p.1.val + (64 * (g.val + 4 * (p.2.val / 64)) + p.2.val % 64)) % 64 = p.2.val
      omega
  · intro j hj
    have e := (Finset.mem_filter.mp hj).2
    refine Fin.ext ?_
    show 512 * (j.val / 512) + (64 * (g.val + 4 * ((64 * (j.val % 512 / 256) + j.val % 64) / 64)) + (64 * (j.val % 512 / 256) + j.val % 64) % 64) = j.val
    omega
  · intro p _
    rfl

variable (I : Ins Ideal) (x : FVec Ideal S2x512x768 .bf16) (wq : FVec Ideal S768x512 .bf16) (K V : FVec Ideal S2x16384x8x64 .bf16)
  (wo : FVec Ideal S512x768 .bf16)

/-- The kernel's inputs are the arguments, the keys and the values cut along their second dimension. -/
structure Fits : Prop where
  hx : ∀ d, I.x d = x
  hwq : ∀ d, I.wq d = wq
  hk : ∀ (d : Dev Cert.KernelIdeal.nD) (b : Fin 2) (p : Fin 512) (h : Fin 8) (z : Fin 64) (j : Fin 16384), j.val = 512 * d.val + p.val →
    I.k d (mk3 2 512 512 b.val p.val (64 * h.val + z.val)) = K (ix4 b j h z)
  hv : ∀ (d : Dev Cert.KernelIdeal.nD) (b : Fin 2) (p : Fin 512) (h : Fin 8) (z : Fin 64) (j : Fin 16384), j.val = 512 * d.val + p.val →
    I.v d (mk3 2 512 512 b.val p.val (64 * h.val + z.val)) = V (ix4 b j h z)
  hwo : ∀ d, I.wo d = wo

/-- The arguments the scores come from are real numbers. -/
structure Reals : Prop where
  rx : ∀ j, Real' (x j)
  rwq : ∀ j, Real' (wq j)
  rk : ∀ j, Real' (K j)

variable {I x wq K V wo}

theorem perm_keptAt (r : ℕ) (h : r < 512) : perm (keptAt r) = r := by
  unfold perm keptAt
  have e : r = 64 * (r / 64) + r % 64 := by omega
  have hq : r / 64 < 8 := by omega
  have ht : r % 64 < 64 := Nat.mod_lt _ (by decide)
  generalize r / 64 = q at *
  generalize r % 64 = t at *
  subst e
  have c : q = 0 ∨ q = 1 ∨ q = 2 ∨ q = 3 ∨ q = 4 ∨ q = 5 ∨ q = 6 ∨ q = 7 := by omega
  rcases c with rfl | rfl | rfl | rfl | rfl | rfl | rfl | rfl <;> omega

theorem keptAt_lt (r : ℕ) (h : r < 512) : keptAt r < 512 := by
  unfold keptAt
  omega

theorem keptAt_class (r : ℕ) (h : r < 512) : keptAt r / 128 = r / 64 % 4 := by
  unfold keptAt
  have hq : r / 64 < 8 := by omega
  have ht : r % 64 < 64 := Nat.mod_lt _ (by decide)
  generalize r / 64 = q at *
  generalize r % 64 = t at *
  have c : q = 0 ∨ q = 1 ∨ q = 2 ∨ q = 3 ∨ q = 4 ∨ q = 5 ∨ q = 6 ∨ q = 7 := by omega
  rcases c with rfl | rfl | rfl | rfl | rfl | rfl | rfl | rfl <;> omega

theorem perm_row (r u : ℕ) (h : r < 512) (hu : u < 128) : perm (128 * (keptAt r / 128) + u) = 64 * (r / 64 % 4 + 4 * (u / 64)) + u % 64 := by
  rw [keptAt_class r h]
  generalize r / 64 % 4 = g
  unfold perm
  omega

theorem score_real (R : Reals x wq K) (b : Fin 2) (h : Fin 8) (r : Fin 512) (k : Fin 16384) : Real' (score x wq K b h r k) :=
  Real'.mul (Real'.sum fun _ => Real'.mul (Real'.sum fun _ => Real'.mul (R.rx _) (R.rwq _)) (R.rk _)) Cert.ReferenceIdeal.Value.scale_real

theorem XP_eq (H : Fits I x wq K V wo) (d : Dev Cert.KernelIdeal.nD) (b : Fin 2) (r : Fin 512) (c : Fin 768) :
    XP I d b.val (keptAt r.val) c.val = x (ix3 b r c) := by
  unfold XP
  rw [H.hx, perm_keptAt _ r.isLt]
  refine congrArg x ?_
  funext a
  match a with
  | 0 => exact Fin.ext (Nat.mod_eq_of_lt b.isLt)
  | 1 => exact Fin.ext (Nat.mod_eq_of_lt r.isLt)
  | 2 => exact Fin.ext (Nat.mod_eq_of_lt c.isLt)

theorem KP_eq (H : Fits I x wq K V wo) (d : Dev Cert.KernelIdeal.nD) (b : Fin 2) (r : Fin 512) (u : Fin 128) (h : Fin 8) (z : Fin 64) :
    KP I d b.val (128 * (keptAt r.val / 128) + u.val) (64 * h.val + z.val) = K (ix4 b (key ⟨r.val / 64 % 4, Nat.mod_lt _ (by decide)⟩ (d, u)) h z) := by
  unfold KP
  rw [perm_row _ _ r.isLt u.isLt]
  exact H.hk d b ⟨64 * (r.val / 64 % 4 + 4 * (u.val / 64)) + u.val % 64, by omega⟩ h z _ rfl

theorem VP_eq (H : Fits I x wq K V wo) (d : Dev Cert.KernelIdeal.nD) (b : Fin 2) (r : Fin 512) (u : Fin 128) (h : Fin 8) (z : Fin 64) :
    VP I d b.val (128 * (keptAt r.val / 128) + u.val) (64 * h.val + z.val) = V (ix4 b (key ⟨r.val / 64 % 4, Nat.mod_lt _ (by decide)⟩ (d, u)) h z) := by
  unfold VP
  rw [perm_row _ _ r.isLt u.isLt]
  exact H.hv d b ⟨64 * (r.val / 64 % 4 + 4 * (u.val / 64)) + u.val % 64, by omega⟩ h z _ rfl

theorem sc_eq (H : Fits I x wq K V wo) (d : Dev Cert.KernelIdeal.nD) (b : Fin 2) (r : Fin 512) (u : Fin 128) (h : Fin 8) :
    sc I d b.val (keptAt r.val) h.val u.val = score x wq K b h r (key ⟨r.val / 64 % 4, Nat.mod_lt _ (by decide)⟩ (d, u)) := by
  unfold sc score scale qv
  refine congrArg (· * _) (Finset.sum_congr rfl fun z _ => congrArg₂ (· * ·) (Finset.sum_congr rfl fun c _ =>
    congrArg₂ (· * ·) (XP_eq H d b r c) ?_) (KP_eq H d b r u h z))
  rw [H.hwq]
  refine congrArg wq ?_
  funext a
  match a with
  | 0 => exact Fin.ext (Nat.mod_eq_of_lt c.isLt)
  | 1 => exact Fin.ext (Nat.mod_eq_of_lt (show 64 * h.val + z.val < 512 by omega))

/-- The shares of all the devices: the weighted values, and the weights, of the keys a row sees. -/
theorem all_value (H : Fits I x wq K V wo) (b : Fin 2) (r : Fin 512) (h : Fin 8) (z : Fin 64) :
    all I b.val (keptAt r.val) (64 * h.val + z.val)
      = ∑ j : Fin 16384 with j.val / 64 % 4 = r.val / 64 % 4, Ideal.exp (score x wq K b h r j) * V (ix4 b j h z) := by
  unfold all
  refine Eq.trans (Finset.sum_congr rfl fun d _ => ?_) (sum_keys ⟨r.val / 64 % 4, Nat.mod_lt _ (by decide)⟩
    fun j => Ideal.exp (score x wq K b h r j) * V (ix4 b j h z))
  rw [OA_value I d b.val (keptAt r.val) _ (keptAt_lt _ r.isLt) (by omega)]
  refine Finset.sum_congr rfl fun u _ => ?_
  rw [VP_eq H, show (64 * h.val + z.val) / 64 = h.val by omega, sc_eq H]

theorem all_sum (H : Fits I x wq K V wo) (b : Fin 2) (r : Fin 512) (h : Fin 8) :
    all I b.val (keptAt r.val) (512 + h.val)
      = ∑ j : Fin 16384 with j.val / 64 % 4 = r.val / 64 % 4, Ideal.exp (score x wq K b h r j) := by
  unfold all
  refine Eq.trans (Finset.sum_congr rfl fun d _ => ?_) (sum_keys ⟨r.val / 64 % 4, Nat.mod_lt _ (by decide)⟩
    fun j => Ideal.exp (score x wq K b h r j))
  rw [OA_sum I d b.val (keptAt r.val) _ (keptAt_lt _ r.isLt) h.isLt]
  exact Finset.sum_congr rfl fun u _ => by rw [sc_eq H]

/-- A row of the attention, normalised after the sums and before them. -/
theorem context (H : Fits I x wq K V wo) (R : Reals x wq K) (b : Fin 2) (r : Fin 512) (h : Fin 8) (z : Fin 64) :
    FIN I b.val (keptAt r.val) (64 * h.val + z.val) = ∑ u : Fin 16384, V (ix4 b u h z) * wt x wq K (ix4 b h r u) := by
  rw [FIN_eq, show (64 * h.val + z.val) / 64 = h.val by omega, all_value H, all_sum H]
  choose S hS using fun k => score_real R b h r k
  have hm : ∀ k, sm x wq K (ix4 b h r k)
      = Cert.Softmax.masked (fun j : Fin 16384 => j.val / 64 % 4 = r.val / 64 % 4) (fun j => (S j : EReal)) k := by
    intro k
    rw [Cert.ReferenceIdeal.Value.sm_apply, hS]
    rfl
  have row := Cert.Softmax.row (P := fun j : Fin 16384 => j.val / 64 % 4 = r.val / 64 % 4) S (fun u => V (ix4 b u h z))
    ⟨⟨r.val, by omega⟩, rfl⟩ _ rfl
  simp only [hS]
  refine row.symm.trans (Finset.sum_congr rfl fun u _ => congrArg (V (ix4 b u h z) * ·) ?_)
  have hx : ∀ k, ex x wq K (ix4 b h r k) = Ideal.exp (Cert.Softmax.masked (fun j : Fin 16384 => j.val / 64 % 4 = r.val / 64 % 4)
      (fun j => (S j : EReal)) k - Finset.univ.fold max ⊥ (Cert.Softmax.masked (fun j : Fin 16384 => j.val / 64 % 4 = r.val / 64 % 4)
      fun j => (S j : EReal))) := by
    intro k
    rw [Cert.ReferenceIdeal.Value.ex_apply, Cert.ReferenceIdeal.Value.mx_apply, hm, funext hm]
  unfold wt
  rw [Cert.ReferenceIdeal.Value.wtOf_apply _ Cert.ReferenceIdeal.Value.seen_eq, hx, Finset.sum_congr rfl fun k _ => hx k]

/-- The kernel's result is the reference's. -/
theorem result (H : Fits I x wq K V wo) (R : Reals x wq K) (d : Dev Cert.KernelIdeal.nD) (b : Fin 2) (r : Fin 512) (c : Fin 768) :
    OUT I d b.val r.val c.val = res x wq K V wo (ix3 b r c) := by
  rw [OUT_eq I d b.val r.val c.val r.isLt c.isLt, Cert.ReferenceIdeal.Value.res_apply]
  refine Finset.sum_congr rfl fun k _ => ?_
  rw [← context H R b r ⟨k.val / 64, by omega⟩ ⟨k.val % 64, by omega⟩, H.hwo]
  have e : 64 * (k.val / 64) + k.val % 64 = k.val := by omega
  show FIN I b.val (keptAt r.val) k.val * _ = FIN I b.val (keptAt r.val) (64 * (k.val / 64) + k.val % 64) * _
  rw [e]

end Cert.Equal
-- ==== Proof.V.Finite.lean ====
/-
  What the precondition says: the tokens, the query weights and the keys are real numbers.
-/
module

public import proofs.«01_k».proof.Proof.Gen.Pre_finite_KernelIdeal
public import proofs.«01_k».proof.Proof.V.Equal
public import Idealize.ShloMosaic.Lib.ReduceAll

@[expose] public section

noncomputable section

namespace Cert.Pre_finite_KernelIdeal

open Cert.Equal (Real')
open Idealize.ShloMosaic

instance : Subsingleton S_.Idx := ⟨fun a b => funext fun i => i.elim0⟩

theorem ofBits_inf : Ideal.ofBits .f32 0x7F800000#32 = ⊤ := by
  show Ideal.ieee 8 23 (0x7F800000#32) = ⊤
  unfold Ideal.ieee
  dsimp only
  rw [if_pos (by decide), if_pos (by decide), if_neg (by decide)]

/-- A value whose absolute value is below plus infinity is a real number. -/
theorem real_of_abs (a : EReal) (h : BitVec.ofBool (decide (max a (-a) < Ideal.ofBits .f32 0x7F800000#32)) = 1#1) : Real' a := by
  rw [ofBits_inf] at h
  have lt : max a (-a) < ⊤ := by
    by_contra n
    rw [decide_eq_false n] at h
    exact absurd h (by decide)
  have h1 : a ≠ ⊤ := fun e => absurd lt (by rw [e]; simp)
  have h2 : a ≠ ⊥ := fun e => absurd lt (by rw [e]; simp)
  exact ⟨a.toReal, (EReal.coe_toReal h1 h2).symm⟩

theorem reals (a0 : FVec Ideal S2x512x768 .bf16) (a1 : FVec Ideal S768x512 .bf16) (a2 a3 : FVec Ideal S2x512x8x64 .bf16)
    (a4 : FVec Ideal S512x768 .bf16) (h : fn (F := Ideal) a0 a1 a2 a3 a4 = fun _ => 1#1) :
    (∀ j, Real' (a0 j)) ∧ (∀ j, Real' (a1 j)) ∧ ∀ j, Real' (a2 j) := by
  have e := congrFun h ix0
  unfold fn at e
  obtain ⟨e01, e2⟩ := IntOp.andi_eq_one.mp e
  obtain ⟨e0, e1⟩ := IntOp.andi_eq_one.mp e01
  refine ⟨fun j => ?_, fun j => ?_, fun j => ?_⟩
  · have q := Host.reduce_andi_all _ _ _ _ _ e0 j
    pointwise at q
    exact real_of_abs _ q
  · have q := Host.reduce_andi_all _ _ _ _ _ e1 j
    pointwise at q
    exact real_of_abs _ q
  · have q := Host.reduce_andi_all _ _ _ _ _ e2 j
    pointwise at q
    exact real_of_abs _ q

end Cert.Pre_finite_KernelIdeal
-- ==== Proof.V.Args.lean ====
/-
  The kernel's inputs, of the arrays the reference is given: the reshaped keys and values are the devices' blocks.
-/
module

public import proofs.«01_k».proof.Proof.K.Run
public import proofs.«01_k».proof.Proof.V.Finite
public import Idealize.ShloMosaic.Lib.Layout

@[expose] public section

noncomputable section

namespace Cert.Equal

open Idealize.ShloMosaic Idealize.ShloMosaic.TcCoe
open Cert.KernelIdeal Cert.KernelIdeal.Gen Cert.KernelIdeal.Talk

variable (m : (ℓ : Loc nD τ sig) → Buf (Elt Ideal) ℓ)

theorem V_v1 (c : Dev nD) : V m c main_v1 = shapeCast S2x512x512 (m ((c : Thread nD τ).loc main_arg2)) shapeCasts_S2x512x8x64_S2x512x512 := by
  show StableHlo.after hostOps0 (fun b => m (c, b)) (Proc.devRef .tc main_v1) = _
  after_results_simp
  rfl

theorem V_v2 (c : Dev nD) : V m c main_v2 = shapeCast S2x512x512 (m ((c : Thread nD τ).loc main_arg3)) shapeCasts_S2x512x8x64_S2x512x512 := by
  show StableHlo.after hostOps0 (fun b => m (c, b)) (Proc.devRef .tc main_v2) = _
  after_results_simp
  rfl

/-- A reshaped block, read at an element. -/
theorem block_at (c : Dev nD) (W : S2x512x8x64.Idx → EReal) (K : Cert.ReferenceIdeal.S2x16384x8x64.Idx → EReal)
    (h : W = Layout.block ⟨4, ![2, 512, 8, 64]⟩ ⟨4, ![2, 16384, 8, 64]⟩ 1 32 c K)
    (b : Fin 2) (p : Fin 512) (g : Fin 8) (z : Fin 64) (j : Fin 16384) (hj : j.val = 512 * c.val + p.val) :
    shapeCast S2x512x512 W shapeCasts_S2x512x8x64_S2x512x512 (mk3 2 512 512 b.val p.val (64 * g.val + z.val)) = K (ix4 b j g z) := by
  rw [shapeCast_apply _ _ _ (ix4 b p g z) (by
    rw [Shape.rowMajor_val_three, Shape.rowMajor_val_four]
    show ((b.val * 512 + p.val) * 8 + g.val) * 64 + z.val = ((b.val % 2) * 512 + (p.val % 512)) * 512 + (64 * g.val + z.val) % 512
    rw [Nat.mod_eq_of_lt b.isLt, Nat.mod_eq_of_lt p.isLt, Nat.mod_eq_of_lt (show 64 * g.val + z.val < 512 by omega)]
    omega), h, Layout.block_apply]
  refine congrArg K ?_
  funext a
  match a with
  | 0 => rfl
  | 1 => exact Fin.ext (show c.val * 512 + p.val = j.val by omega)
  | 2 => rfl
  | 3 => rfl

/-- Real blocks are the blocks of a real array. -/
theorem keys_real (W : Dev nD → S2x512x8x64.Idx → EReal) (K : Cert.ReferenceIdeal.S2x16384x8x64.Idx → EReal)
    (h : ∀ c : Dev nD, W c = Layout.block ⟨4, ![2, 512, 8, 64]⟩ ⟨4, ![2, 16384, 8, 64]⟩ 1 32 c K) (hr : ∀ c j, Real' (W c j)) (j) : Real' (K j) := by
  have h1 : (j 1).val < 16384 := (j 1).isLt
  have q := hr ⟨(j 1).val / 512, by show (j 1).val / 512 < 32; omega⟩
    (ix4 (j 0) (⟨(j 1).val % 512, Nat.mod_lt _ (by decide)⟩ : Fin 512) (j 2) (j 3))
  rw [h, Layout.block_apply] at q
  refine (congrArg (fun i => Real' (K i)) ?_).mp q
  funext a
  match a with
  | 0 => rfl
  | 1 => exact Fin.ext (show (j 1).val / 512 * 512 + (j 1).val % 512 = (j 1).val by omega)
  | 2 => rfl
  | 3 => rfl

theorem fits (x wq K V' wo)
    (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![2, 512, 8, 64]⟩ ⟨4, ![2, 16384, 8, 64]⟩ 1 32 c K)
    (h3 : ∀ c : Dev nD, m ((c.tc : Thread nD τ).loc main_arg3) = Layout.block ⟨4, ![2, 512, 8, 64]⟩ ⟨4, ![2, 16384, 8, 64]⟩ 1 32 c V')
    (h4 : ∀ c : Dev nD, m ((c.tc : Thread nD τ).loc main_arg4) = wo) : Fits (insOf m) x wq K V' wo where
  hx c := (V_main_arg0 m c).trans (h0 c)
  hwq c := (V_main_arg1 m c).trans (h1 c)
  hk c b p g z j hj := (congrFun (V_v1 m c) _).trans (block_at c _ K (h2 c) b p g z j hj)
  hv c b p g z j hj := (congrFun (V_v2 m c) _).trans (block_at c _ V' (h3 c) b p g z j hj)
  hwo c := (V_main_arg4 m c).trans (h4 c)

/-- The kernel's result on every device is the reference's. -/
theorem outOf_eq (x wq K V' wo) (H : Fits (insOf m) x wq K V' wo) (R : Reals x wq K) (c : Dev nD) :
    outOf m c = Cert.ReferenceIdeal.Value.res x wq K V' wo := by
  funext i
  refine (result H R c (i 0) (i 1) (i 2)).trans (congrArg _ ?_)
  funext a
  match a with
  | 0 => rfl
  | 1 => rfl
  | 2 => rfl

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.K.Run
public import proofs.«01_k».proof.Proof.V.Args
public import Idealize.ShloMosaic.Adequacy
public import Idealize.ShloMosaic.Init

@[expose] public section

noncomputable section

namespace Cert.Proof

open Idealize.ShloMosaic Idealize.SL.Sem Cert.Kernel

/-- The two body tables are one: the kernel as traced and its idealization have the same text. -/
theorem defs₀_same : @Cert.Kernel.defs₀ Bits _ _ = @Cert.KernelIdeal.defs₀ Bits _ _ := by
  unfold Cert.Kernel.defs₀ Cert.KernelIdeal.defs₀
  congr 1
  funext p x
  match p, x with
  | 0, (_, _) => rfl

theorem defs_same : @Cert.Kernel.defs Bits _ _ = @Cert.KernelIdeal.defs Bits _ _ :=
  congrArg (Pipeline.defs (Cert.KernelIdeal.pcfgs (F := Bits))) defs₀_same

/-- The kernel as traced: its run at the bit-exact floats, read at the arguments and at the counters. -/
theorem frame_kernel : Cert.quiescent_Kernel := fun m ρ _ => by
  rw [defs_same]
  exact Cert.KernelIdeal.Talk.run_kept (F := Bits) m ρ

/-- The same text over the extended reals. -/
theorem frame_kernelIdeal : Cert.quiescent_KernelIdeal := fun m ρ _ => Cert.KernelIdeal.Talk.run_kept (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result, on every device, is the reference's. -/
theorem same_result : Cert.algebraic_KernelIdeal_ReferenceIdeal_pre_finite_KernelIdeal := by
  intro m g m' g' hp ha
  have hf : ∀ c, _ := fun c => Cert.Pre_finite_KernelIdeal.reals _ _ _ _ _ (hp c)
  have H := Cert.Equal.fits m _ _ _ _ _ (fun c => (ha c).1) (fun c => (ha c).2.1) (fun c => (ha c).2.2.1) (fun c => (ha c).2.2.2.1)
    (fun c => (ha c).2.2.2.2)
  have R : Cert.Equal.Reals (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    refine ⟨fun j => ?_, fun j => ?_, Cert.Equal.keys_real _ _ (fun c => (ha c).2.2.1) fun c => (hf c).2.2⟩
    · have q := (hf 0).1 j
      rw [(ha 0).1] at q
      exact q
    · have q := (hf 0).2.1 j
      rw [(ha 0).2.1] at q
      exact q
  refine ⟨Cert.ReferenceIdeal.Value.res_main_v44 m' 0, ?_, ?_⟩
  · refine (θ_run Cert.KernelIdeal.defs _ _).mono (fun r h c => ⟨?_, (h.1 c).2⟩) (Cert.KernelIdeal.Talk.run_main (F := Ideal) m g)
    exact (h.1 c).1.trans ((Cert.Equal.outOf_eq m _ _ _ _ _ H R c).trans (Cert.ReferenceIdeal.Value.res_eq m' 0).symm)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, fun m ρ _ => frame_kernelIdeal m ρ trivial, frame_reference, fun m ρ _ => frame_reference m ρ trivial,
  trivial, same_result⟩

end Cert.Proof

end
